-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_RefFfn1Ideal (m : (ℓ : Loc Cert.RefFfn1Ideal.nD Cert.RefFfn1Ideal.τ Cert.RefFfn1Ideal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_RefFfn2Ideal (m : (ℓ : Loc Cert.RefFfn2Ideal.nD Cert.RefFfn2Ideal.τ Cert.RefFfn2Ideal.sig) → Buf (Elt Ideal) ℓ) : Prop :=
  True

def Pre_Ffn3 (m : (ℓ : Loc Cert.Ffn3.nD Cert.Ffn3.τ Cert.Ffn3.sig) → Buf (Elt Bits) ℓ) : Prop :=
  True

def Pre_Ffn3Ideal (m : (ℓ : Loc Cert.Ffn3Ideal.nD Cert.Ffn3Ideal.τ Cert.Ffn3Ideal.sig) → Buf (Elt Ideal) ℓ) : Prop :=
  True

def Pre_RefFfn3Ideal (m : (ℓ : Loc Cert.RefFfn3Ideal.nD Cert.RefFfn3Ideal.τ Cert.RefFfn3Ideal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def Pre_Cin (m : (ℓ : Loc Cert.Cin.nD Cert.Cin.τ Cert.Cin.sig) → Buf (Elt Bits) ℓ) : Prop :=
  True

def Pre_CinIdeal (m : (ℓ : Loc Cert.CinIdeal.nD Cert.CinIdeal.τ Cert.CinIdeal.sig) → Buf (Elt Ideal) ℓ) : Prop :=
  True

def Pre_RefCinIdeal (m : (ℓ : Loc Cert.RefCinIdeal.nD Cert.RefCinIdeal.τ Cert.RefCinIdeal.sig) → Buf (Elt Ideal) ℓ) : Prop :=
  True

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RefRkvIdeal (m : (ℓ : Loc Cert.RefRkvIdeal.nD Cert.RefRkvIdeal.τ Cert.RefRkvIdeal.sig) → Buf (Elt Ideal) ℓ) : Prop :=
  True

def Pre_Rkv1 (m : (ℓ : Loc Cert.Rkv1.nD Cert.Rkv1.τ Cert.Rkv1.sig) → Buf (Elt Bits) ℓ) : Prop :=
  True

def Pre_Rkv1Ideal (m : (ℓ : Loc Cert.Rkv1Ideal.nD Cert.Rkv1Ideal.τ Cert.Rkv1Ideal.sig) → Buf (Elt Ideal) ℓ) : Prop :=
  True

def Pre_RefRkv1Ideal (m : (ℓ : Loc Cert.RefRkv1Ideal.nD Cert.RefRkv1Ideal.τ Cert.RefRkv1Ideal.sig) → Buf (Elt Ideal) ℓ) : Prop :=
  True

def Pre_NormP (m : (ℓ : Loc Cert.NormP.nD Cert.NormP.τ Cert.NormP.sig) → Buf (Elt Bits) ℓ) : Prop :=
  True

def Pre_NormPIdeal (m : (ℓ : Loc Cert.NormPIdeal.nD Cert.NormPIdeal.τ Cert.NormPIdeal.sig) → Buf (Elt Ideal) ℓ) : Prop :=
  True

def Pre_RefNormPIdeal (m : (ℓ : Loc Cert.RefNormPIdeal.nD Cert.RefNormPIdeal.τ Cert.RefNormPIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_RefNormSIdeal (m : (ℓ : Loc Cert.RefNormSIdeal.nD Cert.RefNormSIdeal.τ Cert.RefNormSIdeal.sig) → Buf (Elt Ideal) ℓ) : Prop :=
  True

def Pre_Mls (m : (ℓ : Loc Cert.Mls.nD Cert.Mls.τ Cert.Mls.sig) → Buf (Elt Bits) ℓ) : Prop :=
  True

def Pre_MlsIdeal (m : (ℓ : Loc Cert.MlsIdeal.nD Cert.MlsIdeal.τ Cert.MlsIdeal.sig) → Buf (Elt Ideal) ℓ) : Prop :=
  True

def Pre_RefMlsIdeal (m : (ℓ : Loc Cert.RefMlsIdeal.nD Cert.RefMlsIdeal.τ Cert.RefMlsIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_RefShiftIdeal (m : (ℓ : Loc Cert.RefShiftIdeal.nD Cert.RefShiftIdeal.τ Cert.RefShiftIdeal.sig) → Buf (Elt Ideal) ℓ) : Prop :=
  True

def Pre_Shift1 (m : (ℓ : Loc Cert.Shift1.nD Cert.Shift1.τ Cert.Shift1.sig) → Buf (Elt Bits) ℓ) : Prop :=
  True

def Pre_Shift1Ideal (m : (ℓ : Loc Cert.Shift1Ideal.nD Cert.Shift1Ideal.τ Cert.Shift1Ideal.sig) → Buf (Elt Ideal) ℓ) : Prop :=
  True

def Pre_RefShift1Ideal (m : (ℓ : Loc Cert.RefShift1Ideal.nD Cert.RefShift1Ideal.τ Cert.RefShift1Ideal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3))
      ∧ r.2.sem = fun _ => 0)

def quiescent_RefFfn1Ideal [hRefFfn1Ideal : Cert.RefFfn1Ideal.Facts] : Prop :=
  ∀ (m : (ℓ : Loc Cert.RefFfn1Ideal.nD Cert.RefFfn1Ideal.τ Cert.RefFfn1Ideal.sig) → Buf (Elt Ideal) ℓ) (g : Dev Cert.RefFfn1Ideal.nD → PrngReg), Pre_RefFfn1Ideal m →
    θ_run (Cert.RefFfn1Ideal.defs (F := Ideal)) (onTc (τ := Cert.RefFfn1Ideal.τ) (Cert.RefFfn1Ideal.main (F := Ideal))) ⟨m, fun _ => 0, g⟩ (fun r => (∀ c : Dev Cert.RefFfn1Ideal.nD,
      r.2.mem ((c.tc : Thread Cert.RefFfn1Ideal.nD Cert.RefFfn1Ideal.τ).loc Cert.RefFfn1Ideal.main_arg0) = m ((c.tc : Thread Cert.RefFfn1Ideal.nD Cert.RefFfn1Ideal.τ).loc Cert.RefFfn1Ideal.main_arg0)
      ∧ r.2.mem ((c.tc : Thread Cert.RefFfn1Ideal.nD Cert.RefFfn1Ideal.τ).loc Cert.RefFfn1Ideal.main_arg1) = m ((c.tc : Thread Cert.RefFfn1Ideal.nD Cert.RefFfn1Ideal.τ).loc Cert.RefFfn1Ideal.main_arg1)
      ∧ r.2.mem ((c.tc : Thread Cert.RefFfn1Ideal.nD Cert.RefFfn1Ideal.τ).loc Cert.RefFfn1Ideal.main_arg2) = m ((c.tc : Thread Cert.RefFfn1Ideal.nD Cert.RefFfn1Ideal.τ).loc Cert.RefFfn1Ideal.main_arg2)
      ∧ r.2.mem ((c.tc : Thread Cert.RefFfn1Ideal.nD Cert.RefFfn1Ideal.τ).loc Cert.RefFfn1Ideal.main_arg3) = m ((c.tc : Thread Cert.RefFfn1Ideal.nD Cert.RefFfn1Ideal.τ).loc Cert.RefFfn1Ideal.main_arg3))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ r.2.sem = fun _ => 0)

def quiescent_RefFfn2Ideal [hRefFfn2Ideal : Cert.RefFfn2Ideal.Facts] : Prop :=
  ∀ (m : (ℓ : Loc Cert.RefFfn2Ideal.nD Cert.RefFfn2Ideal.τ Cert.RefFfn2Ideal.sig) → Buf (Elt Ideal) ℓ) (g : Dev Cert.RefFfn2Ideal.nD → PrngReg), Pre_RefFfn2Ideal m →
    θ_run (Cert.RefFfn2Ideal.defs (F := Ideal)) (onTc (τ := Cert.RefFfn2Ideal.τ) (Cert.RefFfn2Ideal.main (F := Ideal))) ⟨m, fun _ => 0, g⟩ (fun r => (∀ c : Dev Cert.RefFfn2Ideal.nD,
      r.2.mem ((c.tc : Thread Cert.RefFfn2Ideal.nD Cert.RefFfn2Ideal.τ).loc Cert.RefFfn2Ideal.main_arg0) = m ((c.tc : Thread Cert.RefFfn2Ideal.nD Cert.RefFfn2Ideal.τ).loc Cert.RefFfn2Ideal.main_arg0)
      ∧ r.2.mem ((c.tc : Thread Cert.RefFfn2Ideal.nD Cert.RefFfn2Ideal.τ).loc Cert.RefFfn2Ideal.main_arg1) = m ((c.tc : Thread Cert.RefFfn2Ideal.nD Cert.RefFfn2Ideal.τ).loc Cert.RefFfn2Ideal.main_arg1)
      ∧ r.2.mem ((c.tc : Thread Cert.RefFfn2Ideal.nD Cert.RefFfn2Ideal.τ).loc Cert.RefFfn2Ideal.main_arg2) = m ((c.tc : Thread Cert.RefFfn2Ideal.nD Cert.RefFfn2Ideal.τ).loc Cert.RefFfn2Ideal.main_arg2)
      ∧ r.2.mem ((c.tc : Thread Cert.RefFfn2Ideal.nD Cert.RefFfn2Ideal.τ).loc Cert.RefFfn2Ideal.main_arg3) = m ((c.tc : Thread Cert.RefFfn2Ideal.nD Cert.RefFfn2Ideal.τ).loc Cert.RefFfn2Ideal.main_arg3))
      ∧ r.2.sem = fun _ => 0)

def quiescent_Ffn3 [hFfn3 : Cert.Ffn3.Facts] : Prop :=
  ∀ (m : (ℓ : Loc Cert.Ffn3.nD Cert.Ffn3.τ Cert.Ffn3.sig) → Buf (Elt Bits) ℓ) (g : Dev Cert.Ffn3.nD → PrngReg), Pre_Ffn3 m →
    θ_run (Cert.Ffn3.defs (F := Bits)) (onTc (τ := Cert.Ffn3.τ) (Cert.Ffn3.main (F := Bits))) ⟨m, fun _ => 0, g⟩ (fun r => (∀ c : Dev Cert.Ffn3.nD,
      r.2.mem ((c.tc : Thread Cert.Ffn3.nD Cert.Ffn3.τ).loc Cert.Ffn3.main_arg0) = m ((c.tc : Thread Cert.Ffn3.nD Cert.Ffn3.τ).loc Cert.Ffn3.main_arg0)
      ∧ r.2.mem ((c.tc : Thread Cert.Ffn3.nD Cert.Ffn3.τ).loc Cert.Ffn3.main_arg1) = m ((c.tc : Thread Cert.Ffn3.nD Cert.Ffn3.τ).loc Cert.Ffn3.main_arg1)
      ∧ r.2.mem ((c.tc : Thread Cert.Ffn3.nD Cert.Ffn3.τ).loc Cert.Ffn3.main_arg2) = m ((c.tc : Thread Cert.Ffn3.nD Cert.Ffn3.τ).loc Cert.Ffn3.main_arg2)
      ∧ r.2.mem ((c.tc : Thread Cert.Ffn3.nD Cert.Ffn3.τ).loc Cert.Ffn3.main_arg3) = m ((c.tc : Thread Cert.Ffn3.nD Cert.Ffn3.τ).loc Cert.Ffn3.main_arg3))
      ∧ r.2.sem = fun _ => 0)

def quiescent_Ffn3Ideal [hFfn3Ideal : Cert.Ffn3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg), Pre_Ffn3Ideal m →
    θ_run (Cert.Ffn3Ideal.defs (F := Ideal)) (onTc (τ := Cert.Ffn3Ideal.τ) (Cert.Ffn3Ideal.main (F := Ideal))) ⟨m, fun _ => 0, g⟩ (fun r => (∀ c : Dev Cert.Ffn3Ideal.nD,
      r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
      ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
      ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
      ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3))
      ∧ r.2.sem = fun _ => 0)

def quiescent_RefFfn3Ideal [hRefFfn3Ideal : Cert.RefFfn3Ideal.Facts] : Prop :=
  ∀ (m : (ℓ : Loc Cert.RefFfn3Ideal.nD Cert.RefFfn3Ideal.τ Cert.RefFfn3Ideal.sig) → Buf (Elt Ideal) ℓ) (g : Dev Cert.RefFfn3Ideal.nD → PrngReg), Pre_RefFfn3Ideal m →
    θ_run (Cert.RefFfn3Ideal.defs (F := Ideal)) (onTc (τ := Cert.RefFfn3Ideal.τ) (Cert.RefFfn3Ideal.main (F := Ideal))) ⟨m, fun _ => 0, g⟩ (fun r => (∀ c : Dev Cert.RefFfn3Ideal.nD,
      r.2.mem ((c.tc : Thread Cert.RefFfn3Ideal.nD Cert.RefFfn3Ideal.τ).loc Cert.RefFfn3Ideal.main_arg0) = m ((c.tc : Thread Cert.RefFfn3Ideal.nD Cert.RefFfn3Ideal.τ).loc Cert.RefFfn3Ideal.main_arg0)
      ∧ r.2.mem ((c.tc : Thread Cert.RefFfn3Ideal.nD Cert.RefFfn3Ideal.τ).loc Cert.RefFfn3Ideal.main_arg1) = m ((c.tc : Thread Cert.RefFfn3Ideal.nD Cert.RefFfn3Ideal.τ).loc Cert.RefFfn3Ideal.main_arg1)
      ∧ r.2.mem ((c.tc : Thread Cert.RefFfn3Ideal.nD Cert.RefFfn3Ideal.τ).loc Cert.RefFfn3Ideal.main_arg2) = m ((c.tc : Thread Cert.RefFfn3Ideal.nD Cert.RefFfn3Ideal.τ).loc Cert.RefFfn3Ideal.main_arg2)
      ∧ r.2.mem ((c.tc : Thread Cert.RefFfn3Ideal.nD Cert.RefFfn3Ideal.τ).loc Cert.RefFfn3Ideal.main_arg3) = m ((c.tc : Thread Cert.RefFfn3Ideal.nD Cert.RefFfn3Ideal.τ).loc Cert.RefFfn3Ideal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1)
      ∧ r.2.mem ((c.tc : Thread Cert.RefQkvIdeal.nD Cert.RefQkvIdeal.τ).loc Cert.RefQkvIdeal.main_arg2) = m ((c.tc : Thread Cert.RefQkvIdeal.nD Cert.RefQkvIdeal.τ).loc Cert.RefQkvIdeal.main_arg2))
      ∧ r.2.sem = fun _ => 0)

def quiescent_Cin [hCin : Cert.Cin.Facts] : Prop :=
  ∀ (m : (ℓ : Loc Cert.Cin.nD Cert.Cin.τ Cert.Cin.sig) → Buf (Elt Bits) ℓ) (g : Dev Cert.Cin.nD → PrngReg), Pre_Cin m →
    θ_run (Cert.Cin.defs (F := Bits)) (onTc (τ := Cert.Cin.τ) (Cert.Cin.main (F := Bits))) ⟨m, fun _ => 0, g⟩ (fun r => (∀ c : Dev Cert.Cin.nD,
      r.2.mem ((c.tc : Thread Cert.Cin.nD Cert.Cin.τ).loc Cert.Cin.main_arg0) = m ((c.tc : Thread Cert.Cin.nD Cert.Cin.τ).loc Cert.Cin.main_arg0)
      ∧ r.2.mem ((c.tc : Thread Cert.Cin.nD Cert.Cin.τ).loc Cert.Cin.main_arg1) = m ((c.tc : Thread Cert.Cin.nD Cert.Cin.τ).loc Cert.Cin.main_arg1)
      ∧ r.2.mem ((c.tc : Thread Cert.Cin.nD Cert.Cin.τ).loc Cert.Cin.main_arg2) = m ((c.tc : Thread Cert.Cin.nD Cert.Cin.τ).loc Cert.Cin.main_arg2))
      ∧ r.2.sem = fun _ => 0)

def quiescent_CinIdeal [hCinIdeal : Cert.CinIdeal.Facts] : Prop :=
  ∀ (m : (ℓ : Loc Cert.CinIdeal.nD Cert.CinIdeal.τ Cert.CinIdeal.sig) → Buf (Elt Ideal) ℓ) (g : Dev Cert.CinIdeal.nD → PrngReg), Pre_CinIdeal m →
    θ_run (Cert.CinIdeal.defs (F := Ideal)) (onTc (τ := Cert.CinIdeal.τ) (Cert.CinIdeal.main (F := Ideal))) ⟨m, fun _ => 0, g⟩ (fun r => (∀ c : Dev Cert.CinIdeal.nD,
      r.2.mem ((c.tc : Thread Cert.CinIdeal.nD Cert.CinIdeal.τ).loc Cert.CinIdeal.main_arg0) = m ((c.tc : Thread Cert.CinIdeal.nD Cert.CinIdeal.τ).loc Cert.CinIdeal.main_arg0)
      ∧ r.2.mem ((c.tc : Thread Cert.CinIdeal.nD Cert.CinIdeal.τ).loc Cert.CinIdeal.main_arg1) = m ((c.tc : Thread Cert.CinIdeal.nD Cert.CinIdeal.τ).loc Cert.CinIdeal.main_arg1)
      ∧ r.2.mem ((c.tc : Thread Cert.CinIdeal.nD Cert.CinIdeal.τ).loc Cert.CinIdeal.main_arg2) = m ((c.tc : Thread Cert.CinIdeal.nD Cert.CinIdeal.τ).loc Cert.CinIdeal.main_arg2))
      ∧ r.2.sem = fun _ => 0)

def quiescent_RefCinIdeal [hRefCinIdeal : Cert.RefCinIdeal.Facts] : Prop :=
  ∀ (m : (ℓ : Loc Cert.RefCinIdeal.nD Cert.RefCinIdeal.τ Cert.RefCinIdeal.sig) → Buf (Elt Ideal) ℓ) (g : Dev Cert.RefCinIdeal.nD → PrngReg), Pre_RefCinIdeal m →
    θ_run (Cert.RefCinIdeal.defs (F := Ideal)) (onTc (τ := Cert.RefCinIdeal.τ) (Cert.RefCinIdeal.main (F := Ideal))) ⟨m, fun _ => 0, g⟩ (fun r => (∀ c : Dev Cert.RefCinIdeal.nD,
      r.2.mem ((c.tc : Thread Cert.RefCinIdeal.nD Cert.RefCinIdeal.τ).loc Cert.RefCinIdeal.main_arg0) = m ((c.tc : Thread Cert.RefCinIdeal.nD Cert.RefCinIdeal.τ).loc Cert.RefCinIdeal.main_arg0)
      ∧ r.2.mem ((c.tc : Thread Cert.RefCinIdeal.nD Cert.RefCinIdeal.τ).loc Cert.RefCinIdeal.main_arg1) = m ((c.tc : Thread Cert.RefCinIdeal.nD Cert.RefCinIdeal.τ).loc Cert.RefCinIdeal.main_arg1)
      ∧ r.2.mem ((c.tc : Thread Cert.RefCinIdeal.nD Cert.RefCinIdeal.τ).loc Cert.RefCinIdeal.main_arg2) = m ((c.tc : Thread Cert.RefCinIdeal.nD Cert.RefCinIdeal.τ).loc Cert.RefCinIdeal.main_arg2))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1)
      ∧ r.2.mem ((c.tc : Thread Cert.Rkv.nD Cert.Rkv.τ).loc Cert.Rkv.main_arg2) = m ((c.tc : Thread Cert.Rkv.nD Cert.Rkv.τ).loc Cert.Rkv.main_arg2)
      ∧ r.2.mem ((c.tc : Thread Cert.Rkv.nD Cert.Rkv.τ).loc Cert.Rkv.main_arg3) = m ((c.tc : Thread Cert.Rkv.nD Cert.Rkv.τ).loc Cert.Rkv.main_arg3))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1)
      ∧ r.2.mem ((c.tc : Thread Cert.RkvIdeal.nD Cert.RkvIdeal.τ).loc Cert.RkvIdeal.main_arg2) = m ((c.tc : Thread Cert.RkvIdeal.nD Cert.RkvIdeal.τ).loc Cert.RkvIdeal.main_arg2)
      ∧ r.2.mem ((c.tc : Thread Cert.RkvIdeal.nD Cert.RkvIdeal.τ).loc Cert.RkvIdeal.main_arg3) = m ((c.tc : Thread Cert.RkvIdeal.nD Cert.RkvIdeal.τ).loc Cert.RkvIdeal.main_arg3))
      ∧ r.2.sem = fun _ => 0)

def quiescent_RefRkvIdeal [hRefRkvIdeal : Cert.RefRkvIdeal.Facts] : Prop :=
  ∀ (m : (ℓ : Loc Cert.RefRkvIdeal.nD Cert.RefRkvIdeal.τ Cert.RefRkvIdeal.sig) → Buf (Elt Ideal) ℓ) (g : Dev Cert.RefRkvIdeal.nD → PrngReg), Pre_RefRkvIdeal m →
    θ_run (Cert.RefRkvIdeal.defs (F := Ideal)) (onTc (τ := Cert.RefRkvIdeal.τ) (Cert.RefRkvIdeal.main (F := Ideal))) ⟨m, fun _ => 0, g⟩ (fun r => (∀ c : Dev Cert.RefRkvIdeal.nD,
      r.2.mem ((c.tc : Thread Cert.RefRkvIdeal.nD Cert.RefRkvIdeal.τ).loc Cert.RefRkvIdeal.main_arg0) = m ((c.tc : Thread Cert.RefRkvIdeal.nD Cert.RefRkvIdeal.τ).loc Cert.RefRkvIdeal.main_arg0)
      ∧ r.2.mem ((c.tc : Thread Cert.RefRkvIdeal.nD Cert.RefRkvIdeal.τ).loc Cert.RefRkvIdeal.main_arg1) = m ((c.tc : Thread Cert.RefRkvIdeal.nD Cert.RefRkvIdeal.τ).loc Cert.RefRkvIdeal.main_arg1)
      ∧ r.2.mem ((c.tc : Thread Cert.RefRkvIdeal.nD Cert.RefRkvIdeal.τ).loc Cert.RefRkvIdeal.main_arg2) = m ((c.tc : Thread Cert.RefRkvIdeal.nD Cert.RefRkvIdeal.τ).loc Cert.RefRkvIdeal.main_arg2)
      ∧ r.2.mem ((c.tc : Thread Cert.RefRkvIdeal.nD Cert.RefRkvIdeal.τ).loc Cert.RefRkvIdeal.main_arg3) = m ((c.tc : Thread Cert.RefRkvIdeal.nD Cert.RefRkvIdeal.τ).loc Cert.RefRkvIdeal.main_arg3))
      ∧ r.2.sem = fun _ => 0)

def quiescent_Rkv1 [hRkv1 : Cert.Rkv1.Facts] : Prop :=
  ∀ (m : (ℓ : Loc Cert.Rkv1.nD Cert.Rkv1.τ Cert.Rkv1.sig) → Buf (Elt Bits) ℓ) (g : Dev Cert.Rkv1.nD → PrngReg), Pre_Rkv1 m →
    θ_run (Cert.Rkv1.defs (F := Bits)) (onTc (τ := Cert.Rkv1.τ) (Cert.Rkv1.main (F := Bits))) ⟨m, fun _ => 0, g⟩ (fun r => (∀ c : Dev Cert.Rkv1.nD,
      r.2.mem ((c.tc : Thread Cert.Rkv1.nD Cert.Rkv1.τ).loc Cert.Rkv1.main_arg0) = m ((c.tc : Thread Cert.Rkv1.nD Cert.Rkv1.τ).loc Cert.Rkv1.main_arg0)
      ∧ r.2.mem ((c.tc : Thread Cert.Rkv1.nD Cert.Rkv1.τ).loc Cert.Rkv1.main_arg1) = m ((c.tc : Thread Cert.Rkv1.nD Cert.Rkv1.τ).loc Cert.Rkv1.main_arg1)
      ∧ r.2.mem ((c.tc : Thread Cert.Rkv1.nD Cert.Rkv1.τ).loc Cert.Rkv1.main_arg2) = m ((c.tc : Thread Cert.Rkv1.nD Cert.Rkv1.τ).loc Cert.Rkv1.main_arg2)
      ∧ r.2.mem ((c.tc : Thread Cert.Rkv1.nD Cert.Rkv1.τ).loc Cert.Rkv1.main_arg3) = m ((c.tc : Thread Cert.Rkv1.nD Cert.Rkv1.τ).loc Cert.Rkv1.main_arg3))
      ∧ r.2.sem = fun _ => 0)

def quiescent_Rkv1Ideal [hRkv1Ideal : Cert.Rkv1Ideal.Facts] : Prop :=
  ∀ (m : (ℓ : Loc Cert.Rkv1Ideal.nD Cert.Rkv1Ideal.τ Cert.Rkv1Ideal.sig) → Buf (Elt Ideal) ℓ) (g : Dev Cert.Rkv1Ideal.nD → PrngReg), Pre_Rkv1Ideal m →
    θ_run (Cert.Rkv1Ideal.defs (F := Ideal)) (onTc (τ := Cert.Rkv1Ideal.τ) (Cert.Rkv1Ideal.main (F := Ideal))) ⟨m, fun _ => 0, g⟩ (fun r => (∀ c : Dev Cert.Rkv1Ideal.nD,
      r.2.mem ((c.tc : Thread Cert.Rkv1Ideal.nD Cert.Rkv1Ideal.τ).loc Cert.Rkv1Ideal.main_arg0) = m ((c.tc : Thread Cert.Rkv1Ideal.nD Cert.Rkv1Ideal.τ).loc Cert.Rkv1Ideal.main_arg0)
      ∧ r.2.mem ((c.tc : Thread Cert.Rkv1Ideal.nD Cert.Rkv1Ideal.τ).loc Cert.Rkv1Ideal.main_arg1) = m ((c.tc : Thread Cert.Rkv1Ideal.nD Cert.Rkv1Ideal.τ).loc Cert.Rkv1Ideal.main_arg1)
      ∧ r.2.mem ((c.tc : Thread Cert.Rkv1Ideal.nD Cert.Rkv1Ideal.τ).loc Cert.Rkv1Ideal.main_arg2) = m ((c.tc : Thread Cert.Rkv1Ideal.nD Cert.Rkv1Ideal.τ).loc Cert.Rkv1Ideal.main_arg2)
      ∧ r.2.mem ((c.tc : Thread Cert.Rkv1Ideal.nD Cert.Rkv1Ideal.τ).loc Cert.Rkv1Ideal.main_arg3) = m ((c.tc : Thread Cert.Rkv1Ideal.nD Cert.Rkv1Ideal.τ).loc Cert.Rkv1Ideal.main_arg3))
      ∧ r.2.sem = fun _ => 0)

def quiescent_RefRkv1Ideal [hRefRkv1Ideal : Cert.RefRkv1Ideal.Facts] : Prop :=
  ∀ (m : (ℓ : Loc Cert.RefRkv1Ideal.nD Cert.RefRkv1Ideal.τ Cert.RefRkv1Ideal.sig) → Buf (Elt Ideal) ℓ) (g : Dev Cert.RefRkv1Ideal.nD → PrngReg), Pre_RefRkv1Ideal m →
    θ_run (Cert.RefRkv1Ideal.defs (F := Ideal)) (onTc (τ := Cert.RefRkv1Ideal.τ) (Cert.RefRkv1Ideal.main (F := Ideal))) ⟨m, fun _ => 0, g⟩ (fun r => (∀ c : Dev Cert.RefRkv1Ideal.nD,
      r.2.mem ((c.tc : Thread Cert.RefRkv1Ideal.nD Cert.RefRkv1Ideal.τ).loc Cert.RefRkv1Ideal.main_arg0) = m ((c.tc : Thread Cert.RefRkv1Ideal.nD Cert.RefRkv1Ideal.τ).loc Cert.RefRkv1Ideal.main_arg0)
      ∧ r.2.mem ((c.tc : Thread Cert.RefRkv1Ideal.nD Cert.RefRkv1Ideal.τ).loc Cert.RefRkv1Ideal.main_arg1) = m ((c.tc : Thread Cert.RefRkv1Ideal.nD Cert.RefRkv1Ideal.τ).loc Cert.RefRkv1Ideal.main_arg1)
      ∧ r.2.mem ((c.tc : Thread Cert.RefRkv1Ideal.nD Cert.RefRkv1Ideal.τ).loc Cert.RefRkv1Ideal.main_arg2) = m ((c.tc : Thread Cert.RefRkv1Ideal.nD Cert.RefRkv1Ideal.τ).loc Cert.RefRkv1Ideal.main_arg2)
      ∧ r.2.mem ((c.tc : Thread Cert.RefRkv1Ideal.nD Cert.RefRkv1Ideal.τ).loc Cert.RefRkv1Ideal.main_arg3) = m ((c.tc : Thread Cert.RefRkv1Ideal.nD Cert.RefRkv1Ideal.τ).loc Cert.RefRkv1Ideal.main_arg3))
      ∧ r.2.sem = fun _ => 0)

def quiescent_NormP [hNormP : Cert.NormP.Facts] : Prop :=
  ∀ (m : (ℓ : Loc Cert.NormP.nD Cert.NormP.τ Cert.NormP.sig) → Buf (Elt Bits) ℓ) (g : Dev Cert.NormP.nD → PrngReg), Pre_NormP m →
    θ_run (Cert.NormP.defs (F := Bits)) (onTc (τ := Cert.NormP.τ) (Cert.NormP.main (F := Bits))) ⟨m, fun _ => 0, g⟩ (fun r => (∀ c : Dev Cert.NormP.nD,
      r.2.mem ((c.tc : Thread Cert.NormP.nD Cert.NormP.τ).loc Cert.NormP.main_arg0) = m ((c.tc : Thread Cert.NormP.nD Cert.NormP.τ).loc Cert.NormP.main_arg0)
      ∧ r.2.mem ((c.tc : Thread Cert.NormP.nD Cert.NormP.τ).loc Cert.NormP.main_arg1) = m ((c.tc : Thread Cert.NormP.nD Cert.NormP.τ).loc Cert.NormP.main_arg1))
      ∧ r.2.sem = fun _ => 0)

def quiescent_NormPIdeal [hNormPIdeal : Cert.NormPIdeal.Facts] : Prop :=
  ∀ (m : (ℓ : Loc Cert.NormPIdeal.nD Cert.NormPIdeal.τ Cert.NormPIdeal.sig) → Buf (Elt Ideal) ℓ) (g : Dev Cert.NormPIdeal.nD → PrngReg), Pre_NormPIdeal m →
    θ_run (Cert.NormPIdeal.defs (F := Ideal)) (onTc (τ := Cert.NormPIdeal.τ) (Cert.NormPIdeal.main (F := Ideal))) ⟨m, fun _ => 0, g⟩ (fun r => (∀ c : Dev Cert.NormPIdeal.nD,
      r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
      ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ r.2.sem = fun _ => 0)

def quiescent_RefNormPIdeal [hRefNormPIdeal : Cert.RefNormPIdeal.Facts] : Prop :=
  ∀ (m : (ℓ : Loc Cert.RefNormPIdeal.nD Cert.RefNormPIdeal.τ Cert.RefNormPIdeal.sig) → Buf (Elt Ideal) ℓ) (g : Dev Cert.RefNormPIdeal.nD → PrngReg), Pre_RefNormPIdeal m →
    θ_run (Cert.RefNormPIdeal.defs (F := Ideal)) (onTc (τ := Cert.RefNormPIdeal.τ) (Cert.RefNormPIdeal.main (F := Ideal))) ⟨m, fun _ => 0, g⟩ (fun r => (∀ c : Dev Cert.RefNormPIdeal.nD,
      r.2.mem ((c.tc : Thread Cert.RefNormPIdeal.nD Cert.RefNormPIdeal.τ).loc Cert.RefNormPIdeal.main_arg0) = m ((c.tc : Thread Cert.RefNormPIdeal.nD Cert.RefNormPIdeal.τ).loc Cert.RefNormPIdeal.main_arg0)
      ∧ r.2.mem ((c.tc : Thread Cert.RefNormPIdeal.nD Cert.RefNormPIdeal.τ).loc Cert.RefNormPIdeal.main_arg1) = m ((c.tc : Thread Cert.RefNormPIdeal.nD Cert.RefNormPIdeal.τ).loc Cert.RefNormPIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_RefNormSIdeal [hRefNormSIdeal : Cert.RefNormSIdeal.Facts] : Prop :=
  ∀ (m : (ℓ : Loc Cert.RefNormSIdeal.nD Cert.RefNormSIdeal.τ Cert.RefNormSIdeal.sig) → Buf (Elt Ideal) ℓ) (g : Dev Cert.RefNormSIdeal.nD → PrngReg), Pre_RefNormSIdeal m →
    θ_run (Cert.RefNormSIdeal.defs (F := Ideal)) (onTc (τ := Cert.RefNormSIdeal.τ) (Cert.RefNormSIdeal.main (F := Ideal))) ⟨m, fun _ => 0, g⟩ (fun r => (∀ c : Dev Cert.RefNormSIdeal.nD,
      r.2.mem ((c.tc : Thread Cert.RefNormSIdeal.nD Cert.RefNormSIdeal.τ).loc Cert.RefNormSIdeal.main_arg0) = m ((c.tc : Thread Cert.RefNormSIdeal.nD Cert.RefNormSIdeal.τ).loc Cert.RefNormSIdeal.main_arg0)
      ∧ r.2.mem ((c.tc : Thread Cert.RefNormSIdeal.nD Cert.RefNormSIdeal.τ).loc Cert.RefNormSIdeal.main_arg1) = m ((c.tc : Thread Cert.RefNormSIdeal.nD Cert.RefNormSIdeal.τ).loc Cert.RefNormSIdeal.main_arg1))
      ∧ r.2.sem = fun _ => 0)

def quiescent_Mls [hMls : Cert.Mls.Facts] : Prop :=
  ∀ (m : (ℓ : Loc Cert.Mls.nD Cert.Mls.τ Cert.Mls.sig) → Buf (Elt Bits) ℓ) (g : Dev Cert.Mls.nD → PrngReg), Pre_Mls m →
    θ_run (Cert.Mls.defs (F := Bits)) (onTc (τ := Cert.Mls.τ) (Cert.Mls.main (F := Bits))) ⟨m, fun _ => 0, g⟩ (fun r => (∀ c : Dev Cert.Mls.nD,
      r.2.mem ((c.tc : Thread Cert.Mls.nD Cert.Mls.τ).loc Cert.Mls.main_arg0) = m ((c.tc : Thread Cert.Mls.nD Cert.Mls.τ).loc Cert.Mls.main_arg0)
      ∧ r.2.mem ((c.tc : Thread Cert.Mls.nD Cert.Mls.τ).loc Cert.Mls.main_arg1) = m ((c.tc : Thread Cert.Mls.nD Cert.Mls.τ).loc Cert.Mls.main_arg1)
      ∧ r.2.mem ((c.tc : Thread Cert.Mls.nD Cert.Mls.τ).loc Cert.Mls.main_arg2) = m ((c.tc : Thread Cert.Mls.nD Cert.Mls.τ).loc Cert.Mls.main_arg2)
      ∧ r.2.mem ((c.tc : Thread Cert.Mls.nD Cert.Mls.τ).loc Cert.Mls.main_arg3) = m ((c.tc : Thread Cert.Mls.nD Cert.Mls.τ).loc Cert.Mls.main_arg3)
      ∧ r.2.mem ((c.tc : Thread Cert.Mls.nD Cert.Mls.τ).loc Cert.Mls.main_arg4) = m ((c.tc : Thread Cert.Mls.nD Cert.Mls.τ).loc Cert.Mls.main_arg4)
      ∧ r.2.mem ((c.tc : Thread Cert.Mls.nD Cert.Mls.τ).loc Cert.Mls.main_arg5) = m ((c.tc : Thread Cert.Mls.nD Cert.Mls.τ).loc Cert.Mls.main_arg5))
      ∧ r.2.sem = fun _ => 0)

def quiescent_MlsIdeal [hMlsIdeal : Cert.MlsIdeal.Facts] : Prop :=
  ∀ (m : (ℓ : Loc Cert.MlsIdeal.nD Cert.MlsIdeal.τ Cert.MlsIdeal.sig) → Buf (Elt Ideal) ℓ) (g : Dev Cert.MlsIdeal.nD → PrngReg), Pre_MlsIdeal m →
    θ_run (Cert.MlsIdeal.defs (F := Ideal)) (onTc (τ := Cert.MlsIdeal.τ) (Cert.MlsIdeal.main (F := Ideal))) ⟨m, fun _ => 0, g⟩ (fun r => (∀ c : Dev Cert.MlsIdeal.nD,
      r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
      ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
      ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2)
      ∧ r.2.mem ((c.tc : Thread Cert.MlsIdeal.nD Cert.MlsIdeal.τ).loc Cert.MlsIdeal.main_arg3) = m ((c.tc : Thread Cert.MlsIdeal.nD Cert.MlsIdeal.τ).loc Cert.MlsIdeal.main_arg3)
      ∧ r.2.mem ((c.tc : Thread Cert.MlsIdeal.nD Cert.MlsIdeal.τ).loc Cert.MlsIdeal.main_arg4) = m ((c.tc : Thread Cert.MlsIdeal.nD Cert.MlsIdeal.τ).loc Cert.MlsIdeal.main_arg4)
      ∧ r.2.mem ((c.tc : Thread Cert.MlsIdeal.nD Cert.MlsIdeal.τ).loc Cert.MlsIdeal.main_arg5) = m ((c.tc : Thread Cert.MlsIdeal.nD Cert.MlsIdeal.τ).loc Cert.MlsIdeal.main_arg5))
      ∧ r.2.sem = fun _ => 0)

def quiescent_RefMlsIdeal [hRefMlsIdeal : Cert.RefMlsIdeal.Facts] : Prop :=
  ∀ (m : (ℓ : Loc Cert.RefMlsIdeal.nD Cert.RefMlsIdeal.τ Cert.RefMlsIdeal.sig) → Buf (Elt Ideal) ℓ) (g : Dev Cert.RefMlsIdeal.nD → PrngReg), Pre_RefMlsIdeal m →
    θ_run (Cert.RefMlsIdeal.defs (F := Ideal)) (onTc (τ := Cert.RefMlsIdeal.τ) (Cert.RefMlsIdeal.main (F := Ideal))) ⟨m, fun _ => 0, g⟩ (fun r => (∀ c : Dev Cert.RefMlsIdeal.nD,
      r.2.mem ((c.tc : Thread Cert.RefMlsIdeal.nD Cert.RefMlsIdeal.τ).loc Cert.RefMlsIdeal.main_arg0) = m ((c.tc : Thread Cert.RefMlsIdeal.nD Cert.RefMlsIdeal.τ).loc Cert.RefMlsIdeal.main_arg0)
      ∧ r.2.mem ((c.tc : Thread Cert.RefMlsIdeal.nD Cert.RefMlsIdeal.τ).loc Cert.RefMlsIdeal.main_arg1) = m ((c.tc : Thread Cert.RefMlsIdeal.nD Cert.RefMlsIdeal.τ).loc Cert.RefMlsIdeal.main_arg1)
      ∧ r.2.mem ((c.tc : Thread Cert.RefMlsIdeal.nD Cert.RefMlsIdeal.τ).loc Cert.RefMlsIdeal.main_arg2) = m ((c.tc : Thread Cert.RefMlsIdeal.nD Cert.RefMlsIdeal.τ).loc Cert.RefMlsIdeal.main_arg2)
      ∧ r.2.mem ((c.tc : Thread Cert.RefMlsIdeal.nD Cert.RefMlsIdeal.τ).loc Cert.RefMlsIdeal.main_arg3) = m ((c.tc : Thread Cert.RefMlsIdeal.nD Cert.RefMlsIdeal.τ).loc Cert.RefMlsIdeal.main_arg3)
      ∧ r.2.mem ((c.tc : Thread Cert.RefMlsIdeal.nD Cert.RefMlsIdeal.τ).loc Cert.RefMlsIdeal.main_arg4) = m ((c.tc : Thread Cert.RefMlsIdeal.nD Cert.RefMlsIdeal.τ).loc Cert.RefMlsIdeal.main_arg4)
      ∧ r.2.mem ((c.tc : Thread Cert.RefMlsIdeal.nD Cert.RefMlsIdeal.τ).loc Cert.RefMlsIdeal.main_arg5) = m ((c.tc : Thread Cert.RefMlsIdeal.nD Cert.RefMlsIdeal.τ).loc Cert.RefMlsIdeal.main_arg5))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ r.2.sem = fun _ => 0)

def quiescent_RefShiftIdeal [hRefShiftIdeal : Cert.RefShiftIdeal.Facts] : Prop :=
  ∀ (m : (ℓ : Loc Cert.RefShiftIdeal.nD Cert.RefShiftIdeal.τ Cert.RefShiftIdeal.sig) → Buf (Elt Ideal) ℓ) (g : Dev Cert.RefShiftIdeal.nD → PrngReg), Pre_RefShiftIdeal m →
    θ_run (Cert.RefShiftIdeal.defs (F := Ideal)) (onTc (τ := Cert.RefShiftIdeal.τ) (Cert.RefShiftIdeal.main (F := Ideal))) ⟨m, fun _ => 0, g⟩ (fun r => (∀ c : Dev Cert.RefShiftIdeal.nD,
      r.2.mem ((c.tc : Thread Cert.RefShiftIdeal.nD Cert.RefShiftIdeal.τ).loc Cert.RefShiftIdeal.main_arg0) = m ((c.tc : Thread Cert.RefShiftIdeal.nD Cert.RefShiftIdeal.τ).loc Cert.RefShiftIdeal.main_arg0)
      ∧ r.2.mem ((c.tc : Thread Cert.RefShiftIdeal.nD Cert.RefShiftIdeal.τ).loc Cert.RefShiftIdeal.main_arg1) = m ((c.tc : Thread Cert.RefShiftIdeal.nD Cert.RefShiftIdeal.τ).loc Cert.RefShiftIdeal.main_arg1)
      ∧ r.2.mem ((c.tc : Thread Cert.RefShiftIdeal.nD Cert.RefShiftIdeal.τ).loc Cert.RefShiftIdeal.main_arg2) = m ((c.tc : Thread Cert.RefShiftIdeal.nD Cert.RefShiftIdeal.τ).loc Cert.RefShiftIdeal.main_arg2))
      ∧ r.2.sem = fun _ => 0)

def quiescent_Shift1 [hShift1 : Cert.Shift1.Facts] : Prop :=
  ∀ (m : (ℓ : Loc Cert.Shift1.nD Cert.Shift1.τ Cert.Shift1.sig) → Buf (Elt Bits) ℓ) (g : Dev Cert.Shift1.nD → PrngReg), Pre_Shift1 m →
    θ_run (Cert.Shift1.defs (F := Bits)) (onTc (τ := Cert.Shift1.τ) (Cert.Shift1.main (F := Bits))) ⟨m, fun _ => 0, g⟩ (fun r => (∀ c : Dev Cert.Shift1.nD,
      r.2.mem ((c.tc : Thread Cert.Shift1.nD Cert.Shift1.τ).loc Cert.Shift1.main_arg0) = m ((c.tc : Thread Cert.Shift1.nD Cert.Shift1.τ).loc Cert.Shift1.main_arg0)
      ∧ r.2.mem ((c.tc : Thread Cert.Shift1.nD Cert.Shift1.τ).loc Cert.Shift1.main_arg1) = m ((c.tc : Thread Cert.Shift1.nD Cert.Shift1.τ).loc Cert.Shift1.main_arg1)
      ∧ r.2.mem ((c.tc : Thread Cert.Shift1.nD Cert.Shift1.τ).loc Cert.Shift1.main_arg2) = m ((c.tc : Thread Cert.Shift1.nD Cert.Shift1.τ).loc Cert.Shift1.main_arg2))
      ∧ r.2.sem = fun _ => 0)

def quiescent_Shift1Ideal [hShift1Ideal : Cert.Shift1Ideal.Facts] : Prop :=
  ∀ (m : (ℓ : Loc Cert.Shift1Ideal.nD Cert.Shift1Ideal.τ Cert.Shift1Ideal.sig) → Buf (Elt Ideal) ℓ) (g : Dev Cert.Shift1Ideal.nD → PrngReg), Pre_Shift1Ideal m →
    θ_run (Cert.Shift1Ideal.defs (F := Ideal)) (onTc (τ := Cert.Shift1Ideal.τ) (Cert.Shift1Ideal.main (F := Ideal))) ⟨m, fun _ => 0, g⟩ (fun r => (∀ c : Dev Cert.Shift1Ideal.nD,
      r.2.mem ((c.tc : Thread Cert.Shift1Ideal.nD Cert.Shift1Ideal.τ).loc Cert.Shift1Ideal.main_arg0) = m ((c.tc : Thread Cert.Shift1Ideal.nD Cert.Shift1Ideal.τ).loc Cert.Shift1Ideal.main_arg0)
      ∧ r.2.mem ((c.tc : Thread Cert.Shift1Ideal.nD Cert.Shift1Ideal.τ).loc Cert.Shift1Ideal.main_arg1) = m ((c.tc : Thread Cert.Shift1Ideal.nD Cert.Shift1Ideal.τ).loc Cert.Shift1Ideal.main_arg1)
      ∧ r.2.mem ((c.tc : Thread Cert.Shift1Ideal.nD Cert.Shift1Ideal.τ).loc Cert.Shift1Ideal.main_arg2) = m ((c.tc : Thread Cert.Shift1Ideal.nD Cert.Shift1Ideal.τ).loc Cert.Shift1Ideal.main_arg2))
      ∧ r.2.sem = fun _ => 0)

def quiescent_RefShift1Ideal [hRefShift1Ideal : Cert.RefShift1Ideal.Facts] : Prop :=
  ∀ (m : (ℓ : Loc Cert.RefShift1Ideal.nD Cert.RefShift1Ideal.τ Cert.RefShift1Ideal.sig) → Buf (Elt Ideal) ℓ) (g : Dev Cert.RefShift1Ideal.nD → PrngReg), Pre_RefShift1Ideal m →
    θ_run (Cert.RefShift1Ideal.defs (F := Ideal)) (onTc (τ := Cert.RefShift1Ideal.τ) (Cert.RefShift1Ideal.main (F := Ideal))) ⟨m, fun _ => 0, g⟩ (fun r => (∀ c : Dev Cert.RefShift1Ideal.nD,
      r.2.mem ((c.tc : Thread Cert.RefShift1Ideal.nD Cert.RefShift1Ideal.τ).loc Cert.RefShift1Ideal.main_arg0) = m ((c.tc : Thread Cert.RefShift1Ideal.nD Cert.RefShift1Ideal.τ).loc Cert.RefShift1Ideal.main_arg0)
      ∧ r.2.mem ((c.tc : Thread Cert.RefShift1Ideal.nD Cert.RefShift1Ideal.τ).loc Cert.RefShift1Ideal.main_arg1) = m ((c.tc : Thread Cert.RefShift1Ideal.nD Cert.RefShift1Ideal.τ).loc Cert.RefShift1Ideal.main_arg1)
      ∧ r.2.mem ((c.tc : Thread Cert.RefShift1Ideal.nD Cert.RefShift1Ideal.τ).loc Cert.RefShift1Ideal.main_arg2) = m ((c.tc : Thread Cert.RefShift1Ideal.nD Cert.RefShift1Ideal.τ).loc Cert.RefShift1Ideal.main_arg2))
      ∧ r.2.sem = fun _ => 0)

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v27) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3))

def preserves_Ffn1_Ffn1Ideal : Prop :=
  True

def algebraic_Ffn1Ideal_RefFfn1Ideal [hFfn1Ideal : Cert.Ffn1Ideal.Facts] [hRefFfn1Ideal : Cert.RefFfn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.RefFfn1Ideal.nD Cert.RefFfn1Ideal.τ Cert.RefFfn1Ideal.sig) → Buf (Elt Ideal) ℓ) (g' : Dev Cert.RefFfn1Ideal.nD → PrngReg), Pre_Ffn1Ideal m →
    (∀ c : Dev Cert.Ffn1Ideal.nD,
      m' ((c.tc : Thread Cert.RefFfn1Ideal.nD Cert.RefFfn1Ideal.τ).loc Cert.RefFfn1Ideal.main_arg0) = m ((c.tc : Thread Cert.Ffn1Ideal.nD Cert.Ffn1Ideal.τ).loc Cert.Ffn1Ideal.main_arg0)
      ∧ m' ((c.tc : Thread Cert.RefFfn1Ideal.nD Cert.RefFfn1Ideal.τ).loc Cert.RefFfn1Ideal.main_arg1) = m ((c.tc : Thread Cert.Ffn1Ideal.nD Cert.Ffn1Ideal.τ).loc Cert.Ffn1Ideal.main_arg1)
      ∧ m' ((c.tc : Thread Cert.RefFfn1Ideal.nD Cert.RefFfn1Ideal.τ).loc Cert.RefFfn1Ideal.main_arg2) = m ((c.tc : Thread Cert.Ffn1Ideal.nD Cert.Ffn1Ideal.τ).loc Cert.Ffn1Ideal.main_arg2)
      ∧ m' ((c.tc : Thread Cert.RefFfn1Ideal.nD Cert.RefFfn1Ideal.τ).loc Cert.RefFfn1Ideal.main_arg3) = m ((c.tc : Thread Cert.Ffn1Ideal.nD Cert.Ffn1Ideal.τ).loc Cert.Ffn1Ideal.main_arg3)) →
    ∃ (v0 : (c : Dev Cert.Ffn1Ideal.nD) → Buf (Elt Ideal) ((c.tc : Thread Cert.Ffn1Ideal.nD Cert.Ffn1Ideal.τ).loc Cert.Ffn1Ideal.main_v3)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v3) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3))
      ∧ θ_run (Cert.RefFfn1Ideal.defs (F := Ideal)) (onTc (τ := Cert.RefFfn1Ideal.τ) (Cert.RefFfn1Ideal.main (F := Ideal))) ⟨m', fun _ => 0, g'⟩ (fun r => ∀ c : Dev Cert.RefFfn1Ideal.nD,
          r.2.mem ((c.tc : Thread Cert.RefFfn1Ideal.nD Cert.RefFfn1Ideal.τ).loc Cert.RefFfn1Ideal.main_v27) = v0 c
          ∧ r.2.mem ((c.tc : Thread Cert.RefFfn1Ideal.nD Cert.RefFfn1Ideal.τ).loc Cert.RefFfn1Ideal.main_arg0) = m' ((c.tc : Thread Cert.RefFfn1Ideal.nD Cert.RefFfn1Ideal.τ).loc Cert.RefFfn1Ideal.main_arg0)
          ∧ r.2.mem ((c.tc : Thread Cert.RefFfn1Ideal.nD Cert.RefFfn1Ideal.τ).loc Cert.RefFfn1Ideal.main_arg1) = m' ((c.tc : Thread Cert.RefFfn1Ideal.nD Cert.RefFfn1Ideal.τ).loc Cert.RefFfn1Ideal.main_arg1)
          ∧ r.2.mem ((c.tc : Thread Cert.RefFfn1Ideal.nD Cert.RefFfn1Ideal.τ).loc Cert.RefFfn1Ideal.main_arg2) = m' ((c.tc : Thread Cert.RefFfn1Ideal.nD Cert.RefFfn1Ideal.τ).loc Cert.RefFfn1Ideal.main_arg2)
          ∧ r.2.mem ((c.tc : Thread Cert.RefFfn1Ideal.nD Cert.RefFfn1Ideal.τ).loc Cert.RefFfn1Ideal.main_arg3) = m' ((c.tc : Thread Cert.RefFfn1Ideal.nD Cert.RefFfn1Ideal.τ).loc Cert.RefFfn1Ideal.main_arg3))

def preserves_Ffn2_Ffn2Ideal : Prop :=
  True

def algebraic_Ffn2Ideal_RefFfn2Ideal [hFfn2Ideal : Cert.Ffn2Ideal.Facts] [hRefFfn2Ideal : Cert.RefFfn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.RefFfn2Ideal.nD Cert.RefFfn2Ideal.τ Cert.RefFfn2Ideal.sig) → Buf (Elt Ideal) ℓ) (g' : Dev Cert.RefFfn2Ideal.nD → PrngReg), Pre_Ffn2Ideal m →
    (∀ c : Dev Cert.Ffn2Ideal.nD,
      m' ((c.tc : Thread Cert.RefFfn2Ideal.nD Cert.RefFfn2Ideal.τ).loc Cert.RefFfn2Ideal.main_arg0) = m ((c.tc : Thread Cert.Ffn2Ideal.nD Cert.Ffn2Ideal.τ).loc Cert.Ffn2Ideal.main_arg0)
      ∧ m' ((c.tc : Thread Cert.RefFfn2Ideal.nD Cert.RefFfn2Ideal.τ).loc Cert.RefFfn2Ideal.main_arg1) = m ((c.tc : Thread Cert.Ffn2Ideal.nD Cert.Ffn2Ideal.τ).loc Cert.Ffn2Ideal.main_arg1)
      ∧ m' ((c.tc : Thread Cert.RefFfn2Ideal.nD Cert.RefFfn2Ideal.τ).loc Cert.RefFfn2Ideal.main_arg2) = m ((c.tc : Thread Cert.Ffn2Ideal.nD Cert.Ffn2Ideal.τ).loc Cert.Ffn2Ideal.main_arg2)
      ∧ m' ((c.tc : Thread Cert.RefFfn2Ideal.nD Cert.RefFfn2Ideal.τ).loc Cert.RefFfn2Ideal.main_arg3) = m ((c.tc : Thread Cert.Ffn2Ideal.nD Cert.Ffn2Ideal.τ).loc Cert.Ffn2Ideal.main_arg3)) →
    ∃ (v0 : (c : Dev Cert.Ffn2Ideal.nD) → Buf (Elt Ideal) ((c.tc : Thread Cert.Ffn2Ideal.nD Cert.Ffn2Ideal.τ).loc Cert.Ffn2Ideal.main_v3)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v3) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ θ_run (Cert.RefFfn2Ideal.defs (F := Ideal)) (onTc (τ := Cert.RefFfn2Ideal.τ) (Cert.RefFfn2Ideal.main (F := Ideal))) ⟨m', fun _ => 0, g'⟩ (fun r => ∀ c : Dev Cert.RefFfn2Ideal.nD,
          r.2.mem ((c.tc : Thread Cert.RefFfn2Ideal.nD Cert.RefFfn2Ideal.τ).loc Cert.RefFfn2Ideal.main_v27) = v0 c
          ∧ r.2.mem ((c.tc : Thread Cert.RefFfn2Ideal.nD Cert.RefFfn2Ideal.τ).loc Cert.RefFfn2Ideal.main_arg0) = m' ((c.tc : Thread Cert.RefFfn2Ideal.nD Cert.RefFfn2Ideal.τ).loc Cert.RefFfn2Ideal.main_arg0)
          ∧ r.2.mem ((c.tc : Thread Cert.RefFfn2Ideal.nD Cert.RefFfn2Ideal.τ).loc Cert.RefFfn2Ideal.main_arg1) = m' ((c.tc : Thread Cert.RefFfn2Ideal.nD Cert.RefFfn2Ideal.τ).loc Cert.RefFfn2Ideal.main_arg1)
          ∧ r.2.mem ((c.tc : Thread Cert.RefFfn2Ideal.nD Cert.RefFfn2Ideal.τ).loc Cert.RefFfn2Ideal.main_arg2) = m' ((c.tc : Thread Cert.RefFfn2Ideal.nD Cert.RefFfn2Ideal.τ).loc Cert.RefFfn2Ideal.main_arg2)
          ∧ r.2.mem ((c.tc : Thread Cert.RefFfn2Ideal.nD Cert.RefFfn2Ideal.τ).loc Cert.RefFfn2Ideal.main_arg3) = m' ((c.tc : Thread Cert.RefFfn2Ideal.nD Cert.RefFfn2Ideal.τ).loc Cert.RefFfn2Ideal.main_arg3))

def preserves_Ffn3_Ffn3Ideal : Prop :=
  True

def algebraic_Ffn3Ideal_RefFfn3Ideal [hFfn3Ideal : Cert.Ffn3Ideal.Facts] [hRefFfn3Ideal : Cert.RefFfn3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg)
    (m' : (ℓ : Loc Cert.RefFfn3Ideal.nD Cert.RefFfn3Ideal.τ Cert.RefFfn3Ideal.sig) → Buf (Elt Ideal) ℓ) (g' : Dev Cert.RefFfn3Ideal.nD → PrngReg), Pre_Ffn3Ideal m →
    (∀ c : Dev Cert.Ffn3Ideal.nD,
      m' ((c.tc : Thread Cert.RefFfn3Ideal.nD Cert.RefFfn3Ideal.τ).loc Cert.RefFfn3Ideal.main_arg0) = m ((c.tc : Thread Cert.Ffn3Ideal.nD Cert.Ffn3Ideal.τ).loc Cert.Ffn3Ideal.main_arg0)
      ∧ m' ((c.tc : Thread Cert.RefFfn3Ideal.nD Cert.RefFfn3Ideal.τ).loc Cert.RefFfn3Ideal.main_arg1) = m ((c.tc : Thread Cert.Ffn3Ideal.nD Cert.Ffn3Ideal.τ).loc Cert.Ffn3Ideal.main_arg1)
      ∧ m' ((c.tc : Thread Cert.RefFfn3Ideal.nD Cert.RefFfn3Ideal.τ).loc Cert.RefFfn3Ideal.main_arg2) = m ((c.tc : Thread Cert.Ffn3Ideal.nD Cert.Ffn3Ideal.τ).loc Cert.Ffn3Ideal.main_arg2)
      ∧ m' ((c.tc : Thread Cert.RefFfn3Ideal.nD Cert.RefFfn3Ideal.τ).loc Cert.RefFfn3Ideal.main_arg3) = m ((c.tc : Thread Cert.Ffn3Ideal.nD Cert.Ffn3Ideal.τ).loc Cert.Ffn3Ideal.main_arg3)) →
    ∃ (v0 : (c : Dev Cert.Ffn3Ideal.nD) → Buf (Elt Ideal) ((c.tc : Thread Cert.Ffn3Ideal.nD Cert.Ffn3Ideal.τ).loc Cert.Ffn3Ideal.main_v3)),
      θ_run (Cert.Ffn3Ideal.defs (F := Ideal)) (onTc (τ := Cert.Ffn3Ideal.τ) (Cert.Ffn3Ideal.main (F := Ideal))) ⟨m, fun _ => 0, g⟩ (fun r => ∀ c : Dev Cert.Ffn3Ideal.nD,
          r.2.mem ((c.tc : Thread Cert.Ffn3Ideal.nD Cert.Ffn3Ideal.τ).loc Cert.Ffn3Ideal.main_v3) = v0 c
          ∧ r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
          ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
          ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
          ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3))
      ∧ θ_run (Cert.RefFfn3Ideal.defs (F := Ideal)) (onTc (τ := Cert.RefFfn3Ideal.τ) (Cert.RefFfn3Ideal.main (F := Ideal))) ⟨m', fun _ => 0, g'⟩ (fun r => ∀ c : Dev Cert.RefFfn3Ideal.nD,
          r.2.mem ((c.tc : Thread Cert.RefFfn3Ideal.nD Cert.RefFfn3Ideal.τ).loc Cert.RefFfn3Ideal.main_v27) = v0 c
          ∧ r.2.mem ((c.tc : Thread Cert.RefFfn3Ideal.nD Cert.RefFfn3Ideal.τ).loc Cert.RefFfn3Ideal.main_arg0) = m' ((c.tc : Thread Cert.RefFfn3Ideal.nD Cert.RefFfn3Ideal.τ).loc Cert.RefFfn3Ideal.main_arg0)
          ∧ r.2.mem ((c.tc : Thread Cert.RefFfn3Ideal.nD Cert.RefFfn3Ideal.τ).loc Cert.RefFfn3Ideal.main_arg1) = m' ((c.tc : Thread Cert.RefFfn3Ideal.nD Cert.RefFfn3Ideal.τ).loc Cert.RefFfn3Ideal.main_arg1)
          ∧ r.2.mem ((c.tc : Thread Cert.RefFfn3Ideal.nD Cert.RefFfn3Ideal.τ).loc Cert.RefFfn3Ideal.main_arg2) = m' ((c.tc : Thread Cert.RefFfn3Ideal.nD Cert.RefFfn3Ideal.τ).loc Cert.RefFfn3Ideal.main_arg2)
          ∧ r.2.mem ((c.tc : Thread Cert.RefFfn3Ideal.nD Cert.RefFfn3Ideal.τ).loc Cert.RefFfn3Ideal.main_arg3) = m' ((c.tc : Thread Cert.RefFfn3Ideal.nD Cert.RefFfn3Ideal.τ).loc Cert.RefFfn3Ideal.main_arg3))

def preserves_Qkv_QkvIdeal : Prop :=
  True

def algebraic_QkvIdeal_RefQkvIdeal [hQkvIdeal : Cert.QkvIdeal.Facts] [hRefQkvIdeal : Cert.RefQkvIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_QkvIdeal m →
    (∀ c : Dev Cert.QkvIdeal.nD,
      m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0)
      ∧ m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1)
      ∧ m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v16) = v0 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1)
          ∧ r.2.mem ((c.tc : Thread Cert.RefQkvIdeal.nD Cert.RefQkvIdeal.τ).loc Cert.RefQkvIdeal.main_arg2) = m' ((c.tc : Thread Cert.RefQkvIdeal.nD Cert.RefQkvIdeal.τ).loc Cert.RefQkvIdeal.main_arg2))

def preserves_Cin_CinIdeal : Prop :=
  True

def algebraic_CinIdeal_RefCinIdeal [hCinIdeal : Cert.CinIdeal.Facts] [hRefCinIdeal : Cert.RefCinIdeal.Facts] : Prop :=
  ∀ (m : (ℓ : Loc Cert.CinIdeal.nD Cert.CinIdeal.τ Cert.CinIdeal.sig) → Buf (Elt Ideal) ℓ) (g : Dev Cert.CinIdeal.nD → PrngReg)
    (m' : (ℓ : Loc Cert.RefCinIdeal.nD Cert.RefCinIdeal.τ Cert.RefCinIdeal.sig) → Buf (Elt Ideal) ℓ) (g' : Dev Cert.RefCinIdeal.nD → PrngReg), Pre_CinIdeal m →
    (∀ c : Dev Cert.CinIdeal.nD,
      m' ((c.tc : Thread Cert.RefCinIdeal.nD Cert.RefCinIdeal.τ).loc Cert.RefCinIdeal.main_arg0) = m ((c.tc : Thread Cert.CinIdeal.nD Cert.CinIdeal.τ).loc Cert.CinIdeal.main_arg0)
      ∧ m' ((c.tc : Thread Cert.RefCinIdeal.nD Cert.RefCinIdeal.τ).loc Cert.RefCinIdeal.main_arg1) = m ((c.tc : Thread Cert.CinIdeal.nD Cert.CinIdeal.τ).loc Cert.CinIdeal.main_arg1)
      ∧ m' ((c.tc : Thread Cert.RefCinIdeal.nD Cert.RefCinIdeal.τ).loc Cert.RefCinIdeal.main_arg2) = m ((c.tc : Thread Cert.CinIdeal.nD Cert.CinIdeal.τ).loc Cert.CinIdeal.main_arg2)) →
    ∃ (v0 : (c : Dev Cert.CinIdeal.nD) → Buf (Elt Ideal) ((c.tc : Thread Cert.CinIdeal.nD Cert.CinIdeal.τ).loc Cert.CinIdeal.main_v6)),
      θ_run (Cert.CinIdeal.defs (F := Ideal)) (onTc (τ := Cert.CinIdeal.τ) (Cert.CinIdeal.main (F := Ideal))) ⟨m, fun _ => 0, g⟩ (fun r => ∀ c : Dev Cert.CinIdeal.nD,
          r.2.mem ((c.tc : Thread Cert.CinIdeal.nD Cert.CinIdeal.τ).loc Cert.CinIdeal.main_v6) = v0 c
          ∧ r.2.mem ((c.tc : Thread Cert.CinIdeal.nD Cert.CinIdeal.τ).loc Cert.CinIdeal.main_arg0) = m ((c.tc : Thread Cert.CinIdeal.nD Cert.CinIdeal.τ).loc Cert.CinIdeal.main_arg0)
          ∧ r.2.mem ((c.tc : Thread Cert.CinIdeal.nD Cert.CinIdeal.τ).loc Cert.CinIdeal.main_arg1) = m ((c.tc : Thread Cert.CinIdeal.nD Cert.CinIdeal.τ).loc Cert.CinIdeal.main_arg1)
          ∧ r.2.mem ((c.tc : Thread Cert.CinIdeal.nD Cert.CinIdeal.τ).loc Cert.CinIdeal.main_arg2) = m ((c.tc : Thread Cert.CinIdeal.nD Cert.CinIdeal.τ).loc Cert.CinIdeal.main_arg2))
      ∧ θ_run (Cert.RefCinIdeal.defs (F := Ideal)) (onTc (τ := Cert.RefCinIdeal.τ) (Cert.RefCinIdeal.main (F := Ideal))) ⟨m', fun _ => 0, g'⟩ (fun r => ∀ c : Dev Cert.RefCinIdeal.nD,
          r.2.mem ((c.tc : Thread Cert.RefCinIdeal.nD Cert.RefCinIdeal.τ).loc Cert.RefCinIdeal.main_v17) = v0 c
          ∧ r.2.mem ((c.tc : Thread Cert.RefCinIdeal.nD Cert.RefCinIdeal.τ).loc Cert.RefCinIdeal.main_arg0) = m' ((c.tc : Thread Cert.RefCinIdeal.nD Cert.RefCinIdeal.τ).loc Cert.RefCinIdeal.main_arg0)
          ∧ r.2.mem ((c.tc : Thread Cert.RefCinIdeal.nD Cert.RefCinIdeal.τ).loc Cert.RefCinIdeal.main_arg1) = m' ((c.tc : Thread Cert.RefCinIdeal.nD Cert.RefCinIdeal.τ).loc Cert.RefCinIdeal.main_arg1)
          ∧ r.2.mem ((c.tc : Thread Cert.RefCinIdeal.nD Cert.RefCinIdeal.τ).loc Cert.RefCinIdeal.main_arg2) = m' ((c.tc : Thread Cert.RefCinIdeal.nD Cert.RefCinIdeal.τ).loc Cert.RefCinIdeal.main_arg2))

def preserves_Rkv_RkvIdeal : Prop :=
  True

def algebraic_RkvIdeal_RefRkvIdeal [hRkvIdeal : Cert.RkvIdeal.Facts] [hRefRkvIdeal : Cert.RefRkvIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RefRkvIdeal.nD Cert.RefRkvIdeal.τ Cert.RefRkvIdeal.sig) → Buf (Elt Ideal) ℓ) (g' : Dev Cert.RefRkvIdeal.nD → PrngReg), Pre_RkvIdeal m →
    (∀ c : Dev Cert.RkvIdeal.nD,
      m' ((c.tc : Thread Cert.RefRkvIdeal.nD Cert.RefRkvIdeal.τ).loc Cert.RefRkvIdeal.main_arg0) = m ((c.tc : Thread Cert.RkvIdeal.nD Cert.RkvIdeal.τ).loc Cert.RkvIdeal.main_arg0)
      ∧ m' ((c.tc : Thread Cert.RefRkvIdeal.nD Cert.RefRkvIdeal.τ).loc Cert.RefRkvIdeal.main_arg1) = m ((c.tc : Thread Cert.RkvIdeal.nD Cert.RkvIdeal.τ).loc Cert.RkvIdeal.main_arg1)
      ∧ m' ((c.tc : Thread Cert.RefRkvIdeal.nD Cert.RefRkvIdeal.τ).loc Cert.RefRkvIdeal.main_arg2) = m ((c.tc : Thread Cert.RkvIdeal.nD Cert.RkvIdeal.τ).loc Cert.RkvIdeal.main_arg2)
      ∧ m' ((c.tc : Thread Cert.RefRkvIdeal.nD Cert.RefRkvIdeal.τ).loc Cert.RefRkvIdeal.main_arg3) = m ((c.tc : Thread Cert.RkvIdeal.nD Cert.RkvIdeal.τ).loc Cert.RkvIdeal.main_arg3)) →
    ∃ (v0 : (c : Dev Cert.RkvIdeal.nD) → Buf (Elt Ideal) ((c.tc : Thread Cert.RkvIdeal.nD Cert.RkvIdeal.τ).loc Cert.RkvIdeal.main_v11)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v11) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1)
          ∧ r.2.mem ((c.tc : Thread Cert.RkvIdeal.nD Cert.RkvIdeal.τ).loc Cert.RkvIdeal.main_arg2) = m ((c.tc : Thread Cert.RkvIdeal.nD Cert.RkvIdeal.τ).loc Cert.RkvIdeal.main_arg2)
          ∧ r.2.mem ((c.tc : Thread Cert.RkvIdeal.nD Cert.RkvIdeal.τ).loc Cert.RkvIdeal.main_arg3) = m ((c.tc : Thread Cert.RkvIdeal.nD Cert.RkvIdeal.τ).loc Cert.RkvIdeal.main_arg3))
      ∧ θ_run (Cert.RefRkvIdeal.defs (F := Ideal)) (onTc (τ := Cert.RefRkvIdeal.τ) (Cert.RefRkvIdeal.main (F := Ideal))) ⟨m', fun _ => 0, g'⟩ (fun r => ∀ c : Dev Cert.RefRkvIdeal.nD,
          r.2.mem ((c.tc : Thread Cert.RefRkvIdeal.nD Cert.RefRkvIdeal.τ).loc Cert.RefRkvIdeal.main_v27) = v0 c
          ∧ r.2.mem ((c.tc : Thread Cert.RefRkvIdeal.nD Cert.RefRkvIdeal.τ).loc Cert.RefRkvIdeal.main_arg0) = m' ((c.tc : Thread Cert.RefRkvIdeal.nD Cert.RefRkvIdeal.τ).loc Cert.RefRkvIdeal.main_arg0)
          ∧ r.2.mem ((c.tc : Thread Cert.RefRkvIdeal.nD Cert.RefRkvIdeal.τ).loc Cert.RefRkvIdeal.main_arg1) = m' ((c.tc : Thread Cert.RefRkvIdeal.nD Cert.RefRkvIdeal.τ).loc Cert.RefRkvIdeal.main_arg1)
          ∧ r.2.mem ((c.tc : Thread Cert.RefRkvIdeal.nD Cert.RefRkvIdeal.τ).loc Cert.RefRkvIdeal.main_arg2) = m' ((c.tc : Thread Cert.RefRkvIdeal.nD Cert.RefRkvIdeal.τ).loc Cert.RefRkvIdeal.main_arg2)
          ∧ r.2.mem ((c.tc : Thread Cert.RefRkvIdeal.nD Cert.RefRkvIdeal.τ).loc Cert.RefRkvIdeal.main_arg3) = m' ((c.tc : Thread Cert.RefRkvIdeal.nD Cert.RefRkvIdeal.τ).loc Cert.RefRkvIdeal.main_arg3))

def preserves_Rkv1_Rkv1Ideal : Prop :=
  True

def algebraic_Rkv1Ideal_RefRkv1Ideal [hRkv1Ideal : Cert.Rkv1Ideal.Facts] [hRefRkv1Ideal : Cert.RefRkv1Ideal.Facts] : Prop :=
  ∀ (m : (ℓ : Loc Cert.Rkv1Ideal.nD Cert.Rkv1Ideal.τ Cert.Rkv1Ideal.sig) → Buf (Elt Ideal) ℓ) (g : Dev Cert.Rkv1Ideal.nD → PrngReg)
    (m' : (ℓ : Loc Cert.RefRkv1Ideal.nD Cert.RefRkv1Ideal.τ Cert.RefRkv1Ideal.sig) → Buf (Elt Ideal) ℓ) (g' : Dev Cert.RefRkv1Ideal.nD → PrngReg), Pre_Rkv1Ideal m →
    (∀ c : Dev Cert.Rkv1Ideal.nD,
      m' ((c.tc : Thread Cert.RefRkv1Ideal.nD Cert.RefRkv1Ideal.τ).loc Cert.RefRkv1Ideal.main_arg0) = m ((c.tc : Thread Cert.Rkv1Ideal.nD Cert.Rkv1Ideal.τ).loc Cert.Rkv1Ideal.main_arg0)
      ∧ m' ((c.tc : Thread Cert.RefRkv1Ideal.nD Cert.RefRkv1Ideal.τ).loc Cert.RefRkv1Ideal.main_arg1) = m ((c.tc : Thread Cert.Rkv1Ideal.nD Cert.Rkv1Ideal.τ).loc Cert.Rkv1Ideal.main_arg1)
      ∧ m' ((c.tc : Thread Cert.RefRkv1Ideal.nD Cert.RefRkv1Ideal.τ).loc Cert.RefRkv1Ideal.main_arg2) = m ((c.tc : Thread Cert.Rkv1Ideal.nD Cert.Rkv1Ideal.τ).loc Cert.Rkv1Ideal.main_arg2)
      ∧ m' ((c.tc : Thread Cert.RefRkv1Ideal.nD Cert.RefRkv1Ideal.τ).loc Cert.RefRkv1Ideal.main_arg3) = m ((c.tc : Thread Cert.Rkv1Ideal.nD Cert.Rkv1Ideal.τ).loc Cert.Rkv1Ideal.main_arg3)) →
    ∃ (v0 : (c : Dev Cert.Rkv1Ideal.nD) → Buf (Elt Ideal) ((c.tc : Thread Cert.Rkv1Ideal.nD Cert.Rkv1Ideal.τ).loc Cert.Rkv1Ideal.main_v11)),
      θ_run (Cert.Rkv1Ideal.defs (F := Ideal)) (onTc (τ := Cert.Rkv1Ideal.τ) (Cert.Rkv1Ideal.main (F := Ideal))) ⟨m, fun _ => 0, g⟩ (fun r => ∀ c : Dev Cert.Rkv1Ideal.nD,
          r.2.mem ((c.tc : Thread Cert.Rkv1Ideal.nD Cert.Rkv1Ideal.τ).loc Cert.Rkv1Ideal.main_v11) = v0 c
          ∧ r.2.mem ((c.tc : Thread Cert.Rkv1Ideal.nD Cert.Rkv1Ideal.τ).loc Cert.Rkv1Ideal.main_arg0) = m ((c.tc : Thread Cert.Rkv1Ideal.nD Cert.Rkv1Ideal.τ).loc Cert.Rkv1Ideal.main_arg0)
          ∧ r.2.mem ((c.tc : Thread Cert.Rkv1Ideal.nD Cert.Rkv1Ideal.τ).loc Cert.Rkv1Ideal.main_arg1) = m ((c.tc : Thread Cert.Rkv1Ideal.nD Cert.Rkv1Ideal.τ).loc Cert.Rkv1Ideal.main_arg1)
          ∧ r.2.mem ((c.tc : Thread Cert.Rkv1Ideal.nD Cert.Rkv1Ideal.τ).loc Cert.Rkv1Ideal.main_arg2) = m ((c.tc : Thread Cert.Rkv1Ideal.nD Cert.Rkv1Ideal.τ).loc Cert.Rkv1Ideal.main_arg2)
          ∧ r.2.mem ((c.tc : Thread Cert.Rkv1Ideal.nD Cert.Rkv1Ideal.τ).loc Cert.Rkv1Ideal.main_arg3) = m ((c.tc : Thread Cert.Rkv1Ideal.nD Cert.Rkv1Ideal.τ).loc Cert.Rkv1Ideal.main_arg3))
      ∧ θ_run (Cert.RefRkv1Ideal.defs (F := Ideal)) (onTc (τ := Cert.RefRkv1Ideal.τ) (Cert.RefRkv1Ideal.main (F := Ideal))) ⟨m', fun _ => 0, g'⟩ (fun r => ∀ c : Dev Cert.RefRkv1Ideal.nD,
          r.2.mem ((c.tc : Thread Cert.RefRkv1Ideal.nD Cert.RefRkv1Ideal.τ).loc Cert.RefRkv1Ideal.main_v27) = v0 c
          ∧ r.2.mem ((c.tc : Thread Cert.RefRkv1Ideal.nD Cert.RefRkv1Ideal.τ).loc Cert.RefRkv1Ideal.main_arg0) = m' ((c.tc : Thread Cert.RefRkv1Ideal.nD Cert.RefRkv1Ideal.τ).loc Cert.RefRkv1Ideal.main_arg0)
          ∧ r.2.mem ((c.tc : Thread Cert.RefRkv1Ideal.nD Cert.RefRkv1Ideal.τ).loc Cert.RefRkv1Ideal.main_arg1) = m' ((c.tc : Thread Cert.RefRkv1Ideal.nD Cert.RefRkv1Ideal.τ).loc Cert.RefRkv1Ideal.main_arg1)
          ∧ r.2.mem ((c.tc : Thread Cert.RefRkv1Ideal.nD Cert.RefRkv1Ideal.τ).loc Cert.RefRkv1Ideal.main_arg2) = m' ((c.tc : Thread Cert.RefRkv1Ideal.nD Cert.RefRkv1Ideal.τ).loc Cert.RefRkv1Ideal.main_arg2)
          ∧ r.2.mem ((c.tc : Thread Cert.RefRkv1Ideal.nD Cert.RefRkv1Ideal.τ).loc Cert.RefRkv1Ideal.main_arg3) = m' ((c.tc : Thread Cert.RefRkv1Ideal.nD Cert.RefRkv1Ideal.τ).loc Cert.RefRkv1Ideal.main_arg3))

def preserves_NormP_NormPIdeal : Prop :=
  True

def algebraic_NormPIdeal_RefNormPIdeal [hNormPIdeal : Cert.NormPIdeal.Facts] [hRefNormPIdeal : Cert.RefNormPIdeal.Facts] : Prop :=
  ∀ (m : (ℓ : Loc Cert.NormPIdeal.nD Cert.NormPIdeal.τ Cert.NormPIdeal.sig) → Buf (Elt Ideal) ℓ) (g : Dev Cert.NormPIdeal.nD → PrngReg)
    (m' : (ℓ : Loc Cert.RefNormPIdeal.nD Cert.RefNormPIdeal.τ Cert.RefNormPIdeal.sig) → Buf (Elt Ideal) ℓ) (g' : Dev Cert.RefNormPIdeal.nD → PrngReg), Pre_NormPIdeal m →
    (∀ c : Dev Cert.NormPIdeal.nD,
      m' ((c.tc : Thread Cert.RefNormPIdeal.nD Cert.RefNormPIdeal.τ).loc Cert.RefNormPIdeal.main_arg0) = m ((c.tc : Thread Cert.NormPIdeal.nD Cert.NormPIdeal.τ).loc Cert.NormPIdeal.main_arg0)
      ∧ m' ((c.tc : Thread Cert.RefNormPIdeal.nD Cert.RefNormPIdeal.τ).loc Cert.RefNormPIdeal.main_arg1) = m ((c.tc : Thread Cert.NormPIdeal.nD Cert.NormPIdeal.τ).loc Cert.NormPIdeal.main_arg1)) →
    ∃ (v0 : (c : Dev Cert.NormPIdeal.nD) → Buf (Elt Ideal) ((c.tc : Thread Cert.NormPIdeal.nD Cert.NormPIdeal.τ).loc Cert.NormPIdeal.main_v1)),
      θ_run (Cert.NormPIdeal.defs (F := Ideal)) (onTc (τ := Cert.NormPIdeal.τ) (Cert.NormPIdeal.main (F := Ideal))) ⟨m, fun _ => 0, g⟩ (fun r => ∀ c : Dev Cert.NormPIdeal.nD,
          r.2.mem ((c.tc : Thread Cert.NormPIdeal.nD Cert.NormPIdeal.τ).loc Cert.NormPIdeal.main_v1) = v0 c
          ∧ r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
          ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ θ_run (Cert.RefNormPIdeal.defs (F := Ideal)) (onTc (τ := Cert.RefNormPIdeal.τ) (Cert.RefNormPIdeal.main (F := Ideal))) ⟨m', fun _ => 0, g'⟩ (fun r => ∀ c : Dev Cert.RefNormPIdeal.nD,
          r.2.mem ((c.tc : Thread Cert.RefNormPIdeal.nD Cert.RefNormPIdeal.τ).loc Cert.RefNormPIdeal.main_v13) = v0 c
          ∧ r.2.mem ((c.tc : Thread Cert.RefNormPIdeal.nD Cert.RefNormPIdeal.τ).loc Cert.RefNormPIdeal.main_arg0) = m' ((c.tc : Thread Cert.RefNormPIdeal.nD Cert.RefNormPIdeal.τ).loc Cert.RefNormPIdeal.main_arg0)
          ∧ r.2.mem ((c.tc : Thread Cert.RefNormPIdeal.nD Cert.RefNormPIdeal.τ).loc Cert.RefNormPIdeal.main_arg1) = m' ((c.tc : Thread Cert.RefNormPIdeal.nD Cert.RefNormPIdeal.τ).loc Cert.RefNormPIdeal.main_arg1))

def preserves_NormS_NormSIdeal : Prop :=
  True

def algebraic_NormSIdeal_RefNormSIdeal [hNormSIdeal : Cert.NormSIdeal.Facts] [hRefNormSIdeal : Cert.RefNormSIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.RefNormSIdeal.nD Cert.RefNormSIdeal.τ Cert.RefNormSIdeal.sig) → Buf (Elt Ideal) ℓ) (g' : Dev Cert.RefNormSIdeal.nD → PrngReg), Pre_NormSIdeal m →
    (∀ c : Dev Cert.NormSIdeal.nD,
      m' ((c.tc : Thread Cert.RefNormSIdeal.nD Cert.RefNormSIdeal.τ).loc Cert.RefNormSIdeal.main_arg0) = m ((c.tc : Thread Cert.NormSIdeal.nD Cert.NormSIdeal.τ).loc Cert.NormSIdeal.main_arg0)
      ∧ m' ((c.tc : Thread Cert.RefNormSIdeal.nD Cert.RefNormSIdeal.τ).loc Cert.RefNormSIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.RefNormSIdeal.defs (F := Ideal)) (onTc (τ := Cert.RefNormSIdeal.τ) (Cert.RefNormSIdeal.main (F := Ideal))) ⟨m', fun _ => 0, g'⟩ (fun r => ∀ c : Dev Cert.RefNormSIdeal.nD,
          r.2.mem ((c.tc : Thread Cert.RefNormSIdeal.nD Cert.RefNormSIdeal.τ).loc Cert.RefNormSIdeal.main_v13) = v0 c
          ∧ r.2.mem ((c.tc : Thread Cert.RefNormSIdeal.nD Cert.RefNormSIdeal.τ).loc Cert.RefNormSIdeal.main_arg0) = m' ((c.tc : Thread Cert.RefNormSIdeal.nD Cert.RefNormSIdeal.τ).loc Cert.RefNormSIdeal.main_arg0)
          ∧ r.2.mem ((c.tc : Thread Cert.RefNormSIdeal.nD Cert.RefNormSIdeal.τ).loc Cert.RefNormSIdeal.main_arg1) = m' ((c.tc : Thread Cert.RefNormSIdeal.nD Cert.RefNormSIdeal.τ).loc Cert.RefNormSIdeal.main_arg1))

def preserves_Mls_MlsIdeal : Prop :=
  IdealRules.named_const.Statement Cert.MlsIdeal.κ "neg_inf" .f32 0xF149F2CA#32 ⊥

def algebraic_MlsIdeal_RefMlsIdeal [hMlsIdeal : Cert.MlsIdeal.Facts] [hRefMlsIdeal : Cert.RefMlsIdeal.Facts] : Prop :=
  ∀ (m : (ℓ : Loc Cert.MlsIdeal.nD Cert.MlsIdeal.τ Cert.MlsIdeal.sig) → Buf (Elt Ideal) ℓ) (g : Dev Cert.MlsIdeal.nD → PrngReg)
    (m' : (ℓ : Loc Cert.RefMlsIdeal.nD Cert.RefMlsIdeal.τ Cert.RefMlsIdeal.sig) → Buf (Elt Ideal) ℓ) (g' : Dev Cert.RefMlsIdeal.nD → PrngReg), Pre_MlsIdeal m →
    (∀ c : Dev Cert.MlsIdeal.nD,
      m' ((c.tc : Thread Cert.RefMlsIdeal.nD Cert.RefMlsIdeal.τ).loc Cert.RefMlsIdeal.main_arg0) = m ((c.tc : Thread Cert.MlsIdeal.nD Cert.MlsIdeal.τ).loc Cert.MlsIdeal.main_arg0)
      ∧ m' ((c.tc : Thread Cert.RefMlsIdeal.nD Cert.RefMlsIdeal.τ).loc Cert.RefMlsIdeal.main_arg1) = m ((c.tc : Thread Cert.MlsIdeal.nD Cert.MlsIdeal.τ).loc Cert.MlsIdeal.main_arg1)
      ∧ m' ((c.tc : Thread Cert.RefMlsIdeal.nD Cert.RefMlsIdeal.τ).loc Cert.RefMlsIdeal.main_arg2) = m ((c.tc : Thread Cert.MlsIdeal.nD Cert.MlsIdeal.τ).loc Cert.MlsIdeal.main_arg2)
      ∧ m' ((c.tc : Thread Cert.RefMlsIdeal.nD Cert.RefMlsIdeal.τ).loc Cert.RefMlsIdeal.main_arg3) = m ((c.tc : Thread Cert.MlsIdeal.nD Cert.MlsIdeal.τ).loc Cert.MlsIdeal.main_arg3)
      ∧ m' ((c.tc : Thread Cert.RefMlsIdeal.nD Cert.RefMlsIdeal.τ).loc Cert.RefMlsIdeal.main_arg4) = m ((c.tc : Thread Cert.MlsIdeal.nD Cert.MlsIdeal.τ).loc Cert.MlsIdeal.main_arg4)
      ∧ m' ((c.tc : Thread Cert.RefMlsIdeal.nD Cert.RefMlsIdeal.τ).loc Cert.RefMlsIdeal.main_arg5) = m ((c.tc : Thread Cert.MlsIdeal.nD Cert.MlsIdeal.τ).loc Cert.MlsIdeal.main_arg5)) →
    ∃ (v0 : (c : Dev Cert.MlsIdeal.nD) → Buf (Elt Ideal) ((c.tc : Thread Cert.MlsIdeal.nD Cert.MlsIdeal.τ).loc Cert.MlsIdeal.main_v10_0)) (v1 : (c : Dev Cert.MlsIdeal.nD) → Buf (Elt Ideal) ((c.tc : Thread Cert.MlsIdeal.nD Cert.MlsIdeal.τ).loc Cert.MlsIdeal.main_v10_1)) (v2 : (c : Dev Cert.MlsIdeal.nD) → Buf (Elt Ideal) ((c.tc : Thread Cert.MlsIdeal.nD Cert.MlsIdeal.τ).loc Cert.MlsIdeal.main_v10_2)) (v3 : (c : Dev Cert.MlsIdeal.nD) → Buf (Elt Ideal) ((c.tc : Thread Cert.MlsIdeal.nD Cert.MlsIdeal.τ).loc Cert.MlsIdeal.main_v10_3)),
      θ_run (Cert.MlsIdeal.defs (F := Ideal)) (onTc (τ := Cert.MlsIdeal.τ) (Cert.MlsIdeal.main (F := Ideal))) ⟨m, fun _ => 0, g⟩ (fun r => ∀ c : Dev Cert.MlsIdeal.nD,
          r.2.mem ((c.tc : Thread Cert.MlsIdeal.nD Cert.MlsIdeal.τ).loc Cert.MlsIdeal.main_v10_0) = v0 c
          ∧ r.2.mem ((c.tc : Thread Cert.MlsIdeal.nD Cert.MlsIdeal.τ).loc Cert.MlsIdeal.main_v10_1) = v1 c
          ∧ r.2.mem ((c.tc : Thread Cert.MlsIdeal.nD Cert.MlsIdeal.τ).loc Cert.MlsIdeal.main_v10_2) = v2 c
          ∧ r.2.mem ((c.tc : Thread Cert.MlsIdeal.nD Cert.MlsIdeal.τ).loc Cert.MlsIdeal.main_v10_3) = v3 c
          ∧ r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
          ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
          ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2)
          ∧ r.2.mem ((c.tc : Thread Cert.MlsIdeal.nD Cert.MlsIdeal.τ).loc Cert.MlsIdeal.main_arg3) = m ((c.tc : Thread Cert.MlsIdeal.nD Cert.MlsIdeal.τ).loc Cert.MlsIdeal.main_arg3)
          ∧ r.2.mem ((c.tc : Thread Cert.MlsIdeal.nD Cert.MlsIdeal.τ).loc Cert.MlsIdeal.main_arg4) = m ((c.tc : Thread Cert.MlsIdeal.nD Cert.MlsIdeal.τ).loc Cert.MlsIdeal.main_arg4)
          ∧ r.2.mem ((c.tc : Thread Cert.MlsIdeal.nD Cert.MlsIdeal.τ).loc Cert.MlsIdeal.main_arg5) = m ((c.tc : Thread Cert.MlsIdeal.nD Cert.MlsIdeal.τ).loc Cert.MlsIdeal.main_arg5))
      ∧ θ_run (Cert.RefMlsIdeal.defs (F := Ideal)) (onTc (τ := Cert.RefMlsIdeal.τ) (Cert.RefMlsIdeal.main (F := Ideal))) ⟨m', fun _ => 0, g'⟩ (fun r => ∀ c : Dev Cert.RefMlsIdeal.nD,
          r.2.mem ((c.tc : Thread Cert.RefMlsIdeal.nD Cert.RefMlsIdeal.τ).loc Cert.RefMlsIdeal.main_v135) = v0 c
          ∧ r.2.mem ((c.tc : Thread Cert.RefMlsIdeal.nD Cert.RefMlsIdeal.τ).loc Cert.RefMlsIdeal.main_v106) = v1 c
          ∧ r.2.mem ((c.tc : Thread Cert.RefMlsIdeal.nD Cert.RefMlsIdeal.τ).loc Cert.RefMlsIdeal.main_v111) = v2 c
          ∧ r.2.mem ((c.tc : Thread Cert.RefMlsIdeal.nD Cert.RefMlsIdeal.τ).loc Cert.RefMlsIdeal.main_v137) = v3 c
          ∧ r.2.mem ((c.tc : Thread Cert.RefMlsIdeal.nD Cert.RefMlsIdeal.τ).loc Cert.RefMlsIdeal.main_arg0) = m' ((c.tc : Thread Cert.RefMlsIdeal.nD Cert.RefMlsIdeal.τ).loc Cert.RefMlsIdeal.main_arg0)
          ∧ r.2.mem ((c.tc : Thread Cert.RefMlsIdeal.nD Cert.RefMlsIdeal.τ).loc Cert.RefMlsIdeal.main_arg1) = m' ((c.tc : Thread Cert.RefMlsIdeal.nD Cert.RefMlsIdeal.τ).loc Cert.RefMlsIdeal.main_arg1)
          ∧ r.2.mem ((c.tc : Thread Cert.RefMlsIdeal.nD Cert.RefMlsIdeal.τ).loc Cert.RefMlsIdeal.main_arg2) = m' ((c.tc : Thread Cert.RefMlsIdeal.nD Cert.RefMlsIdeal.τ).loc Cert.RefMlsIdeal.main_arg2)
          ∧ r.2.mem ((c.tc : Thread Cert.RefMlsIdeal.nD Cert.RefMlsIdeal.τ).loc Cert.RefMlsIdeal.main_arg3) = m' ((c.tc : Thread Cert.RefMlsIdeal.nD Cert.RefMlsIdeal.τ).loc Cert.RefMlsIdeal.main_arg3)
          ∧ r.2.mem ((c.tc : Thread Cert.RefMlsIdeal.nD Cert.RefMlsIdeal.τ).loc Cert.RefMlsIdeal.main_arg4) = m' ((c.tc : Thread Cert.RefMlsIdeal.nD Cert.RefMlsIdeal.τ).loc Cert.RefMlsIdeal.main_arg4)
          ∧ r.2.mem ((c.tc : Thread Cert.RefMlsIdeal.nD Cert.RefMlsIdeal.τ).loc Cert.RefMlsIdeal.main_arg5) = m' ((c.tc : Thread Cert.RefMlsIdeal.nD Cert.RefMlsIdeal.τ).loc Cert.RefMlsIdeal.main_arg5))

def preserves_Shift_ShiftIdeal : Prop :=
  True

def algebraic_ShiftIdeal_RefShiftIdeal [hShiftIdeal : Cert.ShiftIdeal.Facts] [hRefShiftIdeal : Cert.RefShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.RefShiftIdeal.nD Cert.RefShiftIdeal.τ Cert.RefShiftIdeal.sig) → Buf (Elt Ideal) ℓ) (g' : Dev Cert.RefShiftIdeal.nD → PrngReg), Pre_ShiftIdeal m →
    (∀ c : Dev Cert.ShiftIdeal.nD,
      m' ((c.tc : Thread Cert.RefShiftIdeal.nD Cert.RefShiftIdeal.τ).loc Cert.RefShiftIdeal.main_arg0) = m ((c.tc : Thread Cert.ShiftIdeal.nD Cert.ShiftIdeal.τ).loc Cert.ShiftIdeal.main_arg0)
      ∧ m' ((c.tc : Thread Cert.RefShiftIdeal.nD Cert.RefShiftIdeal.τ).loc Cert.RefShiftIdeal.main_arg1) = m ((c.tc : Thread Cert.ShiftIdeal.nD Cert.ShiftIdeal.τ).loc Cert.ShiftIdeal.main_arg1)
      ∧ m' ((c.tc : Thread Cert.RefShiftIdeal.nD Cert.RefShiftIdeal.τ).loc Cert.RefShiftIdeal.main_arg2) = m ((c.tc : Thread Cert.ShiftIdeal.nD Cert.ShiftIdeal.τ).loc Cert.ShiftIdeal.main_arg2)) →
    ∃ (v0 : (c : Dev Cert.ShiftIdeal.nD) → Buf (Elt Ideal) ((c.tc : Thread Cert.ShiftIdeal.nD Cert.ShiftIdeal.τ).loc Cert.ShiftIdeal.main_v5_0)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v5_0) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2))
      ∧ θ_run (Cert.RefShiftIdeal.defs (F := Ideal)) (onTc (τ := Cert.RefShiftIdeal.τ) (Cert.RefShiftIdeal.main (F := Ideal))) ⟨m', fun _ => 0, g'⟩ (fun r => ∀ c : Dev Cert.RefShiftIdeal.nD,
          r.2.mem ((c.tc : Thread Cert.RefShiftIdeal.nD Cert.RefShiftIdeal.τ).loc Cert.RefShiftIdeal.main_v14) = v0 c
          ∧ r.2.mem ((c.tc : Thread Cert.RefShiftIdeal.nD Cert.RefShiftIdeal.τ).loc Cert.RefShiftIdeal.main_arg0) = m' ((c.tc : Thread Cert.RefShiftIdeal.nD Cert.RefShiftIdeal.τ).loc Cert.RefShiftIdeal.main_arg0)
          ∧ r.2.mem ((c.tc : Thread Cert.RefShiftIdeal.nD Cert.RefShiftIdeal.τ).loc Cert.RefShiftIdeal.main_arg1) = m' ((c.tc : Thread Cert.RefShiftIdeal.nD Cert.RefShiftIdeal.τ).loc Cert.RefShiftIdeal.main_arg1)
          ∧ r.2.mem ((c.tc : Thread Cert.RefShiftIdeal.nD Cert.RefShiftIdeal.τ).loc Cert.RefShiftIdeal.main_arg2) = m' ((c.tc : Thread Cert.RefShiftIdeal.nD Cert.RefShiftIdeal.τ).loc Cert.RefShiftIdeal.main_arg2))

def preserves_Shift1_Shift1Ideal : Prop :=
  True

def algebraic_Shift1Ideal_RefShift1Ideal [hShift1Ideal : Cert.Shift1Ideal.Facts] [hRefShift1Ideal : Cert.RefShift1Ideal.Facts] : Prop :=
  ∀ (m : (ℓ : Loc Cert.Shift1Ideal.nD Cert.Shift1Ideal.τ Cert.Shift1Ideal.sig) → Buf (Elt Ideal) ℓ) (g : Dev Cert.Shift1Ideal.nD → PrngReg)
    (m' : (ℓ : Loc Cert.RefShift1Ideal.nD Cert.RefShift1Ideal.τ Cert.RefShift1Ideal.sig) → Buf (Elt Ideal) ℓ) (g' : Dev Cert.RefShift1Ideal.nD → PrngReg), Pre_Shift1Ideal m →
    (∀ c : Dev Cert.Shift1Ideal.nD,
      m' ((c.tc : Thread Cert.RefShift1Ideal.nD Cert.RefShift1Ideal.τ).loc Cert.RefShift1Ideal.main_arg0) = m ((c.tc : Thread Cert.Shift1Ideal.nD Cert.Shift1Ideal.τ).loc Cert.Shift1Ideal.main_arg0)
      ∧ m' ((c.tc : Thread Cert.RefShift1Ideal.nD Cert.RefShift1Ideal.τ).loc Cert.RefShift1Ideal.main_arg1) = m ((c.tc : Thread Cert.Shift1Ideal.nD Cert.Shift1Ideal.τ).loc Cert.Shift1Ideal.main_arg1)
      ∧ m' ((c.tc : Thread Cert.RefShift1Ideal.nD Cert.RefShift1Ideal.τ).loc Cert.RefShift1Ideal.main_arg2) = m ((c.tc : Thread Cert.Shift1Ideal.nD Cert.Shift1Ideal.τ).loc Cert.Shift1Ideal.main_arg2)) →
    ∃ (v0 : (c : Dev Cert.Shift1Ideal.nD) → Buf (Elt Ideal) ((c.tc : Thread Cert.Shift1Ideal.nD Cert.Shift1Ideal.τ).loc Cert.Shift1Ideal.main_v5_0)),
      θ_run (Cert.Shift1Ideal.defs (F := Ideal)) (onTc (τ := Cert.Shift1Ideal.τ) (Cert.Shift1Ideal.main (F := Ideal))) ⟨m, fun _ => 0, g⟩ (fun r => ∀ c : Dev Cert.Shift1Ideal.nD,
          r.2.mem ((c.tc : Thread Cert.Shift1Ideal.nD Cert.Shift1Ideal.τ).loc Cert.Shift1Ideal.main_v5_0) = v0 c
          ∧ r.2.mem ((c.tc : Thread Cert.Shift1Ideal.nD Cert.Shift1Ideal.τ).loc Cert.Shift1Ideal.main_arg0) = m ((c.tc : Thread Cert.Shift1Ideal.nD Cert.Shift1Ideal.τ).loc Cert.Shift1Ideal.main_arg0)
          ∧ r.2.mem ((c.tc : Thread Cert.Shift1Ideal.nD Cert.Shift1Ideal.τ).loc Cert.Shift1Ideal.main_arg1) = m ((c.tc : Thread Cert.Shift1Ideal.nD Cert.Shift1Ideal.τ).loc Cert.Shift1Ideal.main_arg1)
          ∧ r.2.mem ((c.tc : Thread Cert.Shift1Ideal.nD Cert.Shift1Ideal.τ).loc Cert.Shift1Ideal.main_arg2) = m ((c.tc : Thread Cert.Shift1Ideal.nD Cert.Shift1Ideal.τ).loc Cert.Shift1Ideal.main_arg2))
      ∧ θ_run (Cert.RefShift1Ideal.defs (F := Ideal)) (onTc (τ := Cert.RefShift1Ideal.τ) (Cert.RefShift1Ideal.main (F := Ideal))) ⟨m', fun _ => 0, g'⟩ (fun r => ∀ c : Dev Cert.RefShift1Ideal.nD,
          r.2.mem ((c.tc : Thread Cert.RefShift1Ideal.nD Cert.RefShift1Ideal.τ).loc Cert.RefShift1Ideal.main_v14) = v0 c
          ∧ r.2.mem ((c.tc : Thread Cert.RefShift1Ideal.nD Cert.RefShift1Ideal.τ).loc Cert.RefShift1Ideal.main_arg0) = m' ((c.tc : Thread Cert.RefShift1Ideal.nD Cert.RefShift1Ideal.τ).loc Cert.RefShift1Ideal.main_arg0)
          ∧ r.2.mem ((c.tc : Thread Cert.RefShift1Ideal.nD Cert.RefShift1Ideal.τ).loc Cert.RefShift1Ideal.main_arg1) = m' ((c.tc : Thread Cert.RefShift1Ideal.nD Cert.RefShift1Ideal.τ).loc Cert.RefShift1Ideal.main_arg1)
          ∧ r.2.mem ((c.tc : Thread Cert.RefShift1Ideal.nD Cert.RefShift1Ideal.τ).loc Cert.RefShift1Ideal.main_arg2) = m' ((c.tc : Thread Cert.RefShift1Ideal.nD Cert.RefShift1Ideal.τ).loc Cert.RefShift1Ideal.main_arg2))

def Claim : Prop :=
  ∃ (hFfn : Cert.Ffn.Facts) (hFfnIdeal : Cert.FfnIdeal.Facts) (hRefFfnIdeal : Cert.RefFfnIdeal.Facts) (hFfn1 : Cert.Ffn1.Facts) (hFfn1Ideal : Cert.Ffn1Ideal.Facts) (hRefFfn1Ideal : Cert.RefFfn1Ideal.Facts) (hFfn2 : Cert.Ffn2.Facts) (hFfn2Ideal : Cert.Ffn2Ideal.Facts) (hRefFfn2Ideal : Cert.RefFfn2Ideal.Facts) (hFfn3 : Cert.Ffn3.Facts) (hFfn3Ideal : Cert.Ffn3Ideal.Facts) (hRefFfn3Ideal : Cert.RefFfn3Ideal.Facts) (hQkv : Cert.Qkv.Facts) (hQkvIdeal : Cert.QkvIdeal.Facts) (hRefQkvIdeal : Cert.RefQkvIdeal.Facts) (hCin : Cert.Cin.Facts) (hCinIdeal : Cert.CinIdeal.Facts) (hRefCinIdeal : Cert.RefCinIdeal.Facts) (hRkv : Cert.Rkv.Facts) (hRkvIdeal : Cert.RkvIdeal.Facts) (hRefRkvIdeal : Cert.RefRkvIdeal.Facts) (hRkv1 : Cert.Rkv1.Facts) (hRkv1Ideal : Cert.Rkv1Ideal.Facts) (hRefRkv1Ideal : Cert.RefRkv1Ideal.Facts) (hNormP : Cert.NormP.Facts) (hNormPIdeal : Cert.NormPIdeal.Facts) (hRefNormPIdeal : Cert.RefNormPIdeal.Facts) (hNormS : Cert.NormS.Facts) (hNormSIdeal : Cert.NormSIdeal.Facts) (hRefNormSIdeal : Cert.RefNormSIdeal.Facts) (hMls : Cert.Mls.Facts) (hMlsIdeal : Cert.MlsIdeal.Facts) (hRefMlsIdeal : Cert.RefMlsIdeal.Facts) (hShift : Cert.Shift.Facts) (hShiftIdeal : Cert.ShiftIdeal.Facts) (hRefShiftIdeal : Cert.RefShiftIdeal.Facts) (hShift1 : Cert.Shift1.Facts) (hShift1Ideal : Cert.Shift1Ideal.Facts) (hRefShift1Ideal : Cert.RefShift1Ideal.Facts),
    quiescent_Ffn (hFfn := hFfn)
    ∧ quiescent_FfnIdeal (hFfnIdeal := hFfnIdeal)
    ∧ quiescent_RefFfnIdeal (hRefFfnIdeal := hRefFfnIdeal)
    ∧ quiescent_Ffn1 (hFfn1 := hFfn1)
    ∧ quiescent_Ffn1Ideal (hFfn1Ideal := hFfn1Ideal)
    ∧ quiescent_RefFfn1Ideal (hRefFfn1Ideal := hRefFfn1Ideal)
    ∧ quiescent_Ffn2 (hFfn2 := hFfn2)
    ∧ quiescent_Ffn2Ideal (hFfn2Ideal := hFfn2Ideal)
    ∧ quiescent_RefFfn2Ideal (hRefFfn2Ideal := hRefFfn2Ideal)
    ∧ quiescent_Ffn3 (hFfn3 := hFfn3)
    ∧ quiescent_Ffn3Ideal (hFfn3Ideal := hFfn3Ideal)
    ∧ quiescent_RefFfn3Ideal (hRefFfn3Ideal := hRefFfn3Ideal)
    ∧ quiescent_Qkv (hQkv := hQkv)
    ∧ quiescent_QkvIdeal (hQkvIdeal := hQkvIdeal)
    ∧ quiescent_RefQkvIdeal (hRefQkvIdeal := hRefQkvIdeal)
    ∧ quiescent_Cin (hCin := hCin)
    ∧ quiescent_CinIdeal (hCinIdeal := hCinIdeal)
    ∧ quiescent_RefCinIdeal (hRefCinIdeal := hRefCinIdeal)
    ∧ quiescent_Rkv (hRkv := hRkv)
    ∧ quiescent_RkvIdeal (hRkvIdeal := hRkvIdeal)
    ∧ quiescent_RefRkvIdeal (hRefRkvIdeal := hRefRkvIdeal)
    ∧ quiescent_Rkv1 (hRkv1 := hRkv1)
    ∧ quiescent_Rkv1Ideal (hRkv1Ideal := hRkv1Ideal)
    ∧ quiescent_RefRkv1Ideal (hRefRkv1Ideal := hRefRkv1Ideal)
    ∧ quiescent_NormP (hNormP := hNormP)
    ∧ quiescent_NormPIdeal (hNormPIdeal := hNormPIdeal)
    ∧ quiescent_RefNormPIdeal (hRefNormPIdeal := hRefNormPIdeal)
    ∧ quiescent_NormS (hNormS := hNormS)
    ∧ quiescent_NormSIdeal (hNormSIdeal := hNormSIdeal)
    ∧ quiescent_RefNormSIdeal (hRefNormSIdeal := hRefNormSIdeal)
    ∧ quiescent_Mls (hMls := hMls)
    ∧ quiescent_MlsIdeal (hMlsIdeal := hMlsIdeal)
    ∧ quiescent_RefMlsIdeal (hRefMlsIdeal := hRefMlsIdeal)
    ∧ quiescent_Shift (hShift := hShift)
    ∧ quiescent_ShiftIdeal (hShiftIdeal := hShiftIdeal)
    ∧ quiescent_RefShiftIdeal (hRefShiftIdeal := hRefShiftIdeal)
    ∧ quiescent_Shift1 (hShift1 := hShift1)
    ∧ quiescent_Shift1Ideal (hShift1Ideal := hShift1Ideal)
    ∧ quiescent_RefShift1Ideal (hRefShift1Ideal := hRefShift1Ideal)
    ∧ preserves_Ffn_FfnIdeal
    ∧ algebraic_FfnIdeal_RefFfnIdeal (hFfnIdeal := hFfnIdeal) (hRefFfnIdeal := hRefFfnIdeal)
    ∧ preserves_Ffn1_Ffn1Ideal
    ∧ algebraic_Ffn1Ideal_RefFfn1Ideal (hFfn1Ideal := hFfn1Ideal) (hRefFfn1Ideal := hRefFfn1Ideal)
    ∧ preserves_Ffn2_Ffn2Ideal
    ∧ algebraic_Ffn2Ideal_RefFfn2Ideal (hFfn2Ideal := hFfn2Ideal) (hRefFfn2Ideal := hRefFfn2Ideal)
    ∧ preserves_Ffn3_Ffn3Ideal
    ∧ algebraic_Ffn3Ideal_RefFfn3Ideal (hFfn3Ideal := hFfn3Ideal) (hRefFfn3Ideal := hRefFfn3Ideal)
    ∧ preserves_Qkv_QkvIdeal
    ∧ algebraic_QkvIdeal_RefQkvIdeal (hQkvIdeal := hQkvIdeal) (hRefQkvIdeal := hRefQkvIdeal)
    ∧ preserves_Cin_CinIdeal
    ∧ algebraic_CinIdeal_RefCinIdeal (hCinIdeal := hCinIdeal) (hRefCinIdeal := hRefCinIdeal)
    ∧ preserves_Rkv_RkvIdeal
    ∧ algebraic_RkvIdeal_RefRkvIdeal (hRkvIdeal := hRkvIdeal) (hRefRkvIdeal := hRefRkvIdeal)
    ∧ preserves_Rkv1_Rkv1Ideal
    ∧ algebraic_Rkv1Ideal_RefRkv1Ideal (hRkv1Ideal := hRkv1Ideal) (hRefRkv1Ideal := hRefRkv1Ideal)
    ∧ preserves_NormP_NormPIdeal
    ∧ algebraic_NormPIdeal_RefNormPIdeal (hNormPIdeal := hNormPIdeal) (hRefNormPIdeal := hRefNormPIdeal)
    ∧ preserves_NormS_NormSIdeal
    ∧ algebraic_NormSIdeal_RefNormSIdeal (hNormSIdeal := hNormSIdeal) (hRefNormSIdeal := hRefNormSIdeal)
    ∧ preserves_Mls_MlsIdeal
    ∧ algebraic_MlsIdeal_RefMlsIdeal (hMlsIdeal := hMlsIdeal) (hRefMlsIdeal := hRefMlsIdeal)
    ∧ preserves_Shift_ShiftIdeal
    ∧ algebraic_ShiftIdeal_RefShiftIdeal (hShiftIdeal := hShiftIdeal) (hRefShiftIdeal := hRefShiftIdeal)
    ∧ preserves_Shift1_Shift1Ideal
    ∧ algebraic_Shift1Ideal_RefShift1Ideal (hShift1Ideal := hShift1Ideal) (hRefShift1Ideal := hRefShift1Ideal)
-- ==== Ffn.lean ====
abbrev S8256x2048 : Shape := ⟨2, ![8256, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S688x2048 : Shape := ⟨2, ![688, 2048]⟩
abbrev S1x2048x512 : Shape := ⟨3, ![1, 2048, 512]⟩
abbrev S1x512x2048 : Shape := ⟨3, ![1, 512, 2048]⟩
abbrev S688 : Shape := ⟨1, ![688]⟩
abbrev S688x1 : Shape := ⟨2, ![688, 1]⟩
abbrev S2048x512 : Shape := ⟨2, ![2048, 512]⟩
abbrev S688x512 : Shape := ⟨2, ![688, 512]⟩
abbrev S512x2048 : Shape := ⟨2, ![512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x512x2048, .f32⟩
  | .local _ .vmem, ⟨8, _⟩ => ⟨S1x512x2048, .f32⟩
  | .local _ .vmem, ⟨9, _⟩ => ⟨S688x2048, .f32⟩
  | .local _ .vmem, ⟨10, _⟩ => ⟨S688x2048, .f32⟩
  | .local _ .vmem, ⟨11, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefFfnIdeal.lean ====
abbrev S8256x2048 : Shape := ⟨2, ![8256, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8256x11264 : Shape := ⟨2, ![8256, 11264]⟩
abbrev S8256x5632 : Shape := ⟨2, ![8256, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S8256x2048, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x2048, .f32⟩
  | .hbm, ⟨18, _⟩ => ⟨S8256x2048, .f32⟩
  | .hbm, ⟨19, _⟩ => ⟨S1x2048, .f32⟩
  | .hbm, ⟨20, _⟩ => ⟨S8256x2048, .f32⟩
  | .hbm, ⟨21, _⟩ => ⟨S8256x2048, .f32⟩
  | .hbm, ⟨22, _⟩ => ⟨S1x2048x11264, .f32⟩
  | .hbm, ⟨23, _⟩ => ⟨S2048x11264, .f32⟩
  | .hbm, ⟨24, _⟩ => ⟨S1x5632x2048, .f32⟩
  | .hbm, ⟨25, _⟩ => ⟨S5632x2048, .f32⟩
  | .hbm, ⟨26, _⟩ => ⟨S8256x11264, .f32⟩
  | .hbm, ⟨27, _⟩ => ⟨S8256x5632, .f32⟩
  | .hbm, ⟨28, _⟩ => ⟨S8256x5632, .f32⟩
  | .hbm, ⟨29, _⟩ => ⟨S8256x5632, .f32⟩
  | .hbm, ⟨30, _⟩ => ⟨S8256x5632, .f32⟩
  | .hbm, ⟨31, _⟩ => ⟨S_, .f32⟩
  | .hbm, ⟨32, _⟩ => ⟨S8256x5632, .f32⟩
  | .hbm, ⟨33, _⟩ => ⟨S8256x5632, .f32⟩
  | .hbm, ⟨34, _⟩ => ⟨S_, .f32⟩
  | .hbm, ⟨35, _⟩ => ⟨S8256x5632, .f32⟩
  | .hbm, ⟨36, _⟩ => ⟨S8256x5632, .f32⟩
  | .hbm, ⟨37, _⟩ => ⟨S8256x5632, .f32⟩
  | .hbm, ⟨38, _⟩ => ⟨S8256x5632, .f32⟩
  | .hbm, ⟨39, _⟩ => ⟨S8256x2048, .f32⟩
  | .hbm, ⟨40, _⟩ => ⟨S_, .f32⟩
  | .hbm, ⟨41, _⟩ => ⟨S8256x2048, .f32⟩
  | .hbm, ⟨42, _⟩ => ⟨S8256x2048, .f32⟩
  | .hbm, ⟨43, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Ffn1.lean ====
abbrev S8256x2048 : Shape := ⟨2, ![8256, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S688x2048 : Shape := ⟨2, ![688, 2048]⟩
abbrev S1x2048x512 : Shape := ⟨3, ![1, 2048, 512]⟩
abbrev S1x512x2048 : Shape := ⟨3, ![1, 512, 2048]⟩
abbrev S688 : Shape := ⟨1, ![688]⟩
abbrev S688x1 : Shape := ⟨2, ![688, 1]⟩
abbrev S2048x512 : Shape := ⟨2, ![2048, 512]⟩
abbrev S688x512 : Shape := ⟨2, ![688, 512]⟩
abbrev S512x2048 : Shape := ⟨2, ![512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x512x2048, .f32⟩
  | .local _ .vmem, ⟨8, _⟩ => ⟨S1x512x2048, .f32⟩
  | .local _ .vmem, ⟨9, _⟩ => ⟨S688x2048, .f32⟩
  | .local _ .vmem, ⟨10, _⟩ => ⟨S688x2048, .f32⟩
  | .local _ .vmem, ⟨11, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefFfn1Ideal.lean ====
abbrev S8256x2048 : Shape := ⟨2, ![8256, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8256x11264 : Shape := ⟨2, ![8256, 11264]⟩
abbrev S8256x5632 : Shape := ⟨2, ![8256, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S8256x2048, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x2048, .f32⟩
  | .hbm, ⟨18, _⟩ => ⟨S8256x2048, .f32⟩
  | .hbm, ⟨19, _⟩ => ⟨S1x2048, .f32⟩
  | .hbm, ⟨20, _⟩ => ⟨S8256x2048, .f32⟩
  | .hbm, ⟨21, _⟩ => ⟨S8256x2048, .f32⟩
  | .hbm, ⟨22, _⟩ => ⟨S1x2048x11264, .f32⟩
  | .hbm, ⟨23, _⟩ => ⟨S2048x11264, .f32⟩
  | .hbm, ⟨24, _⟩ => ⟨S1x5632x2048, .f32⟩
  | .hbm, ⟨25, _⟩ => ⟨S5632x2048, .f32⟩
  | .hbm, ⟨26, _⟩ => ⟨S8256x11264, .f32⟩
  | .hbm, ⟨27, _⟩ => ⟨S8256x5632, .f32⟩
  | .hbm, ⟨28, _⟩ => ⟨S8256x5632, .f32⟩
  | .hbm, ⟨29, _⟩ => ⟨S8256x5632, .f32⟩
  | .hbm, ⟨30, _⟩ => ⟨S8256x5632, .f32⟩
  | .hbm, ⟨31, _⟩ => ⟨S_, .f32⟩
  | .hbm, ⟨32, _⟩ => ⟨S8256x5632, .f32⟩
  | .hbm, ⟨33, _⟩ => ⟨S8256x5632, .f32⟩
  | .hbm, ⟨34, _⟩ => ⟨S_, .f32⟩
  | .hbm, ⟨35, _⟩ => ⟨S8256x5632, .f32⟩
  | .hbm, ⟨36, _⟩ => ⟨S8256x5632, .f32⟩
  | .hbm, ⟨37, _⟩ => ⟨S8256x5632, .f32⟩
  | .hbm, ⟨38, _⟩ => ⟨S8256x5632, .f32⟩
  | .hbm, ⟨39, _⟩ => ⟨S8256x2048, .f32⟩
  | .hbm, ⟨40, _⟩ => ⟨S_, .f32⟩
  | .hbm, ⟨41, _⟩ => ⟨S8256x2048, .f32⟩
  | .hbm, ⟨42, _⟩ => ⟨S8256x2048, .f32⟩
  | .hbm, ⟨43, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Ffn2.lean ====
abbrev S8256x2048 : Shape := ⟨2, ![8256, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S688x2048 : Shape := ⟨2, ![688, 2048]⟩
abbrev S1x2048x512 : Shape := ⟨3, ![1, 2048, 512]⟩
abbrev S1x512x2048 : Shape := ⟨3, ![1, 512, 2048]⟩
abbrev S688 : Shape := ⟨1, ![688]⟩
abbrev S688x1 : Shape := ⟨2, ![688, 1]⟩
abbrev S2048x512 : Shape := ⟨2, ![2048, 512]⟩
abbrev S688x512 : Shape := ⟨2, ![688, 512]⟩
abbrev S512x2048 : Shape := ⟨2, ![512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x512x2048, .f32⟩
  | .local _ .vmem, ⟨8, _⟩ => ⟨S1x512x2048, .f32⟩
  | .local _ .vmem, ⟨9, _⟩ => ⟨S688x2048, .f32⟩
  | .local _ .vmem, ⟨10, _⟩ => ⟨S688x2048, .f32⟩
  | .local _ .vmem, ⟨11, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c2_i32 : BitVec 32 := 2#32
  let c0_i32 : BitVec 32 := 0#32
  let c0_i32_0 : BitVec 32 := 0#32
  ![c2_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefFfn2Ideal.lean ====
abbrev S8256x2048 : Shape := ⟨2, ![8256, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8256x11264 : Shape := ⟨2, ![8256, 11264]⟩
abbrev S8256x5632 : Shape := ⟨2, ![8256, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S8256x2048, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x2048, .f32⟩
  | .hbm, ⟨18, _⟩ => ⟨S8256x2048, .f32⟩
  | .hbm, ⟨19, _⟩ => ⟨S1x2048, .f32⟩
  | .hbm, ⟨20, _⟩ => ⟨S8256x2048, .f32⟩
  | .hbm, ⟨21, _⟩ => ⟨S8256x2048, .f32⟩
  | .hbm, ⟨22, _⟩ => ⟨S1x2048x11264, .f32⟩
  | .hbm, ⟨23, _⟩ => ⟨S2048x11264, .f32⟩
  | .hbm, ⟨24, _⟩ => ⟨S1x5632x2048, .f32⟩
  | .hbm, ⟨25, _⟩ => ⟨S5632x2048, .f32⟩
  | .hbm, ⟨26, _⟩ => ⟨S8256x11264, .f32⟩
  | .hbm, ⟨27, _⟩ => ⟨S8256x5632, .f32⟩
  | .hbm, ⟨28, _⟩ => ⟨S8256x5632, .f32⟩
  | .hbm, ⟨29, _⟩ => ⟨S8256x5632, .f32⟩
  | .hbm, ⟨30, _⟩ => ⟨S8256x5632, .f32⟩
  | .hbm, ⟨31, _⟩ => ⟨S_, .f32⟩
  | .hbm, ⟨32, _⟩ => ⟨S8256x5632, .f32⟩
  | .hbm, ⟨33, _⟩ => ⟨S8256x5632, .f32⟩
  | .hbm, ⟨34, _⟩ => ⟨S_, .f32⟩
  | .hbm, ⟨35, _⟩ => ⟨S8256x5632, .f32⟩
  | .hbm, ⟨36, _⟩ => ⟨S8256x5632, .f32⟩
  | .hbm, ⟨37, _⟩ => ⟨S8256x5632, .f32⟩
  | .hbm, ⟨38, _⟩ => ⟨S8256x5632, .f32⟩
  | .hbm, ⟨39, _⟩ => ⟨S8256x2048, .f32⟩
  | .hbm, ⟨40, _⟩ => ⟨S_, .f32⟩
  | .hbm, ⟨41, _⟩ => ⟨S8256x2048, .f32⟩
  | .hbm, ⟨42, _⟩ => ⟨S8256x2048, .f32⟩
  | .hbm, ⟨43, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Ffn3.lean ====
abbrev S8256x2048 : Shape := ⟨2, ![8256, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S688x2048 : Shape := ⟨2, ![688, 2048]⟩
abbrev S1x2048x512 : Shape := ⟨3, ![1, 2048, 512]⟩
abbrev S1x512x2048 : Shape := ⟨3, ![1, 512, 2048]⟩
abbrev S688 : Shape := ⟨1, ![688]⟩
abbrev S688x1 : Shape := ⟨2, ![688, 1]⟩
abbrev S2048x512 : Shape := ⟨2, ![2048, 512]⟩
abbrev S688x512 : Shape := ⟨2, ![688, 512]⟩
abbrev S512x2048 : Shape := ⟨2, ![512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x512x2048, .f32⟩
  | .local _ .vmem, ⟨8, _⟩ => ⟨S1x512x2048, .f32⟩
  | .local _ .vmem, ⟨9, _⟩ => ⟨S688x2048, .f32⟩
  | .local _ .vmem, ⟨10, _⟩ => ⟨S688x2048, .f32⟩
  | .local _ .vmem, ⟨11, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefFfn3Ideal.lean ====
abbrev S8256x2048 : Shape := ⟨2, ![8256, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8256x11264 : Shape := ⟨2, ![8256, 11264]⟩
abbrev S8256x5632 : Shape := ⟨2, ![8256, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S8256x2048, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x2048, .f32⟩
  | .hbm, ⟨18, _⟩ => ⟨S8256x2048, .f32⟩
  | .hbm, ⟨19, _⟩ => ⟨S1x2048, .f32⟩
  | .hbm, ⟨20, _⟩ => ⟨S8256x2048, .f32⟩
  | .hbm, ⟨21, _⟩ => ⟨S8256x2048, .f32⟩
  | .hbm, ⟨22, _⟩ => ⟨S1x2048x11264, .f32⟩
  | .hbm, ⟨23, _⟩ => ⟨S2048x11264, .f32⟩
  | .hbm, ⟨24, _⟩ => ⟨S1x5632x2048, .f32⟩
  | .hbm, ⟨25, _⟩ => ⟨S5632x2048, .f32⟩
  | .hbm, ⟨26, _⟩ => ⟨S8256x11264, .f32⟩
  | .hbm, ⟨27, _⟩ => ⟨S8256x5632, .f32⟩
  | .hbm, ⟨28, _⟩ => ⟨S8256x5632, .f32⟩
  | .hbm, ⟨29, _⟩ => ⟨S8256x5632, .f32⟩
  | .hbm, ⟨30, _⟩ => ⟨S8256x5632, .f32⟩
  | .hbm, ⟨31, _⟩ => ⟨S_, .f32⟩
  | .hbm, ⟨32, _⟩ => ⟨S8256x5632, .f32⟩
  | .hbm, ⟨33, _⟩ => ⟨S8256x5632, .f32⟩
  | .hbm, ⟨34, _⟩ => ⟨S_, .f32⟩
  | .hbm, ⟨35, _⟩ => ⟨S8256x5632, .f32⟩
  | .hbm, ⟨36, _⟩ => ⟨S8256x5632, .f32⟩
  | .hbm, ⟨37, _⟩ => ⟨S8256x5632, .f32⟩
  | .hbm, ⟨38, _⟩ => ⟨S8256x5632, .f32⟩
  | .hbm, ⟨39, _⟩ => ⟨S8256x2048, .f32⟩
  | .hbm, ⟨40, _⟩ => ⟨S_, .f32⟩
  | .hbm, ⟨41, _⟩ => ⟨S8256x2048, .f32⟩
  | .hbm, ⟨42, _⟩ => ⟨S8256x2048, .f32⟩
  | .hbm, ⟨43, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Qkv.lean ====
abbrev S8256x2048 : Shape := ⟨2, ![8256, 2048]⟩
abbrev S4x2048 : Shape := ⟨2, ![4, 2048]⟩
abbrev S1x2048x18432 : Shape := ⟨3, ![1, 2048, 18432]⟩
abbrev S2048x18432 : Shape := ⟨2, ![2048, 18432]⟩
abbrev S1x2048 : Shape := ⟨2, ![1, 2048]⟩
abbrev S2048 : Shape := ⟨1, ![2048]⟩
abbrev S8256x18432 : Shape := ⟨2, ![8256, 18432]⟩
abbrev S688x2048 : Shape := ⟨2, ![688, 2048]⟩
abbrev S2048x2048 : Shape := ⟨2, ![2048, 2048]⟩
abbrev S688 : Shape := ⟨1, ![688]⟩
abbrev S688x1 : Shape := ⟨2, ![688, 1]⟩

abbrev nBuf : Space → Nat
  | .hbm => 9
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S1x2048x18432, .f32⟩
  | .hbm, ⟨3, _⟩ => ⟨S2048x18432, .f32⟩
  | .hbm, ⟨4, _⟩ => ⟨S2048x18432, .bf16⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8256x18432, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S688x2048, .f32⟩
  | .local _ .vmem, ⟨6, _⟩ => ⟨S688x2048, .f32⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefQkvIdeal.lean ====
abbrev S8256x2048 : Shape := ⟨2, ![8256, 2048]⟩
abbrev S4x2048 : Shape := ⟨2, ![4, 2048]⟩
abbrev S1x2048x18432 : Shape := ⟨3, ![1, 2048, 18432]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S2048x18432 : Shape := ⟨2, ![2048, 18432]⟩
abbrev S8256x18432 : Shape := ⟨2, ![8256, 18432]⟩

abbrev nBuf : Space → Nat
  | .hbm => 23
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S1x2048x18432, .f32⟩
  | .hbm, ⟨3, _⟩ => ⟨S1x2048, .f32⟩
  | .hbm, ⟨4, _⟩ => ⟨S2048, .f32⟩
  | .hbm, ⟨5, _⟩ => ⟨S8256x2048, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x2048, .f32⟩
  | .hbm, ⟨17, _⟩ => ⟨S8256x2048, .f32⟩
  | .hbm, ⟨18, _⟩ => ⟨S1x2048, .f32⟩
  | .hbm, ⟨19, _⟩ => ⟨S8256x2048, .f32⟩
  | .hbm, ⟨20, _⟩ => ⟨S8256x2048, .f32⟩
  | .hbm, ⟨21, _⟩ => ⟨S2048x18432, .f32⟩
  | .hbm, ⟨22, _⟩ => ⟨S8256x18432, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Cin.lean ====
abbrev S8256x2048 : Shape := ⟨2, ![8256, 2048]⟩
abbrev S4x2048 : Shape := ⟨2, ![4, 2048]⟩
abbrev S1x2048x6160 : Shape := ⟨3, ![1, 2048, 6160]⟩
abbrev S2048x6160 : Shape := ⟨2, ![2048, 6160]⟩
abbrev S_ : Shape := ⟨0, ![]⟩
abbrev S2048x6272 : Shape := ⟨2, ![2048, 6272]⟩
abbrev S1x2048 : Shape := ⟨2, ![1, 2048]⟩
abbrev S2048 : Shape := ⟨1, ![2048]⟩
abbrev S8256x6272 : Shape := ⟨2, ![8256, 6272]⟩
abbrev S688x2048 : Shape := ⟨2, ![688, 2048]⟩
abbrev S2048x896 : Shape := ⟨2, ![2048, 896]⟩
abbrev S688x896 : Shape := ⟨2, ![688, 896]⟩
abbrev S688 : Shape := ⟨1, ![688]⟩
abbrev S688x1 : Shape := ⟨2, ![688, 1]⟩

abbrev nBuf : Space → Nat
  | .hbm => 12
  | .vmem => 8
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S1x2048x6160, .f32⟩
  | .hbm, ⟨3, _⟩ => ⟨S2048x6160, .f32⟩
  | .hbm, ⟨4, _⟩ => ⟨S_, .i32⟩
  | .hbm, ⟨5, _⟩ => ⟨S_, .f32⟩
  | .hbm, ⟨6, _⟩ => ⟨S2048x6272, .f32⟩
  | .hbm, ⟨7, _⟩ => ⟨S2048x6272, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8256x6272, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S688x896, .f32⟩
  | .local _ .vmem, ⟨6, _⟩ => ⟨S688x896, .f32⟩
  | .local _ .vmem, ⟨7, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefCinIdeal.lean ====
abbrev S8256x2048 : Shape := ⟨2, ![8256, 2048]⟩
abbrev S4x2048 : Shape := ⟨2, ![4, 2048]⟩
abbrev S1x2048x6160 : Shape := ⟨3, ![1, 2048, 6160]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S2048x6160 : Shape := ⟨2, ![2048, 6160]⟩
abbrev S8256x6160 : Shape := ⟨2, ![8256, 6160]⟩
abbrev S8256x6272 : Shape := ⟨2, ![8256, 6272]⟩

abbrev nBuf : Space → Nat
  | .hbm => 26
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S1x2048x6160, .f32⟩
  | .hbm, ⟨3, _⟩ => ⟨S1x2048, .f32⟩
  | .hbm, ⟨4, _⟩ => ⟨S2048, .f32⟩
  | .hbm, ⟨5, _⟩ => ⟨S8256x2048, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x2048, .f32⟩
  | .hbm, ⟨17, _⟩ => ⟨S8256x2048, .f32⟩
  | .hbm, ⟨18, _⟩ => ⟨S1x2048, .f32⟩
  | .hbm, ⟨19, _⟩ => ⟨S8256x2048, .f32⟩
  | .hbm, ⟨20, _⟩ => ⟨S8256x2048, .f32⟩
  | .hbm, ⟨21, _⟩ => ⟨S2048x6160, .f32⟩
  | .hbm, ⟨22, _⟩ => ⟨S8256x6160, .f32⟩
  | .hbm, ⟨23, _⟩ => ⟨S_, .i32⟩
  | .hbm, ⟨24, _⟩ => ⟨S_, .f32⟩
  | .hbm, ⟨25, _⟩ => ⟨S8256x6272, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Rkv.lean ====
abbrev S8256x2048 : Shape := ⟨2, ![8256, 2048]⟩
abbrev S2x6x2048 : Shape := ⟨3, ![2, 6, 2048]⟩
abbrev S2x3x2048x2048 : Shape := ⟨4, ![2, 3, 2048, 2048]⟩
abbrev S3 : Shape := ⟨1, ![3]⟩
abbrev S1x6x2048 : Shape := ⟨3, ![1, 6, 2048]⟩
abbrev S6x2048 : Shape := ⟨2, ![6, 2048]⟩
abbrev S_ : Shape := ⟨0, ![]⟩
abbrev S3x1 : Shape := ⟨2, ![3, 1]⟩
abbrev S3x2048 : Shape := ⟨2, ![3, 2048]⟩
abbrev S3x1x2048 : Shape := ⟨3, ![3, 1, 2048]⟩
abbrev S3x8256x2048 : Shape := ⟨3, ![3, 8256, 2048]⟩
abbrev S688x2048 : Shape := ⟨2, ![688, 2048]⟩
abbrev S1x1x2048 : Shape := ⟨3, ![1, 1, 2048]⟩
abbrev S1x1x2048x2048 : Shape := ⟨4, ![1, 1, 2048, 2048]⟩
abbrev S1x688x2048 : Shape := ⟨3, ![1, 688, 2048]⟩
abbrev S1x2048 : Shape := ⟨2, ![1, 2048]⟩
abbrev S2048x2048 : Shape := ⟨2, ![2048, 2048]⟩

abbrev nBuf : Space → Nat
  | .hbm => 19
  | .vmem => 11
  | .smem => 0
  | _ => 0

abbrev bufTy : (tb : Table) → Fin (tcTables nBuf tb) → BufTy
  | .hbm, ⟨0, _⟩ => ⟨S8256x2048, .f32⟩
  | .hbm, ⟨1, _⟩ => ⟨S8256x2048, .f32⟩
  | .hbm, ⟨2, _⟩ => ⟨S2x6x2048, .f32⟩
  | .hbm, ⟨3, _⟩ => ⟨S2x3x2048x2048, .f32⟩
  | .hbm, ⟨4, _⟩ => ⟨S3, .i32⟩
  | .hbm, ⟨5, _⟩ => ⟨S1x6x2048, .f32⟩
  | .hbm, ⟨6, _⟩ => ⟨S6x2048, .f32⟩
  | .hbm, ⟨7, _⟩ => ⟨S_, .i32⟩
  | .hbm, ⟨8, _⟩ => ⟨S3, .i32⟩
  | .hbm, ⟨9, _⟩ => ⟨S3, .i1⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S3, .i32⟩
  | .hbm, ⟨14, _⟩ => ⟨S3x1, .i32⟩
  | .hbm, ⟨15, _⟩ => ⟨S3x2048, .f32⟩
  | .hbm, ⟨16, _⟩ => ⟨S3x1x2048, .f32⟩
  | .hbm, ⟨17, _⟩ => ⟨S2x3x2048x2048, .bf16⟩
  | .hbm, ⟨18, _⟩ => ⟨S3x8256x2048, .f32⟩
  | .local _ .vmem, ⟨0, _⟩ => ⟨S688x2048, .f32⟩
  | .local _ .vmem, ⟨1, _⟩ => ⟨S688x2048, .f32⟩
  | .local _ .vmem, ⟨2, _⟩ => ⟨S688x2048, .f32⟩
  | .local _ .vmem, ⟨3, _⟩ => ⟨S688x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048x2048, .bf16⟩
  | .local _ .vmem, ⟨7, _⟩ => ⟨S1x1x2048x2048, .bf16⟩
  | .local _ .vmem, ⟨8, _⟩ => ⟨S1x688x2048, .f32⟩
  | .local _ .vmem, ⟨9, _⟩ => ⟨S1x688x2048, .f32⟩
  | .local _ .vmem, ⟨10, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![12, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S688x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x688x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== RefRkvIdeal.lean ====
abbrev S8256x2048 : Shape := ⟨2, ![8256, 2048]⟩
abbrev S2x6x2048 : Shape := ⟨3, ![2, 6, 2048]⟩
abbrev S2x3x2048x2048 : Shape := ⟨4, ![2, 3, 2048, 2048]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S1x8256x2048 : Shape := ⟨3, ![1, 8256, 2048]⟩
abbrev S3x8256x2048 : Shape := ⟨3, ![3, 8256, 2048]⟩
abbrev S1x3x2048x2048 : Shape := ⟨4, ![1, 3, 2048, 2048]⟩
abbrev S3x2048x2048 : Shape := ⟨3, ![3, 2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S8256x2048, .f32⟩
  | .hbm, ⟨2, _⟩ => ⟨S2x6x2048, .f32⟩
  | .hbm, ⟨3, _⟩ => ⟨S2x3x2048x2048, .f32⟩
  | .hbm, ⟨4, _⟩ => ⟨S8256x2048, .f32⟩
  | .hbm, ⟨5, _⟩ => ⟨S1x6x2048, .f32⟩
  | .hbm, ⟨6, _⟩ => ⟨S6x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8256x2048, .f32⟩
  | .hbm, ⟨11, _⟩ => ⟨S8256x2048, .f32⟩
  | .hbm, ⟨12, _⟩ => ⟨S8256x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8256x2048, .f32⟩
  | .hbm, ⟨17, _⟩ => ⟨S8256x2048, .f32⟩
  | .hbm, ⟨18, _⟩ => ⟨S8256x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8256x2048, .f32⟩
  | .hbm, ⟨23, _⟩ => ⟨S8256x2048, .f32⟩
  | .hbm, ⟨24, _⟩ => ⟨S8256x2048, .f32⟩
  | .hbm, ⟨25, _⟩ => ⟨S1x8256x2048, .f32⟩
  | .hbm, ⟨26, _⟩ => ⟨S1x8256x2048, .f32⟩
  | .hbm, ⟨27, _⟩ => ⟨S1x8256x2048, .f32⟩
  | .hbm, ⟨28, _⟩ => ⟨S3x8256x2048, .f32⟩
  | .hbm, ⟨29, _⟩ => ⟨S1x3x2048x2048, .f32⟩
  | .hbm, ⟨30, _⟩ => ⟨S3x2048x2048, .f32⟩
  | .hbm, ⟨31, _⟩ => ⟨S3x8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== Rkv1.lean ====
abbrev S8256x2048 : Shape := ⟨2, ![8256, 2048]⟩
abbrev S2x6x2048 : Shape := ⟨3, ![2, 6, 2048]⟩
abbrev S2x3x2048x2048 : Shape := ⟨4, ![2, 3, 2048, 2048]⟩
abbrev S3 : Shape := ⟨1, ![3]⟩
abbrev S1x6x2048 : Shape := ⟨3, ![1, 6, 2048]⟩
abbrev S6x2048 : Shape := ⟨2, ![6, 2048]⟩
abbrev S_ : Shape := ⟨0, ![]⟩
abbrev S3x1 : Shape := ⟨2, ![3, 1]⟩
abbrev S3x2048 : Shape := ⟨2, ![3, 2048]⟩
abbrev S3x1x2048 : Shape := ⟨3, ![3, 1, 2048]⟩
abbrev S3x8256x2048 : Shape := ⟨3, ![3, 8256, 2048]⟩
abbrev S688x2048 : Shape := ⟨2, ![688, 2048]⟩
abbrev S1x1x2048 : Shape := ⟨3, ![1, 1, 2048]⟩
abbrev S1x1x2048x2048 : Shape := ⟨4, ![1, 1, 2048, 2048]⟩
abbrev S1x688x2048 : Shape := ⟨3, ![1, 688, 2048]⟩
abbrev S1x2048 : Shape := ⟨2, ![1, 2048]⟩
abbrev S2048x2048 : Shape := ⟨2, ![2048, 2048]⟩

abbrev nBuf : Space → Nat
  | .hbm => 19
  | .vmem => 11
  | .smem => 0
  | _ => 0

abbrev bufTy : (tb : Table) → Fin (tcTables nBuf tb) → BufTy
  | .hbm, ⟨0, _⟩ => ⟨S8256x2048, .f32⟩
  | .hbm, ⟨1, _⟩ => ⟨S8256x2048, .f32⟩
  | .hbm, ⟨2, _⟩ => ⟨S2x6x2048, .f32⟩
  | .hbm, ⟨3, _⟩ => ⟨S2x3x2048x2048, .f32⟩
  | .hbm, ⟨4, _⟩ => ⟨S3, .i32⟩
  | .hbm, ⟨5, _⟩ => ⟨S1x6x2048, .f32⟩
  | .hbm, ⟨6, _⟩ => ⟨S6x2048, .f32⟩
  | .hbm, ⟨7, _⟩ => ⟨S_, .i32⟩
  | .hbm, ⟨8, _⟩ => ⟨S3, .i32⟩
  | .hbm, ⟨9, _⟩ => ⟨S3, .i1⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S3, .i32⟩
  | .hbm, ⟨14, _⟩ => ⟨S3x1, .i32⟩
  | .hbm, ⟨15, _⟩ => ⟨S3x2048, .f32⟩
  | .hbm, ⟨16, _⟩ => ⟨S3x1x2048, .f32⟩
  | .hbm, ⟨17, _⟩ => ⟨S2x3x2048x2048, .bf16⟩
  | .hbm, ⟨18, _⟩ => ⟨S3x8256x2048, .f32⟩
  | .local _ .vmem, ⟨0, _⟩ => ⟨S688x2048, .f32⟩
  | .local _ .vmem, ⟨1, _⟩ => ⟨S688x2048, .f32⟩
  | .local _ .vmem, ⟨2, _⟩ => ⟨S688x2048, .f32⟩
  | .local _ .vmem, ⟨3, _⟩ => ⟨S688x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048x2048, .bf16⟩
  | .local _ .vmem, ⟨7, _⟩ => ⟨S1x1x2048x2048, .bf16⟩
  | .local _ .vmem, ⟨8, _⟩ => ⟨S1x688x2048, .f32⟩
  | .local _ .vmem, ⟨9, _⟩ => ⟨S1x688x2048, .f32⟩
  | .local _ .vmem, ⟨10, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![12, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S688x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x688x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== RefRkv1Ideal.lean ====
abbrev S8256x2048 : Shape := ⟨2, ![8256, 2048]⟩
abbrev S2x6x2048 : Shape := ⟨3, ![2, 6, 2048]⟩
abbrev S2x3x2048x2048 : Shape := ⟨4, ![2, 3, 2048, 2048]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S1x8256x2048 : Shape := ⟨3, ![1, 8256, 2048]⟩
abbrev S3x8256x2048 : Shape := ⟨3, ![3, 8256, 2048]⟩
abbrev S1x3x2048x2048 : Shape := ⟨4, ![1, 3, 2048, 2048]⟩
abbrev S3x2048x2048 : Shape := ⟨3, ![3, 2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S8256x2048, .f32⟩
  | .hbm, ⟨2, _⟩ => ⟨S2x6x2048, .f32⟩
  | .hbm, ⟨3, _⟩ => ⟨S2x3x2048x2048, .f32⟩
  | .hbm, ⟨4, _⟩ => ⟨S8256x2048, .f32⟩
  | .hbm, ⟨5, _⟩ => ⟨S1x6x2048, .f32⟩
  | .hbm, ⟨6, _⟩ => ⟨S6x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8256x2048, .f32⟩
  | .hbm, ⟨11, _⟩ => ⟨S8256x2048, .f32⟩
  | .hbm, ⟨12, _⟩ => ⟨S8256x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8256x2048, .f32⟩
  | .hbm, ⟨17, _⟩ => ⟨S8256x2048, .f32⟩
  | .hbm, ⟨18, _⟩ => ⟨S8256x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8256x2048, .f32⟩
  | .hbm, ⟨23, _⟩ => ⟨S8256x2048, .f32⟩
  | .hbm, ⟨24, _⟩ => ⟨S8256x2048, .f32⟩
  | .hbm, ⟨25, _⟩ => ⟨S1x8256x2048, .f32⟩
  | .hbm, ⟨26, _⟩ => ⟨S1x8256x2048, .f32⟩
  | .hbm, ⟨27, _⟩ => ⟨S1x8256x2048, .f32⟩
  | .hbm, ⟨28, _⟩ => ⟨S3x8256x2048, .f32⟩
  | .hbm, ⟨29, _⟩ => ⟨S1x3x2048x2048, .f32⟩
  | .hbm, ⟨30, _⟩ => ⟨S3x2048x2048, .f32⟩
  | .hbm, ⟨31, _⟩ => ⟨S3x8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== NormP.lean ====
abbrev S8256x2048 : Shape := ⟨2, ![8256, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormPIdeal.lean ====
abbrev S8256x2048 : Shape := ⟨2, ![8256, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormS.lean ====
abbrev S8256x2048 : Shape := ⟨2, ![8256, 2048]⟩
abbrev S2048 : Shape := ⟨1, ![2048]⟩
abbrev S1x2048 : Shape := ⟨2, ![1, 2048]⟩
abbrev S64x2048 : Shape := ⟨2, ![64, 2048]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S1x2048, .f32⟩
  | .hbm, ⟨3, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S64x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefNormSIdeal.lean ====
abbrev S8256x2048 : Shape := ⟨2, ![8256, 2048]⟩
abbrev S2048 : Shape := ⟨1, ![2048]⟩
abbrev S64x2048 : Shape := ⟨2, ![64, 2048]⟩
abbrev S_ : Shape := ⟨0, ![]⟩
abbrev S64 : Shape := ⟨1, ![64]⟩
abbrev S64x1 : Shape := ⟨2, ![64, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S2048, .f32⟩
  | .hbm, ⟨2, _⟩ => ⟨S64x2048, .f32⟩
  | .hbm, ⟨3, _⟩ => ⟨S64x2048, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x2048, .f32⟩
  | .hbm, ⟨15, _⟩ => ⟨S64x2048, .f32⟩
  | .hbm, ⟨16, _⟩ => ⟨S1x2048, .f32⟩
  | .hbm, ⟨17, _⟩ => ⟨S64x2048, .f32⟩
  | .hbm, ⟨18, _⟩ => ⟨S64x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mls.lean ====
abbrev S8256x6272 : Shape := ⟨2, ![8256, 6272]⟩
abbrev S1x16 : Shape := ⟨2, ![1, 16]⟩
abbrev S1x2048 : Shape := ⟨2, ![1, 2048]⟩
abbrev S1x8x8x256x128 : Shape := ⟨5, ![1, 8, 8, 256, 128]⟩
abbrev S1x8x8x128 : Shape := ⟨4, ![1, 8, 8, 128]⟩
abbrev S1x8x8 : Shape := ⟨3, ![1, 8, 8]⟩
abbrev S16 : Shape := ⟨1, ![16]⟩
abbrev S_ : Shape := ⟨0, ![]⟩
abbrev S1x128 : Shape := ⟨2, ![1, 128]⟩
abbrev S2048 : Shape := ⟨1, ![2048]⟩
abbrev S8x8x256x128 : Shape := ⟨4, ![8, 8, 256, 128]⟩
abbrev S8x8x128 : Shape := ⟨3, ![8, 8, 128]⟩
abbrev S8x8 : Shape := ⟨2, ![8, 8]⟩
abbrev S8x8x1 : Shape := ⟨3, ![8, 8, 1]⟩
abbrev S64x2048 : Shape := ⟨2, ![64, 2048]⟩
abbrev S8x1024 : Shape := ⟨2, ![8, 1024]⟩
abbrev S8x2048 : Shape := ⟨2, ![8, 2048]⟩
abbrev S8x128 : Shape := ⟨2, ![8, 128]⟩
abbrev S1x8x256x128 : Shape := ⟨4, ![1, 8, 256, 128]⟩
abbrev S1x8x128 : Shape := ⟨3, ![1, 8, 128]⟩
abbrev S8x256x128 : Shape := ⟨3, ![8, 256, 128]⟩
abbrev S64x64 : Shape := ⟨2, ![64, 64]⟩
abbrev S56x128 : Shape := ⟨2, ![56, 128]⟩
abbrev S64x128 : Shape := ⟨2, ![64, 128]⟩
abbrev S64x1 : Shape := ⟨2, ![64, 1]⟩
abbrev S128x64 : Shape := ⟨2, ![128, 64]⟩
abbrev S1x64 : Shape := ⟨2, ![1, 64]⟩
abbrev S8x256 : Shape := ⟨2, ![8, 256]⟩
abbrev S56x256 : Shape := ⟨2, ![56, 256]⟩
abbrev S64x256 : Shape := ⟨2, ![64, 256]⟩
abbrev S1x1 : Shape := ⟨2, ![1, 1]⟩
abbrev S1x256x128 : Shape := ⟨3, ![1, 256, 128]⟩
abbrev S256x128 : Shape := ⟨2, ![256, 128]⟩
abbrev S64 : Shape := ⟨1, ![64]⟩
abbrev S128 : Shape := ⟨1, ![128]⟩
abbrev S1x256 : Shape := ⟨2, ![1, 256]⟩

abbrev nBuf : Space → Nat
  | .hbm => 22
  | .vmem => 29
  | .smem => 0
  | _ => 0

abbrev bufTy : (tb : Table) → Fin (tcTables nBuf tb) → BufTy
  | .hbm, ⟨0, _⟩ => ⟨S8256x6272, .f32⟩
  | .hbm, ⟨1, _⟩ => ⟨S1x16, .f32⟩
  | .hbm, ⟨2, _⟩ => ⟨S1x2048, .f32⟩
  | .hbm, ⟨3, _⟩ => ⟨S1x8x8x256x128, .f32⟩
  | .hbm, ⟨4, _⟩ => ⟨S1x8x8x128, .f32⟩
  | .hbm, ⟨5, _⟩ => ⟨S1x8x8, .f32⟩
  | .hbm, ⟨6, _⟩ => ⟨S16, .f32⟩
  | .hbm, ⟨7, _⟩ => ⟨S1x16, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S2048, .f32⟩
  | .hbm, ⟨12, _⟩ => ⟨S1x2048, .f32⟩
  | .hbm, ⟨13, _⟩ => ⟨S8x8x256x128, .f32⟩
  | .hbm, ⟨14, _⟩ => ⟨S8x8x128, .f32⟩
  | .hbm, ⟨15, _⟩ => ⟨S8x8, .f32⟩
  | .hbm, ⟨16, _⟩ => ⟨S8x8x1, .f32⟩
  | .hbm, ⟨17, _⟩ => ⟨S8x8x128, .f32⟩
  | .hbm, ⟨18, _⟩ => ⟨S64x2048, .f32⟩
  | .hbm, ⟨19, _⟩ => ⟨S8x8x256x128, .f32⟩
  | .hbm, ⟨20, _⟩ => ⟨S8x8x128, .f32⟩
  | .hbm, ⟨21, _⟩ => ⟨S8x8x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S1x2048, .f32⟩
  | .local _ .vmem, ⟨12, _⟩ => ⟨S1x8x256x128, .f32⟩
  | .local _ .vmem, ⟨13, _⟩ => ⟨S1x8x256x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S8x2048, .f32⟩
  | .local _ .vmem, ⟨19, _⟩ => ⟨S8x2048, .f32⟩
  | .local _ .vmem, ⟨20, _⟩ => ⟨S1x8x256x128, .f32⟩
  | .local _ .vmem, ⟨21, _⟩ => ⟨S1x8x256x128, .f32⟩
  | .local _ .vmem, ⟨22, _⟩ => ⟨S1x8x128, .f32⟩
  | .local _ .vmem, ⟨23, _⟩ => ⟨S1x8x128, .f32⟩
  | .local _ .vmem, ⟨24, _⟩ => ⟨S1x8x128, .f32⟩
  | .local _ .vmem, ⟨25, _⟩ => ⟨S1x8x128, .f32⟩
  | .local _ .vmem, ⟨26, _⟩ => ⟨S8x256x128, .f32⟩
  | .local _ .vmem, ⟨27, _⟩ => ⟨S8x128, .f32⟩
  | .local _ .vmem, ⟨28, _⟩ => ⟨S8x128, .f32⟩
  | _, _ => ⟨S8256x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_367 : BitVec 32 := 0#32
  let v1134 : BitVec 1 := Scalar.cmpi .eq arg1 c0_i32_367
  let v1135 : BitVec 32 := Scalar.extui v1134
  let c0_i32_368 : BitVec 32 := 0#32
  let v1136 : BitVec 1 := Scalar.cmpi .ne v1135 c0_i32_368
  v1136

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c48_i32 : BitVec 32 := 48#32
  let c0_i32 : BitVec 32 := 0#32
  ![v2.toNat, c48_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MlsIdeal.lean ====
variable {F : FTy → Type} [FloatOps F] [Named F]
def κ : String → Option EReal := fun
  | "neg_inf" => some ⊥
  | _ => none
-- ==== RefMlsIdeal.lean ====
abbrev S8256x6272 : Shape := ⟨2, ![8256, 6272]⟩
abbrev S1x16 : Shape := ⟨2, ![1, 16]⟩
abbrev S1x2048 : Shape := ⟨2, ![1, 2048]⟩
abbrev S1x8x8x256x128 : Shape := ⟨5, ![1, 8, 8, 256, 128]⟩
abbrev S1x8x8x128 : Shape := ⟨4, ![1, 8, 8, 128]⟩
abbrev S1x8x8 : Shape := ⟨3, ![1, 8, 8]⟩
abbrev S64x6272 : Shape := ⟨2, ![64, 6272]⟩
abbrev S8x8x6272 : Shape := ⟨3, ![8, 8, 6272]⟩
abbrev S8x4x6160 : Shape := ⟨3, ![8, 4, 6160]⟩
abbrev S8x4x1024 : Shape := ⟨3, ![8, 4, 1024]⟩
abbrev S8x4x2048 : Shape := ⟨3, ![8, 4, 2048]⟩
abbrev S8x4x8 : Shape := ⟨3, ![8, 4, 8]⟩
abbrev S8x4x8x128 : Shape := ⟨4, ![8, 4, 8, 128]⟩
abbrev S_ : Shape := ⟨0, ![]⟩
abbrev S8x4x8x256 : Shape := ⟨4, ![8, 4, 8, 256]⟩
abbrev S16 : Shape := ⟨1, ![16]⟩
abbrev S8 : Shape := ⟨1, ![8]⟩
abbrev S1x1x8 : Shape := ⟨3, ![1, 1, 8]⟩
abbrev S8x8x256x128 : Shape := ⟨4, ![8, 8, 256, 128]⟩
abbrev S8x8x128 : Shape := ⟨3, ![8, 8, 128]⟩
abbrev S8x8 : Shape := ⟨2, ![8, 8]⟩
abbrev S4x4 : Shape := ⟨2, ![4, 4]⟩
abbrev S8x4x1x8 : Shape := ⟨4, ![8, 4, 1, 8]⟩
abbrev S8x1x4x8 : Shape := ⟨4, ![8, 1, 4, 8]⟩
abbrev S8x4x4x8 : Shape := ⟨4, ![8, 4, 4, 8]⟩
abbrev S1x4x4x1 : Shape := ⟨4, ![1, 4, 4, 1]⟩
abbrev S8x1x8 : Shape := ⟨3, ![8, 1, 8]⟩
abbrev S8x8x4x4 : Shape := ⟨4, ![8, 8, 4, 4]⟩
abbrev S8x8x256x4 : Shape := ⟨4, ![8, 8, 256, 4]⟩
abbrev S8x4x8x1 : Shape := ⟨4, ![8, 4, 8, 1]⟩
abbrev S8x8x4x256 : Shape := ⟨4, ![8, 8, 4, 256]⟩
abbrev S8x8x4 : Shape := ⟨3, ![8, 8, 4]⟩
abbrev S8x8x1x1 : Shape := ⟨4, ![8, 8, 1, 1]⟩
abbrev S8x8x1 : Shape := ⟨3, ![8, 8, 1]⟩
abbrev S2048 : Shape := ⟨1, ![2048]⟩
abbrev S1x1x2048 : Shape := ⟨3, ![1, 1, 2048]⟩
abbrev S8x8x2048 : Shape := ⟨3, ![8, 8, 2048]⟩
abbrev S64x2048 : Shape := ⟨2, ![64, 2048]⟩

abbrev nBuf : Space → Nat
  | .hbm => 188
  | .vmem => 0
  | .smem => 0
  | _ => 0

abbrev hbmTy0_0 (i : Nat) : BufTy := match i % 128 with
  | 0 => ⟨S8256x6272, .f32⟩
  | 1 => ⟨S1x16, .f32⟩
  | 2 => ⟨S1x2048, .f32⟩
  | 3 => ⟨S1x8x8x256x128, .f32⟩
  | 4 => ⟨S1x8x8x128, .f32⟩
  | 5 => ⟨S1x8x8, .f32⟩
  | 6 => ⟨S64x6272, .f32⟩
  | 7 => ⟨S8x8x6272, .f32⟩
  | 8 => ⟨S8x4x6160, .f32⟩
  | 9 => ⟨S8x4x1024, .f32⟩
  | 10 => ⟨S8x4x1024, .f32⟩
  | 11 => ⟨S8x4x2048, .f32⟩
  | 12 => ⟨S8x4x2048, .f32⟩
  | 13 => ⟨S8x4x8, .f32⟩
  | 14 => ⟨S8x4x8, .f32⟩
  | 15 => ⟨S8x4x8x128, .f32⟩
  | 16 => ⟨S8x4x8x128, .f32⟩
  | 17 => ⟨S_, .f32⟩
  | 18 => ⟨S8x4x8x128, .f32⟩
  | 19 => ⟨S8x4x8x128, .f32⟩
  | 20 => ⟨S8x4x8x256, .f32⟩
  | 21 => ⟨S16, .f32⟩
  | 22 => ⟨S8, .f32⟩
  | 23 => ⟨S1x1x8, .f32⟩
  | 24 => ⟨S8x4x8, .f32⟩
  | 25 => ⟨S8x4x8, .f32⟩
  | 26 => ⟨S_, .f32⟩
  | 27 => ⟨S8x4x8, .f32⟩
  | 28 => ⟨S8x4x8, .f32⟩
  | 29 => ⟨S8x4x8, .f32⟩
  | 30 => ⟨S_, .f32⟩
  | 31 => ⟨S8x4x8, .f32⟩
  | 32 => ⟨S8x4x8, .f32⟩
  | 33 => ⟨S8, .f32⟩
  | 34 => ⟨S1x1x8, .f32⟩
  | 35 => ⟨S8x4x8, .f32⟩
  | 36 => ⟨S8x4x8, .f32⟩
  | 37 => ⟨S_, .f32⟩
  | 38 => ⟨S8x4x8, .f32⟩
  | 39 => ⟨S8x4x8, .f32⟩
  | 40 => ⟨S8x4x8, .f32⟩
  | 41 => ⟨S_, .f32⟩
  | 42 => ⟨S8x4x8, .f32⟩
  | 43 => ⟨S8x4x8, .f32⟩
  | 44 => ⟨S8x4x8, .f32⟩
  | 45 => ⟨S_, .f32⟩
  | 46 => ⟨S8x4x8, .f32⟩
  | 47 => ⟨S8x4x8, .f32⟩
  | 48 => ⟨S8x4x8, .f32⟩
  | 49 => ⟨S8x4x8, .f32⟩
  | 50 => ⟨S8x4x8, .i1⟩
  | 51 => ⟨S8x4x8, .f32⟩
  | 52 => ⟨S8x4x8, .f32⟩
  | 53 => ⟨S8x4x8, .f32⟩
  | 54 => ⟨S8x4x8, .f32⟩
  | 55 => ⟨S8x4x8, .f32⟩
  | 56 => ⟨S8x4x8, .f32⟩
  | 57 => ⟨S8x4x8, .f32⟩
  | 58 => ⟨S8x4x8, .f32⟩
  | 59 => ⟨S8x4x8, .f32⟩
  | 60 => ⟨S8x8x256x128, .f32⟩
  | 61 => ⟨S8x8x128, .f32⟩
  | 62 => ⟨S8x8, .f32⟩
  | 63 => ⟨S_, .f32⟩
  | 64 => ⟨S_, .f32⟩
  | 65 => ⟨S8x4x8, .f32⟩
  | 66 => ⟨S_, .i1⟩
  | 67 => ⟨S4x4, .i1⟩
  | 68 => ⟨S4x4, .i32⟩
  | 69 => ⟨S_, .i32⟩
  | 70 => ⟨S4x4, .i32⟩
  | 71 => ⟨S4x4, .i32⟩
  | 72 => ⟨S4x4, .i32⟩
  | 73 => ⟨S4x4, .i1⟩
  | 74 => ⟨S_, .i1⟩
  | 75 => ⟨S4x4, .i1⟩
  | 76 => ⟨S4x4, .i1⟩
  | 77 => ⟨S8x4x1x8, .f32⟩
  | 78 => ⟨S8x1x4x8, .f32⟩
  | 79 => ⟨S8x4x4x8, .f32⟩
  | 80 => ⟨S8x4x4x8, .f32⟩
  | 81 => ⟨S8x4x4x8, .f32⟩
  | 82 => ⟨S8x1x4x8, .f32⟩
  | 83 => ⟨S8x4x4x8, .f32⟩
  | 84 => ⟨S8x4x4x8, .f32⟩
  | 85 => ⟨S1x4x4x1, .i1⟩
  | 86 => ⟨S_, .f32⟩
  | 87 => ⟨S_, .f32⟩
  | 88 => ⟨S8x4x4x8, .i1⟩
  | 89 => ⟨S8x4x4x8, .f32⟩
  | 90 => ⟨S8x4x4x8, .f32⟩
  | 91 => ⟨S8x1x8, .f32⟩
  | 92 => ⟨S8x4x8, .f32⟩
  | 93 => ⟨S8x4x8, .f32⟩
  | 94 => ⟨S_, .f32⟩
  | 95 => ⟨S8x4x8, .f32⟩
  | 96 => ⟨S8x4x8, .f32⟩
  | 97 => ⟨S8x4x1x8, .f32⟩
  | 98 => ⟨S8x4x4x8, .f32⟩
  | 99 => ⟨S8x4x4x8, .f32⟩
  | 100 => ⟨S8x4x4x8, .f32⟩
  | 101 => ⟨S8x4x8, .f32⟩
  | 102 => ⟨S8x4x8, .f32⟩
  | 103 => ⟨S8x8x4x4, .f32⟩
  | 104 => ⟨S8x4x4x8, .f32⟩
  | 105 => ⟨S8x4x4x8, .f32⟩
  | 106 => ⟨S8x8x256x4, .f32⟩
  | 107 => ⟨S8x4x8x256, .f32⟩
  | 108 => ⟨S8x4x8x1, .f32⟩
  | 109 => ⟨S8x8x4x256, .f32⟩
  | 110 => ⟨S8x4x8x256, .f32⟩
  | 111 => ⟨S8x4x8x256, .f32⟩
  | 112 => ⟨S8x4x8x256, .f32⟩
  | 113 => ⟨S8x4x8x256, .f32⟩
  | 114 => ⟨S_, .f32⟩
  | 115 => ⟨S8x4x8, .f32⟩
  | 116 => ⟨S8x8x4, .f32⟩
  | 117 => ⟨S8x4x8, .f32⟩
  | 118 => ⟨S8x4x8, .f32⟩
  | 119 => ⟨S8x4x8, .f32⟩
  | 120 => ⟨S8x4x8, .f32⟩
  | 121 => ⟨S8x4x8, .f32⟩
  | 122 => ⟨S8x4x8, .f32⟩
  | 123 => ⟨S8x4x8, .f32⟩
  | 124 => ⟨S8x4x8x1, .f32⟩
  | 125 => ⟨S8x4x8x256, .f32⟩
  | 126 => ⟨S8x4x8x256, .f32⟩
  | 127 => ⟨S8x1x8, .f32⟩
  | _ => ⟨S8256x6272, .f32⟩

abbrev hbmTy0_1 (i : Nat) : BufTy := match i % 128 with
  | 0 => ⟨S8x8, .f32⟩
  | 1 => ⟨S8x1x8, .f32⟩
  | 2 => ⟨S8x4x8, .f32⟩
  | 3 => ⟨S8x4x8, .f32⟩
  | 4 => ⟨S8x4x8, .f32⟩
  | 5 => ⟨S8x1x8, .f32⟩
  | 6 => ⟨S8x4x8, .f32⟩
  | 7 => ⟨S8x4x8, .f32⟩
  | 8 => ⟨S8x4x8, .f32⟩
  | 9 => ⟨S8x1x8, .f32⟩
  | 10 => ⟨S8x8, .f32⟩
  | 11 => ⟨S8x8, .f32⟩
  | 12 => ⟨S8x8, .f32⟩
  | 13 => ⟨S8x8, .f32⟩
  | 14 => ⟨S8x8x1x1, .f32⟩
  | 15 => ⟨S8x8x256x128, .f32⟩
  | 16 => ⟨S8x8x256x128, .f32⟩
  | 17 => ⟨S8x4x8x1, .f32⟩
  | 18 => ⟨S8x4x8x256, .f32⟩
  | 19 => ⟨S8x4x8x256, .f32⟩
  | 20 => ⟨S8x8x256x128, .f32⟩
  | 21 => ⟨S8x8x256x128, .f32⟩
  | 22 => ⟨S8x8x1, .f32⟩
  | 23 => ⟨S8x8x128, .f32⟩
  | 24 => ⟨S8x8x128, .f32⟩
  | 25 => ⟨S8x8x128, .f32⟩
  | 26 => ⟨S8x8x128, .f32⟩
  | 27 => ⟨S8x4x8x256, .f32⟩
  | 28 => ⟨S_, .f32⟩
  | 29 => ⟨S8x4x8, .f32⟩
  | 30 => ⟨S8x4x8x1, .f32⟩
  | 31 => ⟨S_, .f32⟩
  | 32 => ⟨S8x4x8x1, .f32⟩
  | 33 => ⟨S8x4x8x1, .f32⟩
  | 34 => ⟨S_, .f32⟩
  | 35 => ⟨S8x4x8x1, .f32⟩
  | 36 => ⟨S8x4x8x1, .f32⟩
  | 37 => ⟨S8x4x8x1, .f32⟩
  | 38 => ⟨S8x4x8x256, .f32⟩
  | 39 => ⟨S8x4x8x256, .f32⟩
  | 40 => ⟨S8x4x2048, .f32⟩
  | 41 => ⟨S2048, .f32⟩
  | 42 => ⟨S1x1x2048, .f32⟩
  | 43 => ⟨S8x4x2048, .f32⟩
  | 44 => ⟨S8x4x2048, .f32⟩
  | 45 => ⟨S8x4x2048, .f32⟩
  | 46 => ⟨S8x4x2048, .f32⟩
  | 47 => ⟨S_, .f32⟩
  | 48 => ⟨S8x4x2048, .f32⟩
  | 49 => ⟨S8x4x2048, .f32⟩
  | 50 => ⟨S_, .f32⟩
  | 51 => ⟨S8x4x2048, .f32⟩
  | 52 => ⟨S8x4x2048, .f32⟩
  | 53 => ⟨S8x4x2048, .f32⟩
  | 54 => ⟨S_, .i32⟩
  | 55 => ⟨S_, .f32⟩
  | 56 => ⟨S8x8x2048, .f32⟩
  | 57 => ⟨S64x2048, .f32⟩
  | 58 => ⟨S8x8x1, .f32⟩
  | 59 => ⟨S8x8x128, .f32⟩
  | _ => ⟨S8256x6272, .f32⟩

abbrev hbmTy (i : Nat) : BufTy := match i / 128 with
  | 0 => hbmTy0_0 i
  | 1 => hbmTy0_1 i
  | _ => ⟨S8256x6272, .f32⟩

abbrev bufTy : (tb : Table) → Fin (tcTables nBuf tb) → BufTy
  | .hbm, ⟨i, _⟩ => hbmTy i
  | _, _ => ⟨S8256x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_call0_cst : Ref sig .tc := ⟨.hbm, 63, rfl⟩
abbrev main_call1_call0_v0 : Ref sig .tc := ⟨.hbm, 64, rfl⟩
abbrev main_v37 : Ref sig .tc := ⟨.hbm, 65, rfl⟩
abbrev main_c : Ref sig .tc := ⟨.hbm, 66, rfl⟩
abbrev main_v38 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_0 : Ref sig .tc := ⟨.hbm, 74, rfl⟩
abbrev main_call2_v5 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_4 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_5 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_6 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_7 : Ref sig .tc := ⟨.hbm, 156, rfl⟩
abbrev main_v113 : Ref sig .tc := ⟨.hbm, 157, rfl⟩
abbrev main_v114 : Ref sig .tc := ⟨.hbm, 158, rfl⟩
abbrev main_cst_8 : Ref sig .tc := ⟨.hbm, 159, rfl⟩
abbrev main_v115 : Ref sig .tc := ⟨.hbm, 160, rfl⟩
abbrev main_v116 : Ref sig .tc := ⟨.hbm, 161, rfl⟩
abbrev main_cst_9 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_10 : Ref sig .tc := ⟨.hbm, 175, rfl⟩
abbrev main_v129 : Ref sig .tc := ⟨.hbm, 176, rfl⟩
abbrev main_v130 : Ref sig .tc := ⟨.hbm, 177, rfl⟩
abbrev main_cst_11 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_c_12 : Ref sig .tc := ⟨.hbm, 182, rfl⟩
abbrev main_call4_v0 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩

abbrev nD : Nat := 1
abbrev τ : Topo := Topo.v7x

variable {F : FTy → Type} [FloatOps F]
-- ==== Shift.lean ====
abbrev S8256x2048 : Shape := ⟨2, ![8256, 2048]⟩
abbrev S4x2048 : Shape := ⟨2, ![4, 2048]⟩
abbrev S2x8x2048 : Shape := ⟨3, ![2, 8, 2048]⟩
abbrev S1x2048 : Shape := ⟨2, ![1, 2048]⟩
abbrev S2048 : Shape := ⟨1, ![2048]⟩
abbrev S1x8x2048 : Shape := ⟨3, ![1, 8, 2048]⟩
abbrev S8x2048 : Shape := ⟨2, ![8, 2048]⟩
abbrev S688x2048 : Shape := ⟨2, ![688, 2048]⟩
abbrev S688 : Shape := ⟨1, ![688]⟩
abbrev S688x1 : Shape := ⟨2, ![688, 1]⟩
abbrev S8 : Shape := ⟨1, ![8]⟩
abbrev S8x1 : Shape := ⟨2, ![8, 1]⟩

abbrev nBuf : Space → Nat
  | .hbm => 10
  | .vmem => 10
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S2x8x2048, .f32⟩
  | .hbm, ⟨3, _⟩ => ⟨S1x2048, .f32⟩
  | .hbm, ⟨4, _⟩ => ⟨S2048, .f32⟩
  | .hbm, ⟨5, _⟩ => ⟨S1x8x2048, .f32⟩
  | .hbm, ⟨6, _⟩ => ⟨S8x2048, .f32⟩
  | .hbm, ⟨7, _⟩ => ⟨S1x2048, .f32⟩
  | .hbm, ⟨8, _⟩ => ⟨S8256x2048, .f32⟩
  | .hbm, ⟨9, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S8x2048, .f32⟩
  | .local _ .vmem, ⟨6, _⟩ => ⟨S688x2048, .f32⟩
  | .local _ .vmem, ⟨7, _⟩ => ⟨S688x2048, .f32⟩
  | .local _ .vmem, ⟨8, _⟩ => ⟨S688x2048, .f32⟩
  | .local _ .vmem, ⟨9, _⟩ => ⟨S688x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def k0_off1 (i : grid0.Coords) (c0_i32 : BitVec 32) : Fin 2 → Nat :=
  let c7_i32 : BitVec 32 := 7#32
  let c0_i32_22 : BitVec 32 := 0#32
  let arg0 : BitVec 32 := BitVec.ofNat 32 (i 0).val
  let c688_i32 : BitVec 32 := 688#32
  let v32 : BitVec 32 := Scalar.muli arg0 c688_i32
  let v33 : BitVec 32 := Scalar.addi v32 c0_i32
  let c8192_i32_15 : BitVec 32 := 8192#32
  let v38 : BitVec 32 := Scalar.subi v33 c8192_i32_15
  let c0_i32_16 : BitVec 32 := 0#32
  let v40 : BitVec 1 := Scalar.cmpi .sgt v38 c0_i32_16
  let v41 : BitVec 32 := Scalar.extui v40
  let c0_i32_17 : BitVec 32 := 0#32
  let v42 : BitVec 1 := Scalar.cmpi .slt v38 c0_i32_17
  let v43 : BitVec 32 := Scalar.extui v42
  let v44 : BitVec 32 := Scalar.subi v41 v43
  let c8_i32 : BitVec 32 := 8#32
  let c0_i32_18 : BitVec 32 := 0#32
  let v45 : BitVec 1 := Scalar.cmpi .sgt c8_i32 c0_i32_18
  let v46 : BitVec 32 := Scalar.extui v45
  let c0_i32_19 : BitVec 32 := 0#32
  let v47 : BitVec 1 := Scalar.cmpi .slt c8_i32 c0_i32_19
  let v48 : BitVec 32 := Scalar.extui v47
  let v49 : BitVec 32 := Scalar.subi v46 v48
  let v50 : BitVec 1 := Scalar.cmpi .ne v44 v49
  let v51 : BitVec 32 := Scalar.remsi v38 c8_i32
  let c0_i32_20 : BitVec 32 := 0#32
  let v52 : BitVec 1 := Scalar.cmpi .ne v51 c0_i32_20
  let v53 : BitVec 1 := Scalar.andi v50 v52
  let v39 : BitVec 32 := Scalar.divsi v38 c8_i32
  let c1_i32_21 : BitVec 32 := 1#32
  let v54 : BitVec 32 := Scalar.subi v39 c1_i32_21
  let v55 : BitVec 32 := Scalar.select v53 v54 v39
  let v56 : BitVec 32 := Scalar.maxsi c0_i32_22 v55
  let v57 : BitVec 32 := Scalar.minsi c7_i32 v56
  let v58 : Index := Scalar.indexCast v57
  let c0_23 : Index := 0#32
  ![v58.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c86_i32 : BitVec 32 := 86#32
  let v0 : BitVec 32 := Scalar.muli arg0 c86_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefShiftIdeal.lean ====
abbrev S8256x2048 : Shape := ⟨2, ![8256, 2048]⟩
abbrev S4x2048 : Shape := ⟨2, ![4, 2048]⟩
abbrev S2x8x2048 : Shape := ⟨3, ![2, 8, 2048]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩

abbrev nBuf : Space → Nat
  | .hbm => 21
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S2x8x2048, .f32⟩
  | .hbm, ⟨3, _⟩ => ⟨S1x2048, .f32⟩
  | .hbm, ⟨4, _⟩ => ⟨S2048, .f32⟩
  | .hbm, ⟨5, _⟩ => ⟨S8256x2048, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x2048, .f32⟩
  | .hbm, ⟨17, _⟩ => ⟨S8256x2048, .f32⟩
  | .hbm, ⟨18, _⟩ => ⟨S1x2048, .f32⟩
  | .hbm, ⟨19, _⟩ => ⟨S8256x2048, .f32⟩
  | .hbm, ⟨20, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Shift1.lean ====
abbrev S8256x2048 : Shape := ⟨2, ![8256, 2048]⟩
abbrev S4x2048 : Shape := ⟨2, ![4, 2048]⟩
abbrev S2x8x2048 : Shape := ⟨3, ![2, 8, 2048]⟩
abbrev S1x2048 : Shape := ⟨2, ![1, 2048]⟩
abbrev S2048 : Shape := ⟨1, ![2048]⟩
abbrev S1x8x2048 : Shape := ⟨3, ![1, 8, 2048]⟩
abbrev S8x2048 : Shape := ⟨2, ![8, 2048]⟩
abbrev S688x2048 : Shape := ⟨2, ![688, 2048]⟩
abbrev S688 : Shape := ⟨1, ![688]⟩
abbrev S688x1 : Shape := ⟨2, ![688, 1]⟩
abbrev S8 : Shape := ⟨1, ![8]⟩
abbrev S8x1 : Shape := ⟨2, ![8, 1]⟩

abbrev nBuf : Space → Nat
  | .hbm => 10
  | .vmem => 10
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S2x8x2048, .f32⟩
  | .hbm, ⟨3, _⟩ => ⟨S1x2048, .f32⟩
  | .hbm, ⟨4, _⟩ => ⟨S2048, .f32⟩
  | .hbm, ⟨5, _⟩ => ⟨S1x8x2048, .f32⟩
  | .hbm, ⟨6, _⟩ => ⟨S8x2048, .f32⟩
  | .hbm, ⟨7, _⟩ => ⟨S1x2048, .f32⟩
  | .hbm, ⟨8, _⟩ => ⟨S8256x2048, .f32⟩
  | .hbm, ⟨9, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S8x2048, .f32⟩
  | .local _ .vmem, ⟨6, _⟩ => ⟨S688x2048, .f32⟩
  | .local _ .vmem, ⟨7, _⟩ => ⟨S688x2048, .f32⟩
  | .local _ .vmem, ⟨8, _⟩ => ⟨S688x2048, .f32⟩
  | .local _ .vmem, ⟨9, _⟩ => ⟨S688x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def k0_off1 (i : grid0.Coords) (c0_i32 : BitVec 32) : Fin 2 → Nat :=
  let c7_i32 : BitVec 32 := 7#32
  let c0_i32_22 : BitVec 32 := 0#32
  let arg0 : BitVec 32 := BitVec.ofNat 32 (i 0).val
  let c688_i32 : BitVec 32 := 688#32
  let v32 : BitVec 32 := Scalar.muli arg0 c688_i32
  let v33 : BitVec 32 := Scalar.addi v32 c0_i32
  let c8192_i32_15 : BitVec 32 := 8192#32
  let v38 : BitVec 32 := Scalar.subi v33 c8192_i32_15
  let c0_i32_16 : BitVec 32 := 0#32
  let v40 : BitVec 1 := Scalar.cmpi .sgt v38 c0_i32_16
  let v41 : BitVec 32 := Scalar.extui v40
  let c0_i32_17 : BitVec 32 := 0#32
  let v42 : BitVec 1 := Scalar.cmpi .slt v38 c0_i32_17
  let v43 : BitVec 32 := Scalar.extui v42
  let v44 : BitVec 32 := Scalar.subi v41 v43
  let c8_i32 : BitVec 32 := 8#32
  let c0_i32_18 : BitVec 32 := 0#32
  let v45 : BitVec 1 := Scalar.cmpi .sgt c8_i32 c0_i32_18
  let v46 : BitVec 32 := Scalar.extui v45
  let c0_i32_19 : BitVec 32 := 0#32
  let v47 : BitVec 1 := Scalar.cmpi .slt c8_i32 c0_i32_19
  let v48 : BitVec 32 := Scalar.extui v47
  let v49 : BitVec 32 := Scalar.subi v46 v48
  let v50 : BitVec 1 := Scalar.cmpi .ne v44 v49
  let v51 : BitVec 32 := Scalar.remsi v38 c8_i32
  let c0_i32_20 : BitVec 32 := 0#32
  let v52 : BitVec 1 := Scalar.cmpi .ne v51 c0_i32_20
  let v53 : BitVec 1 := Scalar.andi v50 v52
  let v39 : BitVec 32 := Scalar.divsi v38 c8_i32
  let c1_i32_21 : BitVec 32 := 1#32
  let v54 : BitVec 32 := Scalar.subi v39 c1_i32_21
  let v55 : BitVec 32 := Scalar.select v53 v54 v39
  let v56 : BitVec 32 := Scalar.maxsi c0_i32_22 v55
  let v57 : BitVec 32 := Scalar.minsi c7_i32 v56
  let v58 : Index := Scalar.indexCast v57
  let c0_23 : Index := 0#32
  ![v58.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c86_i32 : BitVec 32 := 86#32
  let v0 : BitVec 32 := Scalar.muli arg0 c86_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefShift1Ideal.lean ====
abbrev S8256x2048 : Shape := ⟨2, ![8256, 2048]⟩
abbrev S4x2048 : Shape := ⟨2, ![4, 2048]⟩
abbrev S2x8x2048 : Shape := ⟨3, ![2, 8, 2048]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩

abbrev nBuf : Space → Nat
  | .hbm => 21
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S2x8x2048, .f32⟩
  | .hbm, ⟨3, _⟩ => ⟨S1x2048, .f32⟩
  | .hbm, ⟨4, _⟩ => ⟨S2048, .f32⟩
  | .hbm, ⟨5, _⟩ => ⟨S8256x2048, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x2048, .f32⟩
  | .hbm, ⟨17, _⟩ => ⟨S8256x2048, .f32⟩
  | .hbm, ⟨18, _⟩ => ⟨S1x2048, .f32⟩
  | .hbm, ⟨19, _⟩ => ⟨S8256x2048, .f32⟩
  | .hbm, ⟨20, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Ffn.Pure.lean ====
/- What the feed-forward kernel's stored values are, index by index, over the extended reals. -/
module

public import proofs.«01_k».proof.Proof.Gen.FfnIdeal.Skeleton
public import Idealize.ShloMosaic.Lib.Pipeline.ValueKit

@[expose] public section

set_option maxRecDepth 16384

noncomputable section

open Idealize.ShloMosaic Idealize.ShloMosaic.TcCoe Idealize.SL.Sem

namespace Cert.FfnIdeal.Pure

open Cert.FfnIdeal Cert.FfnIdeal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

/-- The gated unit: the gate times its logistic, times the other half. -/
def gated (g u : EReal) : EReal := g * Ideal.div 1 (1 + Ideal.exp (-g)) * u

theorem pay1_at (v33 v34 : FVec Ideal S688x2048 .f32) (r : Fin 688) (d : Fin 2048) :
    k0_pay1 (F := Ideal) v33 v34 (ix2 r d) = v33 (ix2 r d) + Ideal.ofBits .f32 0x3F000000#32 * v34 (ix2 r d) := by
  pointwise [k0_pay1]

theorem pay2_at (v33 : FVec Ideal S688x2048 .f32) (v34 : FVec Ideal S1x2048 .f32) (r : Fin 688) (k : Fin 2048) :
    k0_pay2 (F := Ideal) v33 v34 (ix2 r k) = nrm (fun l => v33 (ix2 r l)) (fun l => v34 (ix2 0 l)) k := by
  pointwise [k0_pay2, nrm]

theorem pay3_at (j : S688x2048.Idx) : k0_pay3 (F := Ideal) j = 0 := by pointwise [k0_pay3]

theorem pay4_at (xn : FVec Ideal S688x2048 .bf16) (wg wu : FVec Ideal S1x2048x512 .f32) (acc : FVec Ideal S688x2048 .f32)
    (wo : FVec Ideal S1x512x2048 .f32) (r : Fin 688) (d : Fin 2048) :
    k0_pay4 (F := Ideal) xn wg wu acc wo (ix2 r d)
      = acc (ix2 r d) + ∑ l : Fin 512, gated (∑ k : Fin 2048, xn (ix2 r k) * wg (ix3 0 k l)) (∑ k : Fin 2048, xn (ix2 r k) * wu (ix3 0 k l)) * wo (ix3 0 l d) := by
  pointwise [k0_pay4, gated]
  simp only [zero_sub]

end Cert.FfnIdeal.Pure

end
-- ==== Proof.Ffn.Acc.lean ====
/- What the feed-forward kernel holds after each grid point, and the array it ends with, over the extended reals. -/
module

public import proofs.«01_k».proof.Proof.Ffn.Pure
public import proofs.«01_k».proof.Proof.Gen.FfnIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Acc

open Cert.FfnIdeal Cert.FfnIdeal.Gen Cert.FfnIdeal.Pure

variable (m : (ℓ : Loc nD τ sig) → Buf (Elt Ideal) ℓ)

theorem idx : ∀ t : Fin cfg0.N, win0_0.index t = ![t.val / 11, 0] ∧ win0_1.index t = ![0, 0] ∧ win0_2.index t = ![0, 0, t.val % 11]
    ∧ win0_3.index t = ![0, 0, 11 + t.val % 11] ∧ win0_4.index t = ![0, t.val % 11, 0] ∧ win0_5.index t = ![t.val / 11, 0] ∧ t.val / 11 < 12 :=
  (by decide +kernel : ∀ t : Fin grid0.N, _)

/-- The normalised input, row by row. -/
def hn (X : FVec Ideal S8256x2048 .f32) (G : FVec Ideal S4x2048 .f32) (r : Fin 8256) (k : Fin 2048) : EReal :=
  nrm (fun l => X (ix2 r l)) (fun l => G (ix2 0 l)) k

/-- One hidden unit. -/
def hid (X : FVec Ideal S8256x2048 .f32) (G : FVec Ideal S4x2048 .f32) (W : FVec Ideal S4x2048x11264 .f32) (r : Fin 8256) (l : Fin 5632) : EReal :=
  gated (∑ k : Fin 2048, hn X G r k * W (ix3 0 k ⟨l.val, by omega⟩)) (∑ k : Fin 2048, hn X G r k * W (ix3 0 k ⟨5632 + l.val, by omega⟩))

/-- The part of the second product that block `s` of hidden units adds. -/
def part (X : FVec Ideal S8256x2048 .f32) (G : FVec Ideal S4x2048 .f32) (W : FVec Ideal S4x2048x11264 .f32) (O : FVec Ideal S4x5632x2048 .f32)
    (r : Fin 8256) (d : Fin 2048) (s : Fin 11) : EReal :=
  ∑ l : Fin 512, hid X G W r ⟨s.val * 512 + l.val, by omega⟩ * O (ix3 0 ⟨s.val * 512 + l.val, by omega⟩ d)

/-- The array the kernel leaves. -/
def fin (X : FVec Ideal S8256x2048 .f32) (G : FVec Ideal S4x2048 .f32) (W : FVec Ideal S4x2048x11264 .f32) (O : FVec Ideal S4x5632x2048 .f32) :
    FVec Ideal S8256x2048 .f32 := fun i =>
  X (ix2 (i 0) (i 1)) + Ideal.ofBits .f32 0x3F000000#32 * ∑ l : Fin 5632, hid X G W (i 0) l * O (ix3 0 l (i 1))

abbrev aX (c : Dev nD) : FVec Ideal S8256x2048 .f32 := m ((c : Thread nD τ).loc main_arg0)
abbrev aG (c : Dev nD) : FVec Ideal S4x2048 .f32 := m ((c : Thread nD τ).loc main_arg1)
abbrev aW (c : Dev nD) : FVec Ideal S4x2048x11264 .f32 := m ((c : Thread nD τ).loc main_arg2)
abbrev aO (c : Dev nD) : FVec Ideal S4x5632x2048 .f32 := m ((c : Thread nD τ).loc main_arg3)

theorem blk0 (c : Dev nD) (t : Fin cfg0.N) (r : Fin 688) (k : Fin 2048) :
    (iblk m c 0 t : FVec Ideal S688x2048 .f32) (ix2 r k) = aX m c (ix2 ⟨t.val / 11 * 688 + r.val, by have := (idx t).2.2.2.2.2.2; omega⟩ k) := by
  blk_point [iblk, V, idx t]

theorem blk1 (c : Dev nD) (t : Fin cfg0.N) (k : Fin 2048) :
    (iblk m c 1 t : FVec Ideal S1x2048 .f32) (ix2 0 k) = aG m c (ix2 0 k) := by
  blk_simp [iblk, idx t]
  entry_read
  pointwise
  blk_ext [idx t]

theorem blk2 (c : Dev nD) (t : Fin cfg0.N) (k : Fin 2048) (l : Fin 512) :
    (iblk m c 2 t : FVec Ideal S1x2048x512 .f32) (ix3 0 k l) = aW m c (ix3 0 k ⟨t.val % 11 * 512 + l.val, by omega⟩) := by
  blk_point [iblk, V, idx t]

theorem blk3 (c : Dev nD) (t : Fin cfg0.N) (k : Fin 2048) (l : Fin 512) :
    (iblk m c 3 t : FVec Ideal S1x2048x512 .f32) (ix3 0 k l) = aW m c (ix3 0 k ⟨5632 + (t.val % 11 * 512 + l.val), by omega⟩) := by
  blk_point [iblk, V, idx t]

theorem blk4 (c : Dev nD) (t : Fin cfg0.N) (l : Fin 512) (d : Fin 2048) :
    (iblk m c 4 t : FVec Ideal S1x512x2048 .f32) (ix3 0 l d) = aO m c (ix3 0 ⟨t.val % 11 * 512 + l.val, by omega⟩ d) := by
  blk_point [iblk, V, idx t]

theorem outA1 (c : Dev nD) (t : Fin cfg0.N) (h0 : t.val % 11 = 0) (h1 : ¬t.val % 11 = 10) :
    (outsAt0 m c t.val t.isLt).1 = k0_pay4 (F := Ideal) (k0_pay2 (iblk m c 0 t) (iblk m c 1 t)) (iblk m c 2 t) (iblk m c 3 t) (k0_pay3 (F := Ideal)) (iblk m c 4 t) := by
  rw [outsAt0_A m c t h0 h1]; frame_out

theorem outA2 (c : Dev nD) (t : Fin cfg0.N) (h0 : t.val % 11 = 0) (h1 : ¬t.val % 11 = 10) :
    (outsAt0 m c t.val t.isLt).2 = k0_pay2 (F := Ideal) (iblk m c 0 t) (iblk m c 1 t) := by
  rw [outsAt0_A m c t h0 h1]; frame_out

theorem outB1 (c : Dev nD) (t : Fin cfg0.N) (h0 : ¬t.val % 11 = 0) (h1 : ¬t.val % 11 = 10) :
    (outsAt0 m c t.val t.isLt).1 = k0_pay4 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) := by
  rw [outsAt0_B m c t h0 h1]; frame_out
  rw [read_unread_whole]

theorem outB2 (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]; rfl

theorem outC1 (c : Dev nD) (t : Fin cfg0.N) (h0 : ¬t.val % 11 = 0) (h1 : t.val % 11 = 10) :
    (outsAt0 m c t.val t.isLt).1 = k0_pay1 (F := Ideal) (iblk m c 0 t) (k0_pay4 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t)) := by
  rw [outsAt0_C m c t h0 h1]; frame_out
  rw [read_unread_whole]

/-- `part`, at a natural number. -/
def partN (X : FVec Ideal S8256x2048 .f32) (G : FVec Ideal S4x2048 .f32) (W : FVec Ideal S4x2048x11264 .f32) (O : FVec Ideal S4x5632x2048 .f32)
    (r : Fin 8256) (d : Fin 2048) (s : ℕ) : EReal := if h : s < 11 then part X G W O r d ⟨s, h⟩ else 0

/-- The accumulating payload at a point whose scratch holds the normalised rows: what was there plus the point's part. -/
theorem step (c : Dev nD) (t : Fin cfg0.N) (xn : FVec Ideal S688x2048 .bf16) (acc : FVec Ideal S688x2048 .f32) (r : Fin 688) (d : Fin 2048)
    (R : Fin 8256) (hx : ∀ k, xn (ix2 r k) = hn (aX m c) (aG m c) R k) :
    k0_pay4 (F := Ideal) xn (iblk m c 2 t) (iblk m c 3 t) acc (iblk m c 4 t) (ix2 r d)
      = acc (ix2 r d) + partN (aX m c) (aG m c) (aW m c) (aO m c) R d (t.val % 11) := by
  have hs : t.val % 11 < 11 := Nat.mod_lt _ (by decide)
  refine (pay4_at xn (iblk m c 2 t) (iblk m c 3 t) acc (iblk m c 4 t) r d).trans ?_
  unfold partN
  rw [dif_pos hs]
  unfold part hid
  simp only [hx]
  refine congrArg _ (Finset.sum_congr rfl fun l _ => ?_)
  rw [blk4 m c t l d]
  simp only [blk2 m c t, blk3 m c t]

/-- What the kernel holds after a point that is not the last of its run. -/
theorem held (c : Dev nD) (i : Fin 12) : ∀ (s : ℕ) (hs : s < 10) (t : Fin cfg0.N), t.val = 11 * i.val + s → ∀ r : Fin 688,
    (∀ k : Fin 2048, (show FVec Ideal S688x2048 .bf16 from (outsAt0 m c t.val t.isLt).2) (ix2 r k) = hn (aX m c) (aG m c) ⟨i.val * 688 + r.val, by omega⟩ k)
    ∧ (∀ d : Fin 2048, (show FVec Ideal S688x2048 .f32 from (outsAt0 m c t.val t.isLt).1) (ix2 r d)
        = ∑ j ∈ Finset.range (s + 1), partN (aX m c) (aG m c) (aW m c) (aO m c) ⟨i.val * 688 + r.val, by omega⟩ d j) := by
  intro s
  induction s with
  | zero =>
    intro hs t ht r
    have h0 : t.val % 11 = 0 := by omega
    have h1 : ¬t.val % 11 = 10 := by omega
    have hq : t.val / 11 = i.val := by omega
    have hx : ∀ k : Fin 2048, k0_pay2 (F := Ideal) (iblk m c 0 t) (iblk m c 1 t) (ix2 r k) = hn (aX m c) (aG m c) ⟨i.val * 688 + r.val, by omega⟩ k := fun k => by
      refine (pay2_at (iblk m c 0 t) (iblk m c 1 t) r k).trans ?_
      unfold hn
      simp only [blk0 m c t, blk1 m c t, hq]
    refine ⟨fun k => ?_, fun d => ?_⟩
    · rw [outA2 m c t h0 h1]; exact hx k
    · rw [outA1 m c t h0 h1]
      refine (step m c t _ _ r d _ hx).trans ?_
      rw [pay3_at, zero_add, h0, Finset.sum_range_one]
  | succ s ih =>
    intro hs t ht r
    have h0 : ¬t.val % 11 = 0 := by omega
    have h1 : ¬t.val % 11 = 10 := by omega
    have hm : t.val % 11 = s + 1 := by omega
    obtain ⟨hx, ha⟩ := ih (by omega) ⟨t.val - 1, Nat.lt_of_le_of_lt (Nat.sub_le _ _) t.isLt⟩ (by show t.val - 1 = _; omega) r
    refine ⟨fun k => ?_, fun d => ?_⟩
    · rw [outB2 m c t h0 h1]; exact hx k
    · rw [outB1 m c t h0 h1]
      refine (step m c t _ _ r d _ hx).trans ?_
      rw [Finset.sum_range_succ, hm]
      exact congrArg (· + _) (ha d)

/-- What the run leaves in the block of its last point. -/
theorem last (c : Dev nD) (t : Fin cfg0.N) (hm : t.val % 11 = 10) (r : Fin 688) (d : Fin 2048) :
    (show FVec Ideal S688x2048 .f32 from (outsAt0 m c t.val t.isLt).1) (ix2 r d)
      = fin (aX m c) (aG m c) (aW m c) (aO m c) (ix2 ⟨t.val / 11 * 688 + r.val, by have := (idx t).2.2.2.2.2.2; omega⟩ d) := by
  have hi := (idx t).2.2.2.2.2.2
  have h0 : ¬t.val % 11 = 0 := by omega
  obtain ⟨hx, ha⟩ := held m c ⟨t.val / 11, hi⟩ 9 (by omega) ⟨t.val - 1, Nat.lt_of_le_of_lt (Nat.sub_le _ _) t.isLt⟩ (by show t.val - 1 = 11 * (t.val / 11) + 9; omega) r
  rw [outC1 m c t h0 hm]
  refine (pay1_at (iblk m c 0 t) _ r d).trans ?_
  rw [blk0 m c t r d]
  unfold fin
  refine congrArg _ (congrArg _ ?_)
  refine (step m c t _ _ r d _ hx).trans ?_
  rw [hm]
  refine (congrArg (· + _) (ha d)).trans ?_
  refine (Finset.sum_range_succ (fun j => partN (aX m c) (aG m c) (aW m c) (aO m c) _ d j) 10).symm.trans ?_
  rw [Finset.sum_range]
  unfold partN
  refine (Finset.sum_congr rfl fun s _ => dif_pos s.isLt).trans ?_
  unfold part
  exact (Fin.sum_univ_tiles 11 512 rfl (fun l : Fin 5632 => hid (aX m c) (aG m c) (aW m c) _ l * aO m c (ix3 0 l d))).symm

/-- The array after the run. -/
theorem final (c : Dev nD) : (dats m 0 c).arrAt 5 (cfgs 0).N = fin (aX m c) (aG m c) (aW m c) (aO m c) := by
  refine (dats m 0 c).arrAt_eq_of_covers 5 _ (by decide +kernel) fun t hf y => ?_
  blk_simp
  rw [after0_5]
  have hm := (flush0_5 t).mp hf
  have e := last m c t hm (y 0) (y 1)
  refine Eq.trans ?_ (e.trans ?_)
  · blk_point
  · blk_point [idx t]

end Cert.FfnIdeal.Acc

end
-- ==== Proof.Ffn.Ref.lean ====
/- The plain feed-forward block's result, index by index, is the array the kernel leaves. -/
module

public import proofs.«01_k».proof.Proof.Ffn.Acc
public import proofs.«01_k».proof.Proof.Gen.RefFfnIdeal.Run
public import proofs.«01_k».proof.Proof.Gen.RefFfnIdeal.Read

@[expose] public section

set_option maxRecDepth 16384

noncomputable section

open Idealize.ShloMosaic Idealize.ShloMosaic.TcCoe Idealize.SL.Sem

namespace Cert.RefFfnIdeal.Tie

open Cert.RefFfnIdeal Cert.RefFfnIdeal.Gen Cert.RefFfnIdeal.Read

theorem rows (X : FVec Ideal S8256x2048 .f32) (G : FVec Ideal S4x2048 .f32) (r : Fin 8256) (k : Fin 2048) :
    val_main_v14 (F := Ideal) X G (ix2 r k) = Cert.FfnIdeal.Acc.hn X G r k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.FfnIdeal.Acc.hn, Cert.FfnIdeal.Pure.nrm]

theorem units (X : FVec Ideal S8256x2048 .f32) (G : FVec Ideal S4x2048 .f32) (W : FVec Ideal S4x2048x11264 .f32) (r : Fin 8256) (l : Fin 11264) :
    val_main_v19 (F := Ideal) X G W (ix2 r l) = ∑ k : Fin 2048, Cert.FfnIdeal.Acc.hn X G r k * W (ix3 0 k l) := by
  pointwise [val_main_v19, val_main_v15, val_main_v16, rows]

theorem ref_eq (X : FVec Ideal S8256x2048 .f32) (G : FVec Ideal S4x2048 .f32) (W : FVec Ideal S4x2048x11264 .f32) (O : FVec Ideal S4x5632x2048 .f32) :
    val_main_v27 (F := Ideal) X G W O = Cert.FfnIdeal.Acc.fin X G W O := by
  funext i
  idx_vars i
  pointwise [val_main_v27, val_main_v26, val_main_v25, val_main_v24, val_main_v23, val_main_v22, val_main_v21, val_main_v20, val_main_v18, val_main_v17, val_main_call0_v0, val_main_call0_v1, val_main_call0_v2, val_main_call0_v3, val_main_call0_v4, val_main_call0_v5, val_main_call0_cst, val_main_call0_cst_0, val_main_cst_2, units, Cert.FfnIdeal.Acc.fin, Cert.FfnIdeal.Acc.hid, Cert.FfnIdeal.Pure.gated]

end Cert.RefFfnIdeal.Tie

end
-- ==== Proof.Ffn1.Pure.lean ====
/- What the feed-forward kernel of layer 1's stored values are, index by index, over the extended reals. -/
module

public import proofs.«01_k».proof.Proof.Gen.Ffn1Ideal.Skeleton
public import Idealize.ShloMosaic.Lib.Pipeline.ValueKit

@[expose] public section

set_option maxRecDepth 16384

noncomputable section

open Idealize.ShloMosaic Idealize.ShloMosaic.TcCoe Idealize.SL.Sem

namespace Cert.Ffn1Ideal.Pure

open Cert.Ffn1Ideal Cert.Ffn1Ideal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

/-- The gated unit: the gate times its logistic, times the other half. -/
def gated (g u : EReal) : EReal := g * Ideal.div 1 (1 + Ideal.exp (-g)) * u

theorem pay1_at (v33 v34 : FVec Ideal S688x2048 .f32) (r : Fin 688) (d : Fin 2048) :
    k0_pay1 (F := Ideal) v33 v34 (ix2 r d) = v33 (ix2 r d) + Ideal.ofBits .f32 0x3F000000#32 * v34 (ix2 r d) := by
  pointwise [k0_pay1]

theorem pay2_at (v33 : FVec Ideal S688x2048 .f32) (v34 : FVec Ideal S1x2048 .f32) (r : Fin 688) (k : Fin 2048) :
    k0_pay2 (F := Ideal) v33 v34 (ix2 r k) = nrm (fun l => v33 (ix2 r l)) (fun l => v34 (ix2 0 l)) k := by
  pointwise [k0_pay2, nrm]

theorem pay3_at (j : S688x2048.Idx) : k0_pay3 (F := Ideal) j = 0 := by pointwise [k0_pay3]

theorem pay4_at (xn : FVec Ideal S688x2048 .bf16) (wg wu : FVec Ideal S1x2048x512 .f32) (acc : FVec Ideal S688x2048 .f32)
    (wo : FVec Ideal S1x512x2048 .f32) (r : Fin 688) (d : Fin 2048) :
    k0_pay4 (F := Ideal) xn wg wu acc wo (ix2 r d)
      = acc (ix2 r d) + ∑ l : Fin 512, gated (∑ k : Fin 2048, xn (ix2 r k) * wg (ix3 0 k l)) (∑ k : Fin 2048, xn (ix2 r k) * wu (ix3 0 k l)) * wo (ix3 0 l d) := by
  pointwise [k0_pay4, gated]
  simp only [zero_sub]

end Cert.Ffn1Ideal.Pure

end
-- ==== Proof.Ffn1.Acc.lean ====
/- What the feed-forward kernel of layer 1 holds after each grid point, and the array it ends with, over the extended reals. -/
module

public import proofs.«01_k».proof.Proof.Ffn1.Pure
public import proofs.«01_k».proof.Proof.Gen.Ffn1Ideal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn1Ideal.Acc

open Cert.Ffn1Ideal Cert.Ffn1Ideal.Gen Cert.Ffn1Ideal.Pure

variable (m : (ℓ : Loc nD τ sig) → Buf (Elt Ideal) ℓ)

theorem idx : ∀ t : Fin cfg0.N, win0_0.index t = ![t.val / 11, 0] ∧ win0_1.index t = ![0, 0] ∧ win0_2.index t = ![1, 0, t.val % 11]
    ∧ win0_3.index t = ![1, 0, 11 + t.val % 11] ∧ win0_4.index t = ![1, t.val % 11, 0] ∧ win0_5.index t = ![t.val / 11, 0] ∧ t.val / 11 < 12 :=
  (by decide +kernel : ∀ t : Fin grid0.N, _)

/-- The normalised input, row by row. -/
def hn (X : FVec Ideal S8256x2048 .f32) (G : FVec Ideal S4x2048 .f32) (r : Fin 8256) (k : Fin 2048) : EReal :=
  nrm (fun l => X (ix2 r l)) (fun l => G (ix2 1 l)) k

/-- One hidden unit. -/
def hid (X : FVec Ideal S8256x2048 .f32) (G : FVec Ideal S4x2048 .f32) (W : FVec Ideal S4x2048x11264 .f32) (r : Fin 8256) (l : Fin 5632) : EReal :=
  gated (∑ k : Fin 2048, hn X G r k * W (ix3 1 k ⟨l.val, by omega⟩)) (∑ k : Fin 2048, hn X G r k * W (ix3 1 k ⟨5632 + l.val, by omega⟩))

/-- The part of the second product that block `s` of hidden units adds. -/
def part (X : FVec Ideal S8256x2048 .f32) (G : FVec Ideal S4x2048 .f32) (W : FVec Ideal S4x2048x11264 .f32) (O : FVec Ideal S4x5632x2048 .f32)
    (r : Fin 8256) (d : Fin 2048) (s : Fin 11) : EReal :=
  ∑ l : Fin 512, hid X G W r ⟨s.val * 512 + l.val, by omega⟩ * O (ix3 1 ⟨s.val * 512 + l.val, by omega⟩ d)

/-- The array the kernel leaves. -/
def fin (X : FVec Ideal S8256x2048 .f32) (G : FVec Ideal S4x2048 .f32) (W : FVec Ideal S4x2048x11264 .f32) (O : FVec Ideal S4x5632x2048 .f32) :
    FVec Ideal S8256x2048 .f32 := fun i =>
  X (ix2 (i 0) (i 1)) + Ideal.ofBits .f32 0x3F000000#32 * ∑ l : Fin 5632, hid X G W (i 0) l * O (ix3 1 l (i 1))

abbrev aX (c : Dev nD) : FVec Ideal S8256x2048 .f32 := m ((c : Thread nD τ).loc main_arg0)
abbrev aG (c : Dev nD) : FVec Ideal S4x2048 .f32 := m ((c : Thread nD τ).loc main_arg1)
abbrev aW (c : Dev nD) : FVec Ideal S4x2048x11264 .f32 := m ((c : Thread nD τ).loc main_arg2)
abbrev aO (c : Dev nD) : FVec Ideal S4x5632x2048 .f32 := m ((c : Thread nD τ).loc main_arg3)

theorem blk0 (c : Dev nD) (t : Fin cfg0.N) (r : Fin 688) (k : Fin 2048) :
    (iblk m c 0 t : FVec Ideal S688x2048 .f32) (ix2 r k) = aX m c (ix2 ⟨t.val / 11 * 688 + r.val, by have := (idx t).2.2.2.2.2.2; omega⟩ k) := by
  blk_point [iblk, V, idx t]

theorem blk1 (c : Dev nD) (t : Fin cfg0.N) (k : Fin 2048) :
    (iblk m c 1 t : FVec Ideal S1x2048 .f32) (ix2 0 k) = aG m c (ix2 1 k) := by
  blk_simp [iblk, idx t]
  entry_read
  pointwise
  blk_ext [idx t]

theorem blk2 (c : Dev nD) (t : Fin cfg0.N) (k : Fin 2048) (l : Fin 512) :
    (iblk m c 2 t : FVec Ideal S1x2048x512 .f32) (ix3 0 k l) = aW m c (ix3 1 k ⟨t.val % 11 * 512 + l.val, by omega⟩) := by
  blk_point [iblk, V, idx t]

theorem blk3 (c : Dev nD) (t : Fin cfg0.N) (k : Fin 2048) (l : Fin 512) :
    (iblk m c 3 t : FVec Ideal S1x2048x512 .f32) (ix3 0 k l) = aW m c (ix3 1 k ⟨5632 + (t.val % 11 * 512 + l.val), by omega⟩) := by
  blk_point [iblk, V, idx t]

theorem blk4 (c : Dev nD) (t : Fin cfg0.N) (l : Fin 512) (d : Fin 2048) :
    (iblk m c 4 t : FVec Ideal S1x512x2048 .f32) (ix3 0 l d) = aO m c (ix3 1 ⟨t.val % 11 * 512 + l.val, by omega⟩ d) := by
  blk_point [iblk, V, idx t]

theorem outA1 (c : Dev nD) (t : Fin cfg0.N) (h0 : t.val % 11 = 0) (h1 : ¬t.val % 11 = 10) :
    (outsAt0 m c t.val t.isLt).1 = k0_pay4 (F := Ideal) (k0_pay2 (iblk m c 0 t) (iblk m c 1 t)) (iblk m c 2 t) (iblk m c 3 t) (k0_pay3 (F := Ideal)) (iblk m c 4 t) := by
  rw [outsAt0_A m c t h0 h1]; frame_out

theorem outA2 (c : Dev nD) (t : Fin cfg0.N) (h0 : t.val % 11 = 0) (h1 : ¬t.val % 11 = 10) :
    (outsAt0 m c t.val t.isLt).2 = k0_pay2 (F := Ideal) (iblk m c 0 t) (iblk m c 1 t) := by
  rw [outsAt0_A m c t h0 h1]; frame_out

theorem outB1 (c : Dev nD) (t : Fin cfg0.N) (h0 : ¬t.val % 11 = 0) (h1 : ¬t.val % 11 = 10) :
    (outsAt0 m c t.val t.isLt).1 = k0_pay4 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) := by
  rw [outsAt0_B m c t h0 h1]; frame_out
  rw [read_unread_whole]

theorem outB2 (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]; rfl

theorem outC1 (c : Dev nD) (t : Fin cfg0.N) (h0 : ¬t.val % 11 = 0) (h1 : t.val % 11 = 10) :
    (outsAt0 m c t.val t.isLt).1 = k0_pay1 (F := Ideal) (iblk m c 0 t) (k0_pay4 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t)) := by
  rw [outsAt0_C m c t h0 h1]; frame_out
  rw [read_unread_whole]

/-- `part`, at a natural number. -/
def partN (X : FVec Ideal S8256x2048 .f32) (G : FVec Ideal S4x2048 .f32) (W : FVec Ideal S4x2048x11264 .f32) (O : FVec Ideal S4x5632x2048 .f32)
    (r : Fin 8256) (d : Fin 2048) (s : ℕ) : EReal := if h : s < 11 then part X G W O r d ⟨s, h⟩ else 0

/-- The accumulating payload at a point whose scratch holds the normalised rows: what was there plus the point's part. -/
theorem step (c : Dev nD) (t : Fin cfg0.N) (xn : FVec Ideal S688x2048 .bf16) (acc : FVec Ideal S688x2048 .f32) (r : Fin 688) (d : Fin 2048)
    (R : Fin 8256) (hx : ∀ k, xn (ix2 r k) = hn (aX m c) (aG m c) R k) :
    k0_pay4 (F := Ideal) xn (iblk m c 2 t) (iblk m c 3 t) acc (iblk m c 4 t) (ix2 r d)
      = acc (ix2 r d) + partN (aX m c) (aG m c) (aW m c) (aO m c) R d (t.val % 11) := by
  have hs : t.val % 11 < 11 := Nat.mod_lt _ (by decide)
  refine (pay4_at xn (iblk m c 2 t) (iblk m c 3 t) acc (iblk m c 4 t) r d).trans ?_
  unfold partN
  rw [dif_pos hs]
  unfold part hid
  simp only [hx]
  refine congrArg _ (Finset.sum_congr rfl fun l _ => ?_)
  rw [blk4 m c t l d]
  simp only [blk2 m c t, blk3 m c t]

/-- What the kernel holds after a point that is not the last of its run. -/
theorem held (c : Dev nD) (i : Fin 12) : ∀ (s : ℕ) (hs : s < 10) (t : Fin cfg0.N), t.val = 11 * i.val + s → ∀ r : Fin 688,
    (∀ k : Fin 2048, (show FVec Ideal S688x2048 .bf16 from (outsAt0 m c t.val t.isLt).2) (ix2 r k) = hn (aX m c) (aG m c) ⟨i.val * 688 + r.val, by omega⟩ k)
    ∧ (∀ d : Fin 2048, (show FVec Ideal S688x2048 .f32 from (outsAt0 m c t.val t.isLt).1) (ix2 r d)
        = ∑ j ∈ Finset.range (s + 1), partN (aX m c) (aG m c) (aW m c) (aO m c) ⟨i.val * 688 + r.val, by omega⟩ d j) := by
  intro s
  induction s with
  | zero =>
    intro hs t ht r
    have h0 : t.val % 11 = 0 := by omega
    have h1 : ¬t.val % 11 = 10 := by omega
    have hq : t.val / 11 = i.val := by omega
    have hx : ∀ k : Fin 2048, k0_pay2 (F := Ideal) (iblk m c 0 t) (iblk m c 1 t) (ix2 r k) = hn (aX m c) (aG m c) ⟨i.val * 688 + r.val, by omega⟩ k := fun k => by
      refine (pay2_at (iblk m c 0 t) (iblk m c 1 t) r k).trans ?_
      unfold hn
      simp only [blk0 m c t, blk1 m c t, hq]
    refine ⟨fun k => ?_, fun d => ?_⟩
    · rw [outA2 m c t h0 h1]; exact hx k
    · rw [outA1 m c t h0 h1]
      refine (step m c t _ _ r d _ hx).trans ?_
      rw [pay3_at, zero_add, h0, Finset.sum_range_one]
  | succ s ih =>
    intro hs t ht r
    have h0 : ¬t.val % 11 = 0 := by omega
    have h1 : ¬t.val % 11 = 10 := by omega
    have hm : t.val % 11 = s + 1 := by omega
    obtain ⟨hx, ha⟩ := ih (by omega) ⟨t.val - 1, Nat.lt_of_le_of_lt (Nat.sub_le _ _) t.isLt⟩ (by show t.val - 1 = _; omega) r
    refine ⟨fun k => ?_, fun d => ?_⟩
    · rw [outB2 m c t h0 h1]; exact hx k
    · rw [outB1 m c t h0 h1]
      refine (step m c t _ _ r d _ hx).trans ?_
      rw [Finset.sum_range_succ, hm]
      exact congrArg (· + _) (ha d)

/-- What the run leaves in the block of its last point. -/
theorem last (c : Dev nD) (t : Fin cfg0.N) (hm : t.val % 11 = 10) (r : Fin 688) (d : Fin 2048) :
    (show FVec Ideal S688x2048 .f32 from (outsAt0 m c t.val t.isLt).1) (ix2 r d)
      = fin (aX m c) (aG m c) (aW m c) (aO m c) (ix2 ⟨t.val / 11 * 688 + r.val, by have := (idx t).2.2.2.2.2.2; omega⟩ d) := by
  have hi := (idx t).2.2.2.2.2.2
  have h0 : ¬t.val % 11 = 0 := by omega
  obtain ⟨hx, ha⟩ := held m c ⟨t.val / 11, hi⟩ 9 (by omega) ⟨t.val - 1, Nat.lt_of_le_of_lt (Nat.sub_le _ _) t.isLt⟩ (by show t.val - 1 = 11 * (t.val / 11) + 9; omega) r
  rw [outC1 m c t h0 hm]
  refine (pay1_at (iblk m c 0 t) _ r d).trans ?_
  rw [blk0 m c t r d]
  unfold fin
  refine congrArg _ (congrArg _ ?_)
  refine (step m c t _ _ r d _ hx).trans ?_
  rw [hm]
  refine (congrArg (· + _) (ha d)).trans ?_
  refine (Finset.sum_range_succ (fun j => partN (aX m c) (aG m c) (aW m c) (aO m c) _ d j) 10).symm.trans ?_
  rw [Finset.sum_range]
  unfold partN
  refine (Finset.sum_congr rfl fun s _ => dif_pos s.isLt).trans ?_
  unfold part
  exact (Fin.sum_univ_tiles 11 512 rfl (fun l : Fin 5632 => hid (aX m c) (aG m c) (aW m c) _ l * aO m c (ix3 1 l d))).symm

/-- The array after the run. -/
theorem final (c : Dev nD) : (dats m 0 c).arrAt 5 (cfgs 0).N = fin (aX m c) (aG m c) (aW m c) (aO m c) := by
  refine (dats m 0 c).arrAt_eq_of_covers 5 _ (by decide +kernel) fun t hf y => ?_
  blk_simp
  rw [after0_5]
  have hm := (flush0_5 t).mp hf
  have e := last m c t hm (y 0) (y 1)
  refine Eq.trans ?_ (e.trans ?_)
  · blk_point
  · blk_point [idx t]

end Cert.Ffn1Ideal.Acc

end
-- ==== Proof.Ffn1.Ref.lean ====
/- The plain feed-forward block of layer 1's result, index by index, is the array the kernel leaves. -/
module

public import proofs.«01_k».proof.Proof.Ffn1.Acc
public import proofs.«01_k».proof.Proof.Gen.RefFfn1Ideal.Run
public import proofs.«01_k».proof.Proof.Gen.RefFfn1Ideal.Read

@[expose] public section

set_option maxRecDepth 16384

noncomputable section

open Idealize.ShloMosaic Idealize.ShloMosaic.TcCoe Idealize.SL.Sem

namespace Cert.RefFfn1Ideal.Tie

open Cert.RefFfn1Ideal Cert.RefFfn1Ideal.Gen Cert.RefFfn1Ideal.Read

theorem rows (X : FVec Ideal S8256x2048 .f32) (G : FVec Ideal S4x2048 .f32) (r : Fin 8256) (k : Fin 2048) :
    val_main_v14 (F := Ideal) X G (ix2 r k) = Cert.Ffn1Ideal.Acc.hn X G r k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.Ffn1Ideal.Acc.hn, Cert.Ffn1Ideal.Pure.nrm]

theorem units (X : FVec Ideal S8256x2048 .f32) (G : FVec Ideal S4x2048 .f32) (W : FVec Ideal S4x2048x11264 .f32) (r : Fin 8256) (l : Fin 11264) :
    val_main_v19 (F := Ideal) X G W (ix2 r l) = ∑ k : Fin 2048, Cert.Ffn1Ideal.Acc.hn X G r k * W (ix3 1 k l) := by
  pointwise [val_main_v19, val_main_v15, val_main_v16, rows]

theorem ref_eq (X : FVec Ideal S8256x2048 .f32) (G : FVec Ideal S4x2048 .f32) (W : FVec Ideal S4x2048x11264 .f32) (O : FVec Ideal S4x5632x2048 .f32) :
    val_main_v27 (F := Ideal) X G W O = Cert.Ffn1Ideal.Acc.fin X G W O := by
  funext i
  idx_vars i
  pointwise [val_main_v27, val_main_v26, val_main_v25, val_main_v24, val_main_v23, val_main_v22, val_main_v21, val_main_v20, val_main_v18, val_main_v17, val_main_call0_v0, val_main_call0_v1, val_main_call0_v2, val_main_call0_v3, val_main_call0_v4, val_main_call0_v5, val_main_call0_cst, val_main_call0_cst_0, val_main_cst_2, units, Cert.Ffn1Ideal.Acc.fin, Cert.Ffn1Ideal.Acc.hid, Cert.Ffn1Ideal.Pure.gated]

end Cert.RefFfn1Ideal.Tie

end
-- ==== Proof.Ffn2.Pure.lean ====
/- What the feed-forward kernel of layer 2's stored values are, index by index, over the extended reals. -/
module

public import proofs.«01_k».proof.Proof.Gen.Ffn2Ideal.Skeleton
public import Idealize.ShloMosaic.Lib.Pipeline.ValueKit

@[expose] public section

set_option maxRecDepth 16384

noncomputable section

open Idealize.ShloMosaic Idealize.ShloMosaic.TcCoe Idealize.SL.Sem

namespace Cert.Ffn2Ideal.Pure

open Cert.Ffn2Ideal Cert.Ffn2Ideal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

/-- The gated unit: the gate times its logistic, times the other half. -/
def gated (g u : EReal) : EReal := g * Ideal.div 1 (1 + Ideal.exp (-g)) * u

theorem pay1_at (v33 v34 : FVec Ideal S688x2048 .f32) (r : Fin 688) (d : Fin 2048) :
    k0_pay1 (F := Ideal) v33 v34 (ix2 r d) = v33 (ix2 r d) + Ideal.ofBits .f32 0x3F000000#32 * v34 (ix2 r d) := by
  pointwise [k0_pay1]

theorem pay2_at (v33 : FVec Ideal S688x2048 .f32) (v34 : FVec Ideal S1x2048 .f32) (r : Fin 688) (k : Fin 2048) :
    k0_pay2 (F := Ideal) v33 v34 (ix2 r k) = nrm (fun l => v33 (ix2 r l)) (fun l => v34 (ix2 0 l)) k := by
  pointwise [k0_pay2, nrm]

theorem pay3_at (j : S688x2048.Idx) : k0_pay3 (F := Ideal) j = 0 := by pointwise [k0_pay3]

theorem pay4_at (xn : FVec Ideal S688x2048 .bf16) (wg wu : FVec Ideal S1x2048x512 .f32) (acc : FVec Ideal S688x2048 .f32)
    (wo : FVec Ideal S1x512x2048 .f32) (r : Fin 688) (d : Fin 2048) :
    k0_pay4 (F := Ideal) xn wg wu acc wo (ix2 r d)
      = acc (ix2 r d) + ∑ l : Fin 512, gated (∑ k : Fin 2048, xn (ix2 r k) * wg (ix3 0 k l)) (∑ k : Fin 2048, xn (ix2 r k) * wu (ix3 0 k l)) * wo (ix3 0 l d) := by
  pointwise [k0_pay4, gated]
  simp only [zero_sub]

end Cert.Ffn2Ideal.Pure

end
-- ==== Proof.Ffn2.Acc.lean ====
/- What the feed-forward kernel of layer 2 holds after each grid point, and the array it ends with, over the extended reals. -/
module

public import proofs.«01_k».proof.Proof.Ffn2.Pure
public import proofs.«01_k».proof.Proof.Gen.Ffn2Ideal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn2Ideal.Acc

open Cert.Ffn2Ideal Cert.Ffn2Ideal.Gen Cert.Ffn2Ideal.Pure

variable (m : (ℓ : Loc nD τ sig) → Buf (Elt Ideal) ℓ)

theorem idx : ∀ t : Fin cfg0.N, win0_0.index t = ![t.val / 11, 0] ∧ win0_1.index t = ![0, 0] ∧ win0_2.index t = ![2, 0, t.val % 11]
    ∧ win0_3.index t = ![2, 0, 11 + t.val % 11] ∧ win0_4.index t = ![2, t.val % 11, 0] ∧ win0_5.index t = ![t.val / 11, 0] ∧ t.val / 11 < 12 :=
  (by decide +kernel : ∀ t : Fin grid0.N, _)

/-- The normalised input, row by row. -/
def hn (X : FVec Ideal S8256x2048 .f32) (G : FVec Ideal S4x2048 .f32) (r : Fin 8256) (k : Fin 2048) : EReal :=
  nrm (fun l => X (ix2 r l)) (fun l => G (ix2 2 l)) k

/-- One hidden unit. -/
def hid (X : FVec Ideal S8256x2048 .f32) (G : FVec Ideal S4x2048 .f32) (W : FVec Ideal S4x2048x11264 .f32) (r : Fin 8256) (l : Fin 5632) : EReal :=
  gated (∑ k : Fin 2048, hn X G r k * W (ix3 2 k ⟨l.val, by omega⟩)) (∑ k : Fin 2048, hn X G r k * W (ix3 2 k ⟨5632 + l.val, by omega⟩))

/-- The part of the second product that block `s` of hidden units adds. -/
def part (X : FVec Ideal S8256x2048 .f32) (G : FVec Ideal S4x2048 .f32) (W : FVec Ideal S4x2048x11264 .f32) (O : FVec Ideal S4x5632x2048 .f32)
    (r : Fin 8256) (d : Fin 2048) (s : Fin 11) : EReal :=
  ∑ l : Fin 512, hid X G W r ⟨s.val * 512 + l.val, by omega⟩ * O (ix3 2 ⟨s.val * 512 + l.val, by omega⟩ d)

/-- The array the kernel leaves. -/
def fin (X : FVec Ideal S8256x2048 .f32) (G : FVec Ideal S4x2048 .f32) (W : FVec Ideal S4x2048x11264 .f32) (O : FVec Ideal S4x5632x2048 .f32) :
    FVec Ideal S8256x2048 .f32 := fun i =>
  X (ix2 (i 0) (i 1)) + Ideal.ofBits .f32 0x3F000000#32 * ∑ l : Fin 5632, hid X G W (i 0) l * O (ix3 2 l (i 1))

abbrev aX (c : Dev nD) : FVec Ideal S8256x2048 .f32 := m ((c : Thread nD τ).loc main_arg0)
abbrev aG (c : Dev nD) : FVec Ideal S4x2048 .f32 := m ((c : Thread nD τ).loc main_arg1)
abbrev aW (c : Dev nD) : FVec Ideal S4x2048x11264 .f32 := m ((c : Thread nD τ).loc main_arg2)
abbrev aO (c : Dev nD) : FVec Ideal S4x5632x2048 .f32 := m ((c : Thread nD τ).loc main_arg3)

theorem blk0 (c : Dev nD) (t : Fin cfg0.N) (r : Fin 688) (k : Fin 2048) :
    (iblk m c 0 t : FVec Ideal S688x2048 .f32) (ix2 r k) = aX m c (ix2 ⟨t.val / 11 * 688 + r.val, by have := (idx t).2.2.2.2.2.2; omega⟩ k) := by
  blk_point [iblk, V, idx t]

theorem blk1 (c : Dev nD) (t : Fin cfg0.N) (k : Fin 2048) :
    (iblk m c 1 t : FVec Ideal S1x2048 .f32) (ix2 0 k) = aG m c (ix2 2 k) := by
  blk_simp [iblk, idx t]
  entry_read
  pointwise
  blk_ext [idx t]

theorem blk2 (c : Dev nD) (t : Fin cfg0.N) (k : Fin 2048) (l : Fin 512) :
    (iblk m c 2 t : FVec Ideal S1x2048x512 .f32) (ix3 0 k l) = aW m c (ix3 2 k ⟨t.val % 11 * 512 + l.val, by omega⟩) := by
  blk_point [iblk, V, idx t]

theorem blk3 (c : Dev nD) (t : Fin cfg0.N) (k : Fin 2048) (l : Fin 512) :
    (iblk m c 3 t : FVec Ideal S1x2048x512 .f32) (ix3 0 k l) = aW m c (ix3 2 k ⟨5632 + (t.val % 11 * 512 + l.val), by omega⟩) := by
  blk_point [iblk, V, idx t]

theorem blk4 (c : Dev nD) (t : Fin cfg0.N) (l : Fin 512) (d : Fin 2048) :
    (iblk m c 4 t : FVec Ideal S1x512x2048 .f32) (ix3 0 l d) = aO m c (ix3 2 ⟨t.val % 11 * 512 + l.val, by omega⟩ d) := by
  blk_point [iblk, V, idx t]

theorem outA1 (c : Dev nD) (t : Fin cfg0.N) (h0 : t.val % 11 = 0) (h1 : ¬t.val % 11 = 10) :
    (outsAt0 m c t.val t.isLt).1 = k0_pay4 (F := Ideal) (k0_pay2 (iblk m c 0 t) (iblk m c 1 t)) (iblk m c 2 t) (iblk m c 3 t) (k0_pay3 (F := Ideal)) (iblk m c 4 t) := by
  rw [outsAt0_A m c t h0 h1]; frame_out

theorem outA2 (c : Dev nD) (t : Fin cfg0.N) (h0 : t.val % 11 = 0) (h1 : ¬t.val % 11 = 10) :
    (outsAt0 m c t.val t.isLt).2 = k0_pay2 (F := Ideal) (iblk m c 0 t) (iblk m c 1 t) := by
  rw [outsAt0_A m c t h0 h1]; frame_out

theorem outB1 (c : Dev nD) (t : Fin cfg0.N) (h0 : ¬t.val % 11 = 0) (h1 : ¬t.val % 11 = 10) :
    (outsAt0 m c t.val t.isLt).1 = k0_pay4 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) := by
  rw [outsAt0_B m c t h0 h1]; frame_out
  rw [read_unread_whole]

theorem outB2 (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]; rfl

theorem outC1 (c : Dev nD) (t : Fin cfg0.N) (h0 : ¬t.val % 11 = 0) (h1 : t.val % 11 = 10) :
    (outsAt0 m c t.val t.isLt).1 = k0_pay1 (F := Ideal) (iblk m c 0 t) (k0_pay4 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t)) := by
  rw [outsAt0_C m c t h0 h1]; frame_out
  rw [read_unread_whole]

/-- `part`, at a natural number. -/
def partN (X : FVec Ideal S8256x2048 .f32) (G : FVec Ideal S4x2048 .f32) (W : FVec Ideal S4x2048x11264 .f32) (O : FVec Ideal S4x5632x2048 .f32)
    (r : Fin 8256) (d : Fin 2048) (s : ℕ) : EReal := if h : s < 11 then part X G W O r d ⟨s, h⟩ else 0

/-- The accumulating payload at a point whose scratch holds the normalised rows: what was there plus the point's part. -/
theorem step (c : Dev nD) (t : Fin cfg0.N) (xn : FVec Ideal S688x2048 .bf16) (acc : FVec Ideal S688x2048 .f32) (r : Fin 688) (d : Fin 2048)
    (R : Fin 8256) (hx : ∀ k, xn (ix2 r k) = hn (aX m c) (aG m c) R k) :
    k0_pay4 (F := Ideal) xn (iblk m c 2 t) (iblk m c 3 t) acc (iblk m c 4 t) (ix2 r d)
      = acc (ix2 r d) + partN (aX m c) (aG m c) (aW m c) (aO m c) R d (t.val % 11) := by
  have hs : t.val % 11 < 11 := Nat.mod_lt _ (by decide)
  refine (pay4_at xn (iblk m c 2 t) (iblk m c 3 t) acc (iblk m c 4 t) r d).trans ?_
  unfold partN
  rw [dif_pos hs]
  unfold part hid
  simp only [hx]
  refine congrArg _ (Finset.sum_congr rfl fun l _ => ?_)
  rw [blk4 m c t l d]
  simp only [blk2 m c t, blk3 m c t]

/-- What the kernel holds after a point that is not the last of its run. -/
theorem held (c : Dev nD) (i : Fin 12) : ∀ (s : ℕ) (hs : s < 10) (t : Fin cfg0.N), t.val = 11 * i.val + s → ∀ r : Fin 688,
    (∀ k : Fin 2048, (show FVec Ideal S688x2048 .bf16 from (outsAt0 m c t.val t.isLt).2) (ix2 r k) = hn (aX m c) (aG m c) ⟨i.val * 688 + r.val, by omega⟩ k)
    ∧ (∀ d : Fin 2048, (show FVec Ideal S688x2048 .f32 from (outsAt0 m c t.val t.isLt).1) (ix2 r d)
        = ∑ j ∈ Finset.range (s + 1), partN (aX m c) (aG m c) (aW m c) (aO m c) ⟨i.val * 688 + r.val, by omega⟩ d j) := by
  intro s
  induction s with
  | zero =>
    intro hs t ht r
    have h0 : t.val % 11 = 0 := by omega
    have h1 : ¬t.val % 11 = 10 := by omega
    have hq : t.val / 11 = i.val := by omega
    have hx : ∀ k : Fin 2048, k0_pay2 (F := Ideal) (iblk m c 0 t) (iblk m c 1 t) (ix2 r k) = hn (aX m c) (aG m c) ⟨i.val * 688 + r.val, by omega⟩ k := fun k => by
      refine (pay2_at (iblk m c 0 t) (iblk m c 1 t) r k).trans ?_
      unfold hn
      simp only [blk0 m c t, blk1 m c t, hq]
    refine ⟨fun k => ?_, fun d => ?_⟩
    · rw [outA2 m c t h0 h1]; exact hx k
    · rw [outA1 m c t h0 h1]
      refine (step m c t _ _ r d _ hx).trans ?_
      rw [pay3_at, zero_add, h0, Finset.sum_range_one]
  | succ s ih =>
    intro hs t ht r
    have h0 : ¬t.val % 11 = 0 := by omega
    have h1 : ¬t.val % 11 = 10 := by omega
    have hm : t.val % 11 = s + 1 := by omega
    obtain ⟨hx, ha⟩ := ih (by omega) ⟨t.val - 1, Nat.lt_of_le_of_lt (Nat.sub_le _ _) t.isLt⟩ (by show t.val - 1 = _; omega) r
    refine ⟨fun k => ?_, fun d => ?_⟩
    · rw [outB2 m c t h0 h1]; exact hx k
    · rw [outB1 m c t h0 h1]
      refine (step m c t _ _ r d _ hx).trans ?_
      rw [Finset.sum_range_succ, hm]
      exact congrArg (· + _) (ha d)

/-- What the run leaves in the block of its last point. -/
theorem last (c : Dev nD) (t : Fin cfg0.N) (hm : t.val % 11 = 10) (r : Fin 688) (d : Fin 2048) :
    (show FVec Ideal S688x2048 .f32 from (outsAt0 m c t.val t.isLt).1) (ix2 r d)
      = fin (aX m c) (aG m c) (aW m c) (aO m c) (ix2 ⟨t.val / 11 * 688 + r.val, by have := (idx t).2.2.2.2.2.2; omega⟩ d) := by
  have hi := (idx t).2.2.2.2.2.2
  have h0 : ¬t.val % 11 = 0 := by omega
  obtain ⟨hx, ha⟩ := held m c ⟨t.val / 11, hi⟩ 9 (by omega) ⟨t.val - 1, Nat.lt_of_le_of_lt (Nat.sub_le _ _) t.isLt⟩ (by show t.val - 1 = 11 * (t.val / 11) + 9; omega) r
  rw [outC1 m c t h0 hm]
  refine (pay1_at (iblk m c 0 t) _ r d).trans ?_
  rw [blk0 m c t r d]
  unfold fin
  refine congrArg _ (congrArg _ ?_)
  refine (step m c t _ _ r d _ hx).trans ?_
  rw [hm]
  refine (congrArg (· + _) (ha d)).trans ?_
  refine (Finset.sum_range_succ (fun j => partN (aX m c) (aG m c) (aW m c) (aO m c) _ d j) 10).symm.trans ?_
  rw [Finset.sum_range]
  unfold partN
  refine (Finset.sum_congr rfl fun s _ => dif_pos s.isLt).trans ?_
  unfold part
  exact (Fin.sum_univ_tiles 11 512 rfl (fun l : Fin 5632 => hid (aX m c) (aG m c) (aW m c) _ l * aO m c (ix3 2 l d))).symm

/-- The array after the run. -/
theorem final (c : Dev nD) : (dats m 0 c).arrAt 5 (cfgs 0).N = fin (aX m c) (aG m c) (aW m c) (aO m c) := by
  refine (dats m 0 c).arrAt_eq_of_covers 5 _ (by decide +kernel) fun t hf y => ?_
  blk_simp
  rw [after0_5]
  have hm := (flush0_5 t).mp hf
  have e := last m c t hm (y 0) (y 1)
  refine Eq.trans ?_ (e.trans ?_)
  · blk_point
  · blk_point [idx t]

end Cert.Ffn2Ideal.Acc

end
-- ==== Proof.Ffn2.Ref.lean ====
/- The plain feed-forward block of layer 2's result, index by index, is the array the kernel leaves. -/
module

public import proofs.«01_k».proof.Proof.Ffn2.Acc
public import proofs.«01_k».proof.Proof.Gen.RefFfn2Ideal.Run
public import proofs.«01_k».proof.Proof.Gen.RefFfn2Ideal.Read

@[expose] public section

set_option maxRecDepth 16384

noncomputable section

open Idealize.ShloMosaic Idealize.ShloMosaic.TcCoe Idealize.SL.Sem

namespace Cert.RefFfn2Ideal.Tie

open Cert.RefFfn2Ideal Cert.RefFfn2Ideal.Gen Cert.RefFfn2Ideal.Read

theorem rows (X : FVec Ideal S8256x2048 .f32) (G : FVec Ideal S4x2048 .f32) (r : Fin 8256) (k : Fin 2048) :
    val_main_v14 (F := Ideal) X G (ix2 r k) = Cert.Ffn2Ideal.Acc.hn X G r k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.Ffn2Ideal.Acc.hn, Cert.Ffn2Ideal.Pure.nrm]

theorem units (X : FVec Ideal S8256x2048 .f32) (G : FVec Ideal S4x2048 .f32) (W : FVec Ideal S4x2048x11264 .f32) (r : Fin 8256) (l : Fin 11264) :
    val_main_v19 (F := Ideal) X G W (ix2 r l) = ∑ k : Fin 2048, Cert.Ffn2Ideal.Acc.hn X G r k * W (ix3 2 k l) := by
  pointwise [val_main_v19, val_main_v15, val_main_v16, rows]

theorem ref_eq (X : FVec Ideal S8256x2048 .f32) (G : FVec Ideal S4x2048 .f32) (W : FVec Ideal S4x2048x11264 .f32) (O : FVec Ideal S4x5632x2048 .f32) :
    val_main_v27 (F := Ideal) X G W O = Cert.Ffn2Ideal.Acc.fin X G W O := by
  funext i
  idx_vars i
  pointwise [val_main_v27, val_main_v26, val_main_v25, val_main_v24, val_main_v23, val_main_v22, val_main_v21, val_main_v20, val_main_v18, val_main_v17, val_main_call0_v0, val_main_call0_v1, val_main_call0_v2, val_main_call0_v3, val_main_call0_v4, val_main_call0_v5, val_main_call0_cst, val_main_call0_cst_0, val_main_cst_2, units, Cert.Ffn2Ideal.Acc.fin, Cert.Ffn2Ideal.Acc.hid, Cert.Ffn2Ideal.Pure.gated]

end Cert.RefFfn2Ideal.Tie

end
-- ==== Proof.Ffn3.Pure.lean ====
/- What the feed-forward kernel of layer 3's stored values are, index by index, over the extended reals. -/
module

public import proofs.«01_k».proof.Proof.Gen.Ffn3Ideal.Skeleton
public import Idealize.ShloMosaic.Lib.Pipeline.ValueKit

@[expose] public section

set_option maxRecDepth 16384

noncomputable section

open Idealize.ShloMosaic Idealize.ShloMosaic.TcCoe Idealize.SL.Sem

namespace Cert.Ffn3Ideal.Pure

open Cert.Ffn3Ideal Cert.Ffn3Ideal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

/-- The gated unit: the gate times its logistic, times the other half. -/
def gated (g u : EReal) : EReal := g * Ideal.div 1 (1 + Ideal.exp (-g)) * u

theorem pay1_at (v33 v34 : FVec Ideal S688x2048 .f32) (r : Fin 688) (d : Fin 2048) :
    k0_pay1 (F := Ideal) v33 v34 (ix2 r d) = v33 (ix2 r d) + Ideal.ofBits .f32 0x3F000000#32 * v34 (ix2 r d) := by
  pointwise [k0_pay1]

theorem pay2_at (v33 : FVec Ideal S688x2048 .f32) (v34 : FVec Ideal S1x2048 .f32) (r : Fin 688) (k : Fin 2048) :
    k0_pay2 (F := Ideal) v33 v34 (ix2 r k) = nrm (fun l => v33 (ix2 r l)) (fun l => v34 (ix2 0 l)) k := by
  pointwise [k0_pay2, nrm]

theorem pay3_at (j : S688x2048.Idx) : k0_pay3 (F := Ideal) j = 0 := by pointwise [k0_pay3]

theorem pay4_at (xn : FVec Ideal S688x2048 .bf16) (wg wu : FVec Ideal S1x2048x512 .f32) (acc : FVec Ideal S688x2048 .f32)
    (wo : FVec Ideal S1x512x2048 .f32) (r : Fin 688) (d : Fin 2048) :
    k0_pay4 (F := Ideal) xn wg wu acc wo (ix2 r d)
      = acc (ix2 r d) + ∑ l : Fin 512, gated (∑ k : Fin 2048, xn (ix2 r k) * wg (ix3 0 k l)) (∑ k : Fin 2048, xn (ix2 r k) * wu (ix3 0 k l)) * wo (ix3 0 l d) := by
  pointwise [k0_pay4, gated]
  simp only [zero_sub]

end Cert.Ffn3Ideal.Pure

end
-- ==== Proof.Ffn3.Acc.lean ====
/- What the feed-forward kernel of layer 3 holds after each grid point, and the array it ends with, over the extended reals. -/
module

public import proofs.«01_k».proof.Proof.Ffn3.Pure
public import proofs.«01_k».proof.Proof.Gen.Ffn3Ideal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn3Ideal.Acc

open Cert.Ffn3Ideal Cert.Ffn3Ideal.Gen Cert.Ffn3Ideal.Pure

variable (m : (ℓ : Loc nD τ sig) → Buf (Elt Ideal) ℓ)

theorem idx : ∀ t : Fin cfg0.N, win0_0.index t = ![t.val / 11, 0] ∧ win0_1.index t = ![0, 0] ∧ win0_2.index t = ![3, 0, t.val % 11]
    ∧ win0_3.index t = ![3, 0, 11 + t.val % 11] ∧ win0_4.index t = ![3, t.val % 11, 0] ∧ win0_5.index t = ![t.val / 11, 0] ∧ t.val / 11 < 12 :=
  (by decide +kernel : ∀ t : Fin grid0.N, _)

/-- The normalised input, row by row. -/
def hn (X : FVec Ideal S8256x2048 .f32) (G : FVec Ideal S4x2048 .f32) (r : Fin 8256) (k : Fin 2048) : EReal :=
  nrm (fun l => X (ix2 r l)) (fun l => G (ix2 3 l)) k

/-- One hidden unit. -/
def hid (X : FVec Ideal S8256x2048 .f32) (G : FVec Ideal S4x2048 .f32) (W : FVec Ideal S4x2048x11264 .f32) (r : Fin 8256) (l : Fin 5632) : EReal :=
  gated (∑ k : Fin 2048, hn X G r k * W (ix3 3 k ⟨l.val, by omega⟩)) (∑ k : Fin 2048, hn X G r k * W (ix3 3 k ⟨5632 + l.val, by omega⟩))

/-- The part of the second product that block `s` of hidden units adds. -/
def part (X : FVec Ideal S8256x2048 .f32) (G : FVec Ideal S4x2048 .f32) (W : FVec Ideal S4x2048x11264 .f32) (O : FVec Ideal S4x5632x2048 .f32)
    (r : Fin 8256) (d : Fin 2048) (s : Fin 11) : EReal :=
  ∑ l : Fin 512, hid X G W r ⟨s.val * 512 + l.val, by omega⟩ * O (ix3 3 ⟨s.val * 512 + l.val, by omega⟩ d)

/-- The array the kernel leaves. -/
def fin (X : FVec Ideal S8256x2048 .f32) (G : FVec Ideal S4x2048 .f32) (W : FVec Ideal S4x2048x11264 .f32) (O : FVec Ideal S4x5632x2048 .f32) :
    FVec Ideal S8256x2048 .f32 := fun i =>
  X (ix2 (i 0) (i 1)) + Ideal.ofBits .f32 0x3F000000#32 * ∑ l : Fin 5632, hid X G W (i 0) l * O (ix3 3 l (i 1))

abbrev aX (c : Dev nD) : FVec Ideal S8256x2048 .f32 := m ((c : Thread nD τ).loc main_arg0)
abbrev aG (c : Dev nD) : FVec Ideal S4x2048 .f32 := m ((c : Thread nD τ).loc main_arg1)
abbrev aW (c : Dev nD) : FVec Ideal S4x2048x11264 .f32 := m ((c : Thread nD τ).loc main_arg2)
abbrev aO (c : Dev nD) : FVec Ideal S4x5632x2048 .f32 := m ((c : Thread nD τ).loc main_arg3)

theorem blk0 (c : Dev nD) (t : Fin cfg0.N) (r : Fin 688) (k : Fin 2048) :
    (iblk m c 0 t : FVec Ideal S688x2048 .f32) (ix2 r k) = aX m c (ix2 ⟨t.val / 11 * 688 + r.val, by have := (idx t).2.2.2.2.2.2; omega⟩ k) := by
  blk_point [iblk, V, idx t]

theorem blk1 (c : Dev nD) (t : Fin cfg0.N) (k : Fin 2048) :
    (iblk m c 1 t : FVec Ideal S1x2048 .f32) (ix2 0 k) = aG m c (ix2 3 k) := by
  blk_simp [iblk, idx t]
  entry_read
  pointwise
  blk_ext [idx t]

theorem blk2 (c : Dev nD) (t : Fin cfg0.N) (k : Fin 2048) (l : Fin 512) :
    (iblk m c 2 t : FVec Ideal S1x2048x512 .f32) (ix3 0 k l) = aW m c (ix3 3 k ⟨t.val % 11 * 512 + l.val, by omega⟩) := by
  blk_point [iblk, V, idx t]

theorem blk3 (c : Dev nD) (t : Fin cfg0.N) (k : Fin 2048) (l : Fin 512) :
    (iblk m c 3 t : FVec Ideal S1x2048x512 .f32) (ix3 0 k l) = aW m c (ix3 3 k ⟨5632 + (t.val % 11 * 512 + l.val), by omega⟩) := by
  blk_point [iblk, V, idx t]

theorem blk4 (c : Dev nD) (t : Fin cfg0.N) (l : Fin 512) (d : Fin 2048) :
    (iblk m c 4 t : FVec Ideal S1x512x2048 .f32) (ix3 0 l d) = aO m c (ix3 3 ⟨t.val % 11 * 512 + l.val, by omega⟩ d) := by
  blk_point [iblk, V, idx t]

theorem outA1 (c : Dev nD) (t : Fin cfg0.N) (h0 : t.val % 11 = 0) (h1 : ¬t.val % 11 = 10) :
    (outsAt0 m c t.val t.isLt).1 = k0_pay4 (F := Ideal) (k0_pay2 (iblk m c 0 t) (iblk m c 1 t)) (iblk m c 2 t) (iblk m c 3 t) (k0_pay3 (F := Ideal)) (iblk m c 4 t) := by
  rw [outsAt0_A m c t h0 h1]; frame_out

theorem outA2 (c : Dev nD) (t : Fin cfg0.N) (h0 : t.val % 11 = 0) (h1 : ¬t.val % 11 = 10) :
    (outsAt0 m c t.val t.isLt).2 = k0_pay2 (F := Ideal) (iblk m c 0 t) (iblk m c 1 t) := by
  rw [outsAt0_A m c t h0 h1]; frame_out

theorem outB1 (c : Dev nD) (t : Fin cfg0.N) (h0 : ¬t.val % 11 = 0) (h1 : ¬t.val % 11 = 10) :
    (outsAt0 m c t.val t.isLt).1 = k0_pay4 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) := by
  rw [outsAt0_B m c t h0 h1]; frame_out
  rw [read_unread_whole]

theorem outB2 (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]; rfl

theorem outC1 (c : Dev nD) (t : Fin cfg0.N) (h0 : ¬t.val % 11 = 0) (h1 : t.val % 11 = 10) :
    (outsAt0 m c t.val t.isLt).1 = k0_pay1 (F := Ideal) (iblk m c 0 t) (k0_pay4 (F := Ideal) (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t)) := by
  rw [outsAt0_C m c t h0 h1]; frame_out
  rw [read_unread_whole]

/-- `part`, at a natural number. -/
def partN (X : FVec Ideal S8256x2048 .f32) (G : FVec Ideal S4x2048 .f32) (W : FVec Ideal S4x2048x11264 .f32) (O : FVec Ideal S4x5632x2048 .f32)
    (r : Fin 8256) (d : Fin 2048) (s : ℕ) : EReal := if h : s < 11 then part X G W O r d ⟨s, h⟩ else 0

/-- The accumulating payload at a point whose scratch holds the normalised rows: what was there plus the point's part. -/
theorem step (c : Dev nD) (t : Fin cfg0.N) (xn : FVec Ideal S688x2048 .bf16) (acc : FVec Ideal S688x2048 .f32) (r : Fin 688) (d : Fin 2048)
    (R : Fin 8256) (hx : ∀ k, xn (ix2 r k) = hn (aX m c) (aG m c) R k) :
    k0_pay4 (F := Ideal) xn (iblk m c 2 t) (iblk m c 3 t) acc (iblk m c 4 t) (ix2 r d)
      = acc (ix2 r d) + partN (aX m c) (aG m c) (aW m c) (aO m c) R d (t.val % 11) := by
  have hs : t.val % 11 < 11 := Nat.mod_lt _ (by decide)
  refine (pay4_at xn (iblk m c 2 t) (iblk m c 3 t) acc (iblk m c 4 t) r d).trans ?_
  unfold partN
  rw [dif_pos hs]
  unfold part hid
  simp only [hx]
  refine congrArg _ (Finset.sum_congr rfl fun l _ => ?_)
  rw [blk4 m c t l d]
  simp only [blk2 m c t, blk3 m c t]

/-- What the kernel holds after a point that is not the last of its run. -/
theorem held (c : Dev nD) (i : Fin 12) : ∀ (s : ℕ) (hs : s < 10) (t : Fin cfg0.N), t.val = 11 * i.val + s → ∀ r : Fin 688,
    (∀ k : Fin 2048, (show FVec Ideal S688x2048 .bf16 from (outsAt0 m c t.val t.isLt).2) (ix2 r k) = hn (aX m c) (aG m c) ⟨i.val * 688 + r.val, by omega⟩ k)
    ∧ (∀ d : Fin 2048, (show FVec Ideal S688x2048 .f32 from (outsAt0 m c t.val t.isLt).1) (ix2 r d)
        = ∑ j ∈ Finset.range (s + 1), partN (aX m c) (aG m c) (aW m c) (aO m c) ⟨i.val * 688 + r.val, by omega⟩ d j) := by
  intro s
  induction s with
  | zero =>
    intro hs t ht r
    have h0 : t.val % 11 = 0 := by omega
    have h1 : ¬t.val % 11 = 10 := by omega
    have hq : t.val / 11 = i.val := by omega
    have hx : ∀ k : Fin 2048, k0_pay2 (F := Ideal) (iblk m c 0 t) (iblk m c 1 t) (ix2 r k) = hn (aX m c) (aG m c) ⟨i.val * 688 + r.val, by omega⟩ k := fun k => by
      refine (pay2_at (iblk m c 0 t) (iblk m c 1 t) r k).trans ?_
      unfold hn
      simp only [blk0 m c t, blk1 m c t, hq]
    refine ⟨fun k => ?_, fun d => ?_⟩
    · rw [outA2 m c t h0 h1]; exact hx k
    · rw [outA1 m c t h0 h1]
      refine (step m c t _ _ r d _ hx).trans ?_
      rw [pay3_at, zero_add, h0, Finset.sum_range_one]
  | succ s ih =>
    intro hs t ht r
    have h0 : ¬t.val % 11 = 0 := by omega
    have h1 : ¬t.val % 11 = 10 := by omega
    have hm : t.val % 11 = s + 1 := by omega
    obtain ⟨hx, ha⟩ := ih (by omega) ⟨t.val - 1, Nat.lt_of_le_of_lt (Nat.sub_le _ _) t.isLt⟩ (by show t.val - 1 = _; omega) r
    refine ⟨fun k => ?_, fun d => ?_⟩
    · rw [outB2 m c t h0 h1]; exact hx k
    · rw [outB1 m c t h0 h1]
      refine (step m c t _ _ r d _ hx).trans ?_
      rw [Finset.sum_range_succ, hm]
      exact congrArg (· + _) (ha d)

/-- What the run leaves in the block of its last point. -/
theorem last (c : Dev nD) (t : Fin cfg0.N) (hm : t.val % 11 = 10) (r : Fin 688) (d : Fin 2048) :
    (show FVec Ideal S688x2048 .f32 from (outsAt0 m c t.val t.isLt).1) (ix2 r d)
      = fin (aX m c) (aG m c) (aW m c) (aO m c) (ix2 ⟨t.val / 11 * 688 + r.val, by have := (idx t).2.2.2.2.2.2; omega⟩ d) := by
  have hi := (idx t).2.2.2.2.2.2
  have h0 : ¬t.val % 11 = 0 := by omega
  obtain ⟨hx, ha⟩ := held m c ⟨t.val / 11, hi⟩ 9 (by omega) ⟨t.val - 1, Nat.lt_of_le_of_lt (Nat.sub_le _ _) t.isLt⟩ (by show t.val - 1 = 11 * (t.val / 11) + 9; omega) r
  rw [outC1 m c t h0 hm]
  refine (pay1_at (iblk m c 0 t) _ r d).trans ?_
  rw [blk0 m c t r d]
  unfold fin
  refine congrArg _ (congrArg _ ?_)
  refine (step m c t _ _ r d _ hx).trans ?_
  rw [hm]
  refine (congrArg (· + _) (ha d)).trans ?_
  refine (Finset.sum_range_succ (fun j => partN (aX m c) (aG m c) (aW m c) (aO m c) _ d j) 10).symm.trans ?_
  rw [Finset.sum_range]
  unfold partN
  refine (Finset.sum_congr rfl fun s _ => dif_pos s.isLt).trans ?_
  unfold part
  exact (Fin.sum_univ_tiles 11 512 rfl (fun l : Fin 5632 => hid (aX m c) (aG m c) (aW m c) _ l * aO m c (ix3 3 l d))).symm

/-- The array after the run. -/
theorem final (c : Dev nD) : (dats m 0 c).arrAt 5 (cfgs 0).N = fin (aX m c) (aG m c) (aW m c) (aO m c) := by
  refine (dats m 0 c).arrAt_eq_of_covers 5 _ (by decide +kernel) fun t hf y => ?_
  blk_simp
  rw [after0_5]
  have hm := (flush0_5 t).mp hf
  have e := last m c t hm (y 0) (y 1)
  refine Eq.trans ?_ (e.trans ?_)
  · blk_point
  · blk_point [idx t]

end Cert.Ffn3Ideal.Acc

end
-- ==== Proof.Ffn3.Ref.lean ====
/- The plain feed-forward block of layer 3's result, index by index, is the array the kernel leaves. -/
module

public import proofs.«01_k».proof.Proof.Ffn3.Acc
public import proofs.«01_k».proof.Proof.Gen.RefFfn3Ideal.Run
public import proofs.«01_k».proof.Proof.Gen.RefFfn3Ideal.Read

@[expose] public section

set_option maxRecDepth 16384

noncomputable section

open Idealize.ShloMosaic Idealize.ShloMosaic.TcCoe Idealize.SL.Sem

namespace Cert.RefFfn3Ideal.Tie

open Cert.RefFfn3Ideal Cert.RefFfn3Ideal.Gen Cert.RefFfn3Ideal.Read

theorem rows (X : FVec Ideal S8256x2048 .f32) (G : FVec Ideal S4x2048 .f32) (r : Fin 8256) (k : Fin 2048) :
    val_main_v14 (F := Ideal) X G (ix2 r k) = Cert.Ffn3Ideal.Acc.hn X G r k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.Ffn3Ideal.Acc.hn, Cert.Ffn3Ideal.Pure.nrm]

theorem units (X : FVec Ideal S8256x2048 .f32) (G : FVec Ideal S4x2048 .f32) (W : FVec Ideal S4x2048x11264 .f32) (r : Fin 8256) (l : Fin 11264) :
    val_main_v19 (F := Ideal) X G W (ix2 r l) = ∑ k : Fin 2048, Cert.Ffn3Ideal.Acc.hn X G r k * W (ix3 3 k l) := by
  pointwise [val_main_v19, val_main_v15, val_main_v16, rows]

theorem ref_eq (X : FVec Ideal S8256x2048 .f32) (G : FVec Ideal S4x2048 .f32) (W : FVec Ideal S4x2048x11264 .f32) (O : FVec Ideal S4x5632x2048 .f32) :
    val_main_v27 (F := Ideal) X G W O = Cert.Ffn3Ideal.Acc.fin X G W O := by
  funext i
  idx_vars i
  pointwise [val_main_v27, val_main_v26, val_main_v25, val_main_v24, val_main_v23, val_main_v22, val_main_v21, val_main_v20, val_main_v18, val_main_v17, val_main_call0_v0, val_main_call0_v1, val_main_call0_v2, val_main_call0_v3, val_main_call0_v4, val_main_call0_v5, val_main_call0_cst, val_main_call0_cst_0, val_main_cst_2, units, Cert.Ffn3Ideal.Acc.fin, Cert.Ffn3Ideal.Acc.hid, Cert.Ffn3Ideal.Pure.gated]

end Cert.RefFfn3Ideal.Tie

end
-- ==== Proof.Qkv.Acc.lean ====
/- What the query/key/value projection kernel leaves, element by element, over the extended reals. -/
module

public import proofs.«01_k».proof.Proof.Gen.QkvIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QkvIdeal.Acc

open Cert.QkvIdeal Cert.QkvIdeal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

theorem pay1_at (a : FVec Ideal S688x2048 .f32) (b : FVec Ideal S1x2048 .f32) (r : Fin 688) (k : Fin 2048) :
    k0_pay1 (F := Ideal) a b (ix2 r k) = nrm (fun l => a (ix2 r l)) (fun l => b (ix2 0 l)) k := by
  pointwise [k0_pay1, nrm]

theorem pay2_at (a : FVec Ideal S688x2048 .bf16) (b : FVec Ideal S2048x2048 .bf16) (r : Fin 688) (d : Fin 2048) :
    k0_pay2 (F := Ideal) a b (ix2 r d) = ∑ k : Fin 2048, a (ix2 r k) * b (ix2 k d) := by
  pointwise [k0_pay2]

variable (m : (ℓ : Loc nD τ sig) → Buf (Elt Ideal) ℓ)

theorem idx : ∀ t : Fin cfg0.N, win0_0.index t = ![t.val / 9, 0] ∧ win0_1.index t = ![0, 0] ∧ win0_2.index t = ![0, t.val % 9]
    ∧ win0_3.index t = ![t.val / 9, t.val % 9] ∧ t.val / 9 < 12 :=
  (by decide +kernel : ∀ t : Fin grid0.N, _)

/-- The normalised input, row by row. -/
def hn (X : FVec Ideal S8256x2048 .f32) (G : FVec Ideal S4x2048 .f32) (r : Fin 8256) (k : Fin 2048) : EReal :=
  nrm (fun l => X (ix2 r l)) (fun l => G (ix2 1 l)) k

/-- The weight the product takes at a column. -/
def wt (W : FVec Ideal S1x2048x18432 .f32) (k : Fin 2048) (l : Fin 18432) : EReal := W (ix3 0 k l)

/-- The array the kernel leaves. -/
def fin (X : FVec Ideal S8256x2048 .f32) (G : FVec Ideal S4x2048 .f32) (W : FVec Ideal S1x2048x18432 .f32) : FVec Ideal S8256x18432 .f32 := fun i =>
  ∑ k : Fin 2048, hn X G (i 0) k * wt W k (i 1)

abbrev aX (c : Dev nD) : FVec Ideal S8256x2048 .f32 := m ((c : Thread nD τ).loc main_arg0)
abbrev aG (c : Dev nD) : FVec Ideal S4x2048 .f32 := m ((c : Thread nD τ).loc main_arg1)
abbrev aW (c : Dev nD) : FVec Ideal S1x2048x18432 .f32 := m ((c : Thread nD τ).loc main_arg2)

theorem blk0 (c : Dev nD) (t : Fin cfg0.N) (r : Fin 688) (k : Fin 2048) :
    (iblk m c 0 t : FVec Ideal S688x2048 .f32) (ix2 r k) = aX m c (ix2 ⟨t.val / 9 * 688 + r.val, by have := (idx t).2.2.2.2; omega⟩ k) := by
  blk_point [iblk, V, idx t]

theorem blk1 (c : Dev nD) (t : Fin cfg0.N) (k : Fin 2048) :
    (iblk m c 1 t : FVec Ideal S1x2048 .f32) (ix2 0 k) = aG m c (ix2 1 k) := by
  blk_simp [iblk, idx t]
  entry_read
  pointwise
  blk_ext [idx t]

theorem blk2 (c : Dev nD) (t : Fin cfg0.N) (k : Fin 2048) (l : Fin 2048) :
    (iblk m c 2 t : FVec Ideal S2048x2048 .bf16) (ix2 k l) = wt (aW m c) k ⟨t.val % 9 * 2048 + l.val, by omega⟩ := by
  blk_simp [iblk, idx t]
  entry_read
  pointwise
  blk_ext [idx t]

theorem outA1 (c : Dev nD) (t : Fin cfg0.N) (h0 : t.val % 9 = 0) :
    (outsAt0 m c t.val t.isLt).1 = k0_pay2 (F := Ideal) (k0_pay1 (iblk m c 0 t) (iblk m c 1 t)) (iblk m c 2 t) := by
  rw [outsAt0_A m c t h0]; frame_out

theorem outA2 (c : Dev nD) (t : Fin cfg0.N) (h0 : t.val % 9 = 0) :
    (outsAt0 m c t.val t.isLt).2 = k0_pay1 (F := Ideal) (iblk m c 0 t) (iblk m c 1 t) := by
  rw [outsAt0_A m c t h0]; frame_out

theorem outB1 (c : Dev nD) (t : Fin cfg0.N) (h0 : ¬t.val % 9 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]; frame_out
  rw [read_unread_whole]

theorem outB2 (c : Dev nD) (t : Fin cfg0.N) (h0 : ¬t.val % 9 = 0) :
    (outsAt0 m c t.val t.isLt).2 = (outsAt0 m c (t.val - 1) (Nat.lt_of_le_of_lt (Nat.sub_le _ _) t.isLt)).2 := by
  rw [outsAt0_B m c t h0]; rfl

/-- The scratch after every point of a row tile: its normalised rows. -/
theorem held (c : Dev nD) (i : Fin 12) : ∀ (s : ℕ) (hs : s < 9) (t : Fin cfg0.N), t.val = 9 * i.val + s → ∀ (r : Fin 688) (k : Fin 2048),
    (show FVec Ideal S688x2048 .bf16 from (outsAt0 m c t.val t.isLt).2) (ix2 r k) = hn (aX m c) (aG m c) ⟨i.val * 688 + r.val, by omega⟩ k := by
  intro s
  induction s with
  | zero =>
    intro hs t ht r k
    have h0 : t.val % 9 = 0 := by omega
    have hq : t.val / 9 = i.val := by omega
    rw [outA2 m c t h0]
    refine (pay1_at (iblk m c 0 t) (iblk m c 1 t) r k).trans ?_
    unfold hn
    simp only [blk0 m c t, blk1 m c t, hq]
  | succ s ih =>
    intro hs t ht r k
    have h0 : ¬t.val % 9 = 0 := by omega
    rw [outB2 m c t h0]
    exact ih (by omega) ⟨t.val - 1, Nat.lt_of_le_of_lt (Nat.sub_le _ _) t.isLt⟩ (by show t.val - 1 = _; omega) r k

/-- What a point leaves in its block: the product of the held rows with the block's columns. -/
theorem point (c : Dev nD) (t : Fin cfg0.N) (r : Fin 688) (d : Fin 2048) :
    (show FVec Ideal S688x2048 .f32 from (outsAt0 m c t.val t.isLt).1) (ix2 r d)
      = fin (aX m c) (aG m c) (aW m c) (ix2 ⟨t.val / 9 * 688 + r.val, by have := (idx t).2.2.2.2; omega⟩ ⟨t.val % 9 * 2048 + d.val, by omega⟩) := by
  have hi := (idx t).2.2.2.2
  have hh := held m c ⟨t.val / 9, hi⟩ (t.val % 9) (Nat.mod_lt _ (by decide)) t (by show t.val = 9 * (t.val / 9) + t.val % 9; omega) r
  have hp : ∀ xn : FVec Ideal S688x2048 .bf16, (∀ k, xn (ix2 r k) = hn (aX m c) (aG m c) ⟨t.val / 9 * 688 + r.val, by omega⟩ k) →
      k0_pay2 (F := Ideal) xn (iblk m c 2 t) (ix2 r d)
        = fin (aX m c) (aG m c) (aW m c) (ix2 ⟨t.val / 9 * 688 + r.val, by omega⟩ ⟨t.val % 9 * 2048 + d.val, by omega⟩) := fun xn hx => by
    refine (pay2_at xn (iblk m c 2 t) r d).trans ?_
    unfold fin
    simp only [hx, blk2 m c t]
    rfl
  by_cases h0 : t.val % 9 = 0
  · rw [outA1 m c t h0]
    refine hp _ fun k => ?_
    rw [← outA2 m c t h0]
    exact hh k
  · rw [outB1 m c t h0]
    refine hp _ fun k => ?_
    rw [← outB2 m c t h0]
    exact hh k

/-- The array after the run. -/
theorem final (c : Dev nD) : (dats m 0 c).arrAt 3 (cfgs 0).N = fin (aX m c) (aG m c) (aW m c) := by
  refine (dats m 0 c).arrAt_eq_of_covers 3 _ (by decide +kernel) fun t hf y => ?_
  blk_simp
  rw [after0_3]
  have e := point m c t (y 0) (y 1)
  refine Eq.trans ?_ (e.trans ?_)
  · blk_point
  · blk_ext [idx t]

end Cert.QkvIdeal.Acc

end
-- ==== Proof.Qkv.Ref.lean ====
/- The plain query/key/value projection, element by element, is the array the kernel leaves. -/
module

public import proofs.«01_k».proof.Proof.Qkv.Acc
public import proofs.«01_k».proof.Proof.Gen.RefQkvIdeal.Run
public import proofs.«01_k».proof.Proof.Gen.RefQkvIdeal.Read

@[expose] public section

set_option maxRecDepth 16384

noncomputable section

open Idealize.ShloMosaic Idealize.ShloMosaic.TcCoe Idealize.SL.Sem
open Idealize.ShloMosaic.Pipeline (Dat)

namespace Cert.RefQkvIdeal.Tie

open Cert.RefQkvIdeal Cert.RefQkvIdeal.Gen Cert.RefQkvIdeal.Read

theorem rows (X : FVec Ideal S8256x2048 .f32) (G : FVec Ideal S4x2048 .f32) (r : Fin 8256) (k : Fin 2048) :
    val_main_v14 (F := Ideal) X G (ix2 r k) = Cert.QkvIdeal.Acc.hn X G r k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.QkvIdeal.Acc.hn, Cert.QkvIdeal.Acc.nrm]

theorem ref_eq (X : FVec Ideal S8256x2048 .f32) (G : FVec Ideal S4x2048 .f32) (W : FVec Ideal S1x2048x18432 .f32) :
    val_main_v16 (F := Ideal) X G W = Cert.QkvIdeal.Acc.fin X G W := by
  funext i
  idx_vars i
  pointwise [val_main_v16, val_main_v15, rows, Cert.QkvIdeal.Acc.fin, Cert.QkvIdeal.Acc.wt]

end Cert.RefQkvIdeal.Tie

end
-- ==== Proof.Cin.Acc.lean ====
/- What the input projection of the mLSTM kernel leaves, element by element, over the extended reals. -/
module

public import proofs.«01_k».proof.Proof.Gen.CinIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CinIdeal.Acc

open Cert.CinIdeal Cert.CinIdeal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

theorem pay1_at (a : FVec Ideal S688x2048 .f32) (b : FVec Ideal S1x2048 .f32) (r : Fin 688) (k : Fin 2048) :
    k0_pay1 (F := Ideal) a b (ix2 r k) = nrm (fun l => a (ix2 r l)) (fun l => b (ix2 0 l)) k := by
  pointwise [k0_pay1, nrm]

theorem pay2_at (a : FVec Ideal S688x2048 .bf16) (b : FVec Ideal S2048x896 .bf16) (r : Fin 688) (d : Fin 896) :
    k0_pay2 (F := Ideal) a b (ix2 r d) = ∑ k : Fin 2048, a (ix2 r k) * b (ix2 k d) := by
  pointwise [k0_pay2]

variable (m : (ℓ : Loc nD τ sig) → Buf (Elt Ideal) ℓ)

theorem idx : ∀ t : Fin cfg0.N, win0_0.index t = ![t.val / 7, 0] ∧ win0_1.index t = ![0, 0] ∧ win0_2.index t = ![0, t.val % 7]
    ∧ win0_3.index t = ![t.val / 7, t.val % 7] ∧ t.val / 7 < 12 :=
  (by decide +kernel : ∀ t : Fin grid0.N, _)

/-- The normalised input, row by row. -/
def hn (X : FVec Ideal S8256x2048 .f32) (G : FVec Ideal S4x2048 .f32) (r : Fin 8256) (k : Fin 2048) : EReal :=
  nrm (fun l => X (ix2 r l)) (fun l => G (ix2 2 l)) k

/-- The weight the product takes at a column. -/
def wt (W : FVec Ideal S1x2048x6160 .f32) (k : Fin 2048) (l : Fin 6272) : EReal := if h : l.val < 6160 then W (ix3 0 k ⟨l.val, h⟩) else 0

/-- The array the kernel leaves. -/
def fin (X : FVec Ideal S8256x2048 .f32) (G : FVec Ideal S4x2048 .f32) (W : FVec Ideal S1x2048x6160 .f32) : FVec Ideal S8256x6272 .f32 := fun i =>
  ∑ k : Fin 2048, hn X G (i 0) k * wt W k (i 1)

abbrev aX (c : Dev nD) : FVec Ideal S8256x2048 .f32 := m ((c : Thread nD τ).loc main_arg0)
abbrev aG (c : Dev nD) : FVec Ideal S4x2048 .f32 := m ((c : Thread nD τ).loc main_arg1)
abbrev aW (c : Dev nD) : FVec Ideal S1x2048x6160 .f32 := m ((c : Thread nD τ).loc main_arg2)

theorem blk0 (c : Dev nD) (t : Fin cfg0.N) (r : Fin 688) (k : Fin 2048) :
    (iblk m c 0 t : FVec Ideal S688x2048 .f32) (ix2 r k) = aX m c (ix2 ⟨t.val / 7 * 688 + r.val, by have := (idx t).2.2.2.2; omega⟩ k) := by
  blk_point [iblk, V, idx t]

/-- The padding word is zero. -/
theorem z0 : (FloatOps.sitofp (F := Ideal) .f32 (0#32) : EReal) = 0 := by
  show (((BitVec.toInt (0#32) : ℤ) : ℝ) : EReal) = 0
  simp

/-- The padded weight as the region finds it. -/
theorem entW (c : Dev nD) (k : Fin 2048) (l : Fin 6272) : (V m c main_v2 : FVec Ideal S2048x6272 .bf16) (ix2 k l) = wt (aW m c) k l := by
  unfold V
  simp only [hostOps0, hostOps0_1, hostOps0_2, List.flatten_cons, List.flatten_nil, List.append_nil, List.cons_append, List.nil_append]
  after_results
  pointwise
  show (pad S2048x6272 ![0, 0] ![0, 112] ![0, 0] (fun i : S2048x6160.Idx => aW m c (ix3 0 (i 0) (i 1))) (sitofp (F := Ideal) .f32 (constantI S_ 32 0#32)) pads_S2048x6160_S2048x6272_000_01120 h_S_ : FVec Ideal S2048x6272 .f32) (ix2 k l) = _
  pointwise [z0, wt]

/-- The gain as the region finds it. -/
theorem entG (c : Dev nD) (k : Fin 2048) : (V m c main_v5 : FVec Ideal S1x2048 .f32) (ix2 0 k) = aG m c (ix2 2 k) := by
  unfold V
  simp only [hostOps0, hostOps0_1, hostOps0_2, List.flatten_cons, List.flatten_nil, List.append_nil, List.cons_append, List.nil_append]
  entry_read
  pointwise

theorem blk1 (c : Dev nD) (t : Fin cfg0.N) (k : Fin 2048) :
    (iblk m c 1 t : FVec Ideal S1x2048 .f32) (ix2 0 k) = aG m c (ix2 2 k) := by
  refine Eq.trans ?_ (entG m c k)
  blk_simp [iblk, idx t]
  blk_ext [idx t]

theorem blk2 (c : Dev nD) (t : Fin cfg0.N) (k : Fin 2048) (l : Fin 896) :
    (iblk m c 2 t : FVec Ideal S2048x896 .bf16) (ix2 k l) = wt (aW m c) k ⟨t.val % 7 * 896 + l.val, by omega⟩ := by
  refine Eq.trans ?_ (entW m c k _)
  blk_simp [iblk, idx t]
  blk_ext [idx t]

theorem outA1 (c : Dev nD) (t : Fin cfg0.N) (h0 : t.val % 7 = 0) :
    (outsAt0 m c t.val t.isLt).1 = k0_pay2 (F := Ideal) (k0_pay1 (iblk m c 0 t) (iblk m c 1 t)) (iblk m c 2 t) := by
  rw [outsAt0_A m c t h0]; frame_out

theorem outA2 (c : Dev nD) (t : Fin cfg0.N) (h0 : t.val % 7 = 0) :
    (outsAt0 m c t.val t.isLt).2 = k0_pay1 (F := Ideal) (iblk m c 0 t) (iblk m c 1 t) := by
  rw [outsAt0_A m c t h0]; frame_out

theorem outB1 (c : Dev nD) (t : Fin cfg0.N) (h0 : ¬t.val % 7 = 0) :
    (outsAt0 m c t.val t.isLt).1 = k0_pay2 (F := Ideal) (outsAt0 m c (t.val - 1) (Nat.lt_of_le_of_lt (Nat.sub_le _ _) t.isLt)).2 (iblk m c 2 t) := by
  rw [outsAt0_B m c t h0]; frame_out
  rw [read_unread_whole]

theorem outB2 (c : Dev nD) (t : Fin cfg0.N) (h0 : ¬t.val % 7 = 0) :
    (outsAt0 m c t.val t.isLt).2 = (outsAt0 m c (t.val - 1) (Nat.lt_of_le_of_lt (Nat.sub_le _ _) t.isLt)).2 := by
  rw [outsAt0_B m c t h0]; rfl

/-- The scratch after every point of a row tile: its normalised rows. -/
theorem held (c : Dev nD) (i : Fin 12) : ∀ (s : ℕ) (hs : s < 7) (t : Fin cfg0.N), t.val = 7 * i.val + s → ∀ (r : Fin 688) (k : Fin 2048),
    (show FVec Ideal S688x2048 .bf16 from (outsAt0 m c t.val t.isLt).2) (ix2 r k) = hn (aX m c) (aG m c) ⟨i.val * 688 + r.val, by omega⟩ k := by
  intro s
  induction s with
  | zero =>
    intro hs t ht r k
    have h0 : t.val % 7 = 0 := by omega
    have hq : t.val / 7 = i.val := by omega
    rw [outA2 m c t h0]
    refine (pay1_at (iblk m c 0 t) (iblk m c 1 t) r k).trans ?_
    unfold hn
    simp only [blk0 m c t, blk1 m c t, hq]
  | succ s ih =>
    intro hs t ht r k
    have h0 : ¬t.val % 7 = 0 := by omega
    rw [outB2 m c t h0]
    exact ih (by omega) ⟨t.val - 1, Nat.lt_of_le_of_lt (Nat.sub_le _ _) t.isLt⟩ (by show t.val - 1 = _; omega) r k

/-- What a point leaves in its block: the product of the held rows with the block's columns. -/
theorem point (c : Dev nD) (t : Fin cfg0.N) (r : Fin 688) (d : Fin 896) :
    (show FVec Ideal S688x896 .f32 from (outsAt0 m c t.val t.isLt).1) (ix2 r d)
      = fin (aX m c) (aG m c) (aW m c) (ix2 ⟨t.val / 7 * 688 + r.val, by have := (idx t).2.2.2.2; omega⟩ ⟨t.val % 7 * 896 + d.val, by omega⟩) := by
  have hi := (idx t).2.2.2.2
  have hh := held m c ⟨t.val / 7, hi⟩ (t.val % 7) (Nat.mod_lt _ (by decide)) t (by show t.val = 7 * (t.val / 7) + t.val % 7; omega) r
  have hp : ∀ xn : FVec Ideal S688x2048 .bf16, (∀ k, xn (ix2 r k) = hn (aX m c) (aG m c) ⟨t.val / 7 * 688 + r.val, by omega⟩ k) →
      k0_pay2 (F := Ideal) xn (iblk m c 2 t) (ix2 r d)
        = fin (aX m c) (aG m c) (aW m c) (ix2 ⟨t.val / 7 * 688 + r.val, by omega⟩ ⟨t.val % 7 * 896 + d.val, by omega⟩) := fun xn hx => by
    refine (pay2_at xn (iblk m c 2 t) r d).trans ?_
    unfold fin
    simp only [hx, blk2 m c t]
    rfl
  by_cases h0 : t.val % 7 = 0
  · rw [outA1 m c t h0]
    refine hp _ fun k => ?_
    rw [← outA2 m c t h0]
    exact hh k
  · rw [outB1 m c t h0]
    refine hp _ fun k => ?_
    rw [← outB2 m c t h0]
    exact hh k

/-- The array after the run. -/
theorem final (c : Dev nD) : (dats m 0 c).arrAt 3 (cfgs 0).N = fin (aX m c) (aG m c) (aW m c) := by
  refine (dats m 0 c).arrAt_eq_of_covers 3 _ (by decide +kernel) fun t hf y => ?_
  blk_simp
  rw [after0_3]
  have e := point m c t (y 0) (y 1)
  refine Eq.trans ?_ (e.trans ?_)
  · blk_point
  · blk_ext [idx t]

end Cert.CinIdeal.Acc

end
-- ==== Proof.Cin.Ref.lean ====
/- The plain input projection of the mLSTM, element by element, is the array the kernel leaves. -/
module

public import proofs.«01_k».proof.Proof.Cin.Acc
public import proofs.«01_k».proof.Proof.Gen.RefCinIdeal.Run
public import proofs.«01_k».proof.Proof.Gen.RefCinIdeal.Read

@[expose] public section

set_option maxRecDepth 16384

noncomputable section

open Idealize.ShloMosaic Idealize.ShloMosaic.TcCoe Idealize.SL.Sem
open Idealize.ShloMosaic.Pipeline (Dat)

namespace Cert.RefCinIdeal.Tie

open Cert.RefCinIdeal Cert.RefCinIdeal.Gen Cert.RefCinIdeal.Read

theorem rows (X : FVec Ideal S8256x2048 .f32) (G : FVec Ideal S4x2048 .f32) (r : Fin 8256) (k : Fin 2048) :
    val_main_v14 (F := Ideal) X G (ix2 r k) = Cert.CinIdeal.Acc.hn X G r k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.CinIdeal.Acc.hn, Cert.CinIdeal.Acc.nrm]

theorem prod (X : FVec Ideal S8256x2048 .f32) (G : FVec Ideal S4x2048 .f32) (W : FVec Ideal S1x2048x6160 .f32) (r : Fin 8256) (l : Fin 6160) :
    val_main_v16 (F := Ideal) X G W (ix2 r l) = ∑ k : Fin 2048, Cert.CinIdeal.Acc.hn X G r k * W (ix3 0 k l) := by
  pointwise [val_main_v16, val_main_v15, rows]

theorem ref_eq (X : FVec Ideal S8256x2048 .f32) (G : FVec Ideal S4x2048 .f32) (W : FVec Ideal S1x2048x6160 .f32) :
    val_main_v17 (F := Ideal) X G W = Cert.CinIdeal.Acc.fin X G W := by
  funext i
  idx_vars i
  have q : Cert.CinIdeal.Acc.fin X G W (ix2 i0 i1) = if i1.val < 6160 then ∑ k : Fin 2048, Cert.CinIdeal.Acc.hn X G i0 k * Cert.CinIdeal.Acc.wt W k i1 else 0 := by
    split
    · rfl
    · rename_i n
      show ∑ k : Fin 2048, Cert.CinIdeal.Acc.hn X G i0 k * Cert.CinIdeal.Acc.wt W k i1 = 0
      simp only [Cert.CinIdeal.Acc.wt, n, dite_false, mul_zero, Finset.sum_const_zero]
  rw [q]
  pointwise [val_main_v17, val_main_c, val_main_call0_v0, prod, Cert.CinIdeal.Acc.wt, Cert.CinIdeal.Acc.z0]
  by_cases hl : i1.val < 6160
  · simp only [hl, dite_true, if_true]
  · simp only [hl, dite_false, if_false]

end Cert.RefCinIdeal.Tie

end
-- ==== Proof.Rkv.Acc.lean ====
/- What the receptance/key/value projection of layer 0 kernel leaves, element by element, over the extended reals. -/
module

public import proofs.«01_k».proof.Proof.Gen.RkvIdeal.Frame
public import Idealize.ShloMosaic.Lib.Pipeline.ValueKit
public import Idealize.ShloMosaic.Lib.Pipeline.ReadBack
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.RkvIdeal.Acc

open Cert.RkvIdeal Cert.RkvIdeal.Gen

theorem pay1_at (a b : FVec Ideal S688x2048 .f32) (g : FVec Ideal S1x1x2048 .f32) (r : Fin 688) (k : Fin 2048) :
    k0_pay1 (F := Ideal) a b g (ix2 r k) = a (ix2 r k) + (b (ix2 r k) - a (ix2 r k)) * g (ix3 0 0 k) := by
  pointwise [k0_pay1]

theorem pay2_at (a : FVec Ideal S688x2048 .bf16) (b : FVec Ideal S1x1x2048x2048 .bf16) (r : Fin 688) (d : Fin 2048) :
    k0_pay2 (F := Ideal) a b (ix3 0 r d) = ∑ k : Fin 2048, a (ix2 r k) * b (ix4 0 0 k d) := by
  pointwise [k0_pay2]

variable (m : (ℓ : Loc nD τ sig) → Buf (Elt Ideal) ℓ)

theorem idx : ∀ t : Fin cfg0.N, win0_0.index t = ![t.val / 3, 0] ∧ win0_1.index t = ![t.val / 3, 0] ∧ win0_2.index t = ![t.val % 3, 0, 0]
    ∧ win0_3.index t = ![0, t.val % 3, 0, 0] ∧ win0_4.index t = ![t.val % 3, t.val / 3, 0] ∧ t.val / 3 < 12 :=
  (by decide +kernel : ∀ t : Fin grid0.N, _)

/-- The row of mixing weights each of the three products takes. -/
def sel : Fin 3 → Fin 6 := ![0, 2, 3]

/-- The array the kernel leaves. -/
def fin (U P : FVec Ideal S8256x2048 .f32) (M : FVec Ideal S2x6x2048 .f32) (W : FVec Ideal S2x3x2048x2048 .f32) : FVec Ideal S3x8256x2048 .f32 := fun i =>
  ∑ k : Fin 2048, (U (ix2 (i 1) k) + (P (ix2 (i 1) k) - U (ix2 (i 1) k)) * M (ix3 0 (sel (i 0)) k)) * W (ix4 0 (i 0) k (i 2))

abbrev aU (c : Dev nD) : FVec Ideal S8256x2048 .f32 := m ((c : Thread nD τ).loc main_arg0)
abbrev aP (c : Dev nD) : FVec Ideal S8256x2048 .f32 := m ((c : Thread nD τ).loc main_arg1)
abbrev aM (c : Dev nD) : FVec Ideal S2x6x2048 .f32 := m ((c : Thread nD τ).loc main_arg2)
abbrev aW (c : Dev nD) : FVec Ideal S2x3x2048x2048 .f32 := m ((c : Thread nD τ).loc main_arg3)

theorem blk0 (c : Dev nD) (t : Fin cfg0.N) (r : Fin 688) (k : Fin 2048) :
    (iblk m c 0 t : FVec Ideal S688x2048 .f32) (ix2 r k) = aU m c (ix2 ⟨t.val / 3 * 688 + r.val, by have := (idx t).2.2.2.2.2; omega⟩ k) := by
  blk_point [iblk, V, idx t]

theorem blk1 (c : Dev nD) (t : Fin cfg0.N) (r : Fin 688) (k : Fin 2048) :
    (iblk m c 1 t : FVec Ideal S688x2048 .f32) (ix2 r k) = aP m c (ix2 ⟨t.val / 3 * 688 + r.val, by have := (idx t).2.2.2.2.2; omega⟩ k) := by
  blk_point [iblk, V, idx t]

/-- The mixing rows as the region finds them. -/
theorem mix (c : Dev nD) (q : Fin 3) (k : Fin 2048) : (V m c main_v9 : FVec Ideal S3x1x2048 .f32) (ix3 q 0 k) = aM m c (ix3 0 (sel q) k) := by
  entry_read
  fin_cases q <;> pointwise [sel, lit0]
  · exact (Routing.gather_row gather_S6x2048_S3x1_S3x2048_1_0_n_n_0_1_12048 rfl rfl rfl rfl rfl _ _ 0 k 0 rfl (by norm_num)).trans rfl
  · exact (Routing.gather_row gather_S6x2048_S3x1_S3x2048_1_0_n_n_0_1_12048 rfl rfl rfl rfl rfl _ _ 1 k 2 rfl (by norm_num)).trans rfl
  · exact (Routing.gather_row gather_S6x2048_S3x1_S3x2048_1_0_n_n_0_1_12048 rfl rfl rfl rfl rfl _ _ 2 k 3 rfl (by norm_num)).trans rfl

theorem blk2 (c : Dev nD) (t : Fin cfg0.N) (k : Fin 2048) :
    (iblk m c 2 t : FVec Ideal S1x1x2048 .f32) (ix3 0 0 k) = aM m c (ix3 0 (sel ⟨t.val % 3, Nat.mod_lt _ (by decide)⟩) k) := by
  refine Eq.trans ?_ (mix m c ⟨t.val % 3, Nat.mod_lt _ (by decide)⟩ k)
  blk_simp [iblk, idx t]
  blk_ext [idx t]

theorem blk3 (c : Dev nD) (t : Fin cfg0.N) (k l : Fin 2048) :
    (iblk m c 3 t : FVec Ideal S1x1x2048x2048 .bf16) (ix4 0 0 k l) = aW m c (ix4 0 ⟨t.val % 3, Nat.mod_lt _ (by decide)⟩ k l) := by
  blk_simp [iblk, idx t]
  entry_read
  pointwise
  blk_ext [idx t]

theorem outA (c : Dev nD) (t : Fin cfg0.N) :
    outsAt0 m c t = k0_pay2 (F := Ideal) (k0_pay1 (iblk m c 0 t) (iblk m c 1 t) (iblk m c 2 t)) (iblk m c 3 t) := by
  unfold outsAt0; frame_out

/-- What a point leaves in its block. -/
theorem point (c : Dev nD) (t : Fin cfg0.N) (r : Fin 688) (d : Fin 2048) :
    (show FVec Ideal S1x688x2048 .f32 from outsAt0 m c t) (ix3 0 r d)
      = fin (aU m c) (aP m c) (aM m c) (aW m c) (ix3 ⟨t.val % 3, Nat.mod_lt _ (by decide)⟩ ⟨t.val / 3 * 688 + r.val, by have := (idx t).2.2.2.2.2; omega⟩ d) := by
  rw [outA m c t]
  refine (pay2_at _ (iblk m c 3 t) r d).trans ?_
  refine Finset.sum_congr rfl fun k _ => ?_
  refine (congrArg₂ (· * ·) (pay1_at (iblk m c 0 t) (iblk m c 1 t) (iblk m c 2 t) r k) (blk3 m c t k d)).trans ?_
  rw [blk0 m c t, blk1 m c t, blk2 m c t]
  rfl

/-- The array after the run. -/
theorem final (c : Dev nD) : (dats m 0 c).arrAt 4 (cfgs 0).N = fin (aU m c) (aP m c) (aM m c) (aW m c) := by
  refine (dats m 0 c).arrAt_eq_of_covers 4 _ (by decide +kernel) fun t hf y => ?_
  blk_simp
  rw [after0_4]
  have e := point m c t (y 1) (y 2)
  have hy : y = ix3 0 (y 1) (y 2) := by
    funext a
    fin_cases a
    · exact Fin.ext (by have h : (y 0).val < 1 := (y 0).isLt; show (y 0).val = 0; omega)
    · rfl
    · rfl
  refine Eq.trans ?_ (e.trans ?_)
  · exact congrArg (outsAt0 m c t) hy
  · blk_ext [idx t]

end Cert.RkvIdeal.Acc

end
-- ==== Proof.Rkv.Ref.lean ====
/- The plain receptance/key/value projection of layer 0, element by element, is the array the kernel leaves. -/
module

public import proofs.«01_k».proof.Proof.Rkv.Acc
public import proofs.«01_k».proof.Proof.Gen.RefRkvIdeal.Run
public import proofs.«01_k».proof.Proof.Gen.RefRkvIdeal.Read

@[expose] public section

set_option maxRecDepth 16384

noncomputable section

open Idealize.ShloMosaic Idealize.ShloMosaic.TcCoe Idealize.SL.Sem
open Idealize.ShloMosaic.Pipeline (Dat)

namespace Cert.RefRkvIdeal.Tie

open Cert.RefRkvIdeal Cert.RefRkvIdeal.Gen Cert.RefRkvIdeal.Read

theorem ref_eq (U P : FVec Ideal S8256x2048 .f32) (M : FVec Ideal S2x6x2048 .f32) (W : FVec Ideal S2x3x2048x2048 .f32) :
    val_main_v27 (F := Ideal) U P M W = Cert.RkvIdeal.Acc.fin U P M W := by
  funext i
  idx_vars i
  fin_cases i0 <;> pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, Cert.RkvIdeal.Acc.fin, Cert.RkvIdeal.Acc.sel]

end Cert.RefRkvIdeal.Tie

end
-- ==== Proof.Rkv1.Acc.lean ====
/- What the receptance/key/value projection of layer 1 kernel leaves, element by element, over the extended reals. -/
module

public import proofs.«01_k».proof.Proof.Gen.Rkv1Ideal.Frame
public import Idealize.ShloMosaic.Lib.Pipeline.ValueKit
public import Idealize.ShloMosaic.Lib.Pipeline.ReadBack
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.Rkv1Ideal.Acc

open Cert.Rkv1Ideal Cert.Rkv1Ideal.Gen

theorem pay1_at (a b : FVec Ideal S688x2048 .f32) (g : FVec Ideal S1x1x2048 .f32) (r : Fin 688) (k : Fin 2048) :
    k0_pay1 (F := Ideal) a b g (ix2 r k) = a (ix2 r k) + (b (ix2 r k) - a (ix2 r k)) * g (ix3 0 0 k) := by
  pointwise [k0_pay1]

theorem pay2_at (a : FVec Ideal S688x2048 .bf16) (b : FVec Ideal S1x1x2048x2048 .bf16) (r : Fin 688) (d : Fin 2048) :
    k0_pay2 (F := Ideal) a b (ix3 0 r d) = ∑ k : Fin 2048, a (ix2 r k) * b (ix4 0 0 k d) := by
  pointwise [k0_pay2]

variable (m : (ℓ : Loc nD τ sig) → Buf (Elt Ideal) ℓ)

theorem idx : ∀ t : Fin cfg0.N, win0_0.index t = ![t.val / 3, 0] ∧ win0_1.index t = ![t.val / 3, 0] ∧ win0_2.index t = ![t.val % 3, 0, 0]
    ∧ win0_3.index t = ![1, t.val % 3, 0, 0] ∧ win0_4.index t = ![t.val % 3, t.val / 3, 0] ∧ t.val / 3 < 12 :=
  (by decide +kernel : ∀ t : Fin grid0.N, _)

/-- The row of mixing weights each of the three products takes. -/
def sel : Fin 3 → Fin 6 := ![0, 2, 3]

/-- The array the kernel leaves. -/
def fin (U P : FVec Ideal S8256x2048 .f32) (M : FVec Ideal S2x6x2048 .f32) (W : FVec Ideal S2x3x2048x2048 .f32) : FVec Ideal S3x8256x2048 .f32 := fun i =>
  ∑ k : Fin 2048, (U (ix2 (i 1) k) + (P (ix2 (i 1) k) - U (ix2 (i 1) k)) * M (ix3 1 (sel (i 0)) k)) * W (ix4 1 (i 0) k (i 2))

abbrev aU (c : Dev nD) : FVec Ideal S8256x2048 .f32 := m ((c : Thread nD τ).loc main_arg0)
abbrev aP (c : Dev nD) : FVec Ideal S8256x2048 .f32 := m ((c : Thread nD τ).loc main_arg1)
abbrev aM (c : Dev nD) : FVec Ideal S2x6x2048 .f32 := m ((c : Thread nD τ).loc main_arg2)
abbrev aW (c : Dev nD) : FVec Ideal S2x3x2048x2048 .f32 := m ((c : Thread nD τ).loc main_arg3)

theorem blk0 (c : Dev nD) (t : Fin cfg0.N) (r : Fin 688) (k : Fin 2048) :
    (iblk m c 0 t : FVec Ideal S688x2048 .f32) (ix2 r k) = aU m c (ix2 ⟨t.val / 3 * 688 + r.val, by have := (idx t).2.2.2.2.2; omega⟩ k) := by
  blk_point [iblk, V, idx t]

theorem blk1 (c : Dev nD) (t : Fin cfg0.N) (r : Fin 688) (k : Fin 2048) :
    (iblk m c 1 t : FVec Ideal S688x2048 .f32) (ix2 r k) = aP m c (ix2 ⟨t.val / 3 * 688 + r.val, by have := (idx t).2.2.2.2.2; omega⟩ k) := by
  blk_point [iblk, V, idx t]

/-- The mixing rows as the region finds them. -/
theorem mix (c : Dev nD) (q : Fin 3) (k : Fin 2048) : (V m c main_v9 : FVec Ideal S3x1x2048 .f32) (ix3 q 0 k) = aM m c (ix3 1 (sel q) k) := by
  entry_read
  fin_cases q <;> pointwise [sel, lit0]
  · exact (Routing.gather_row gather_S6x2048_S3x1_S3x2048_1_0_n_n_0_1_12048 rfl rfl rfl rfl rfl _ _ 0 k 0 rfl (by norm_num)).trans rfl
  · exact (Routing.gather_row gather_S6x2048_S3x1_S3x2048_1_0_n_n_0_1_12048 rfl rfl rfl rfl rfl _ _ 1 k 2 rfl (by norm_num)).trans rfl
  · exact (Routing.gather_row gather_S6x2048_S3x1_S3x2048_1_0_n_n_0_1_12048 rfl rfl rfl rfl rfl _ _ 2 k 3 rfl (by norm_num)).trans rfl

theorem blk2 (c : Dev nD) (t : Fin cfg0.N) (k : Fin 2048) :
    (iblk m c 2 t : FVec Ideal S1x1x2048 .f32) (ix3 0 0 k) = aM m c (ix3 1 (sel ⟨t.val % 3, Nat.mod_lt _ (by decide)⟩) k) := by
  refine Eq.trans ?_ (mix m c ⟨t.val % 3, Nat.mod_lt _ (by decide)⟩ k)
  blk_simp [iblk, idx t]
  blk_ext [idx t]

theorem blk3 (c : Dev nD) (t : Fin cfg0.N) (k l : Fin 2048) :
    (iblk m c 3 t : FVec Ideal S1x1x2048x2048 .bf16) (ix4 0 0 k l) = aW m c (ix4 1 ⟨t.val % 3, Nat.mod_lt _ (by decide)⟩ k l) := by
  blk_simp [iblk, idx t]
  entry_read
  pointwise
  blk_ext [idx t]

theorem outA (c : Dev nD) (t : Fin cfg0.N) :
    outsAt0 m c t = k0_pay2 (F := Ideal) (k0_pay1 (iblk m c 0 t) (iblk m c 1 t) (iblk m c 2 t)) (iblk m c 3 t) := by
  unfold outsAt0; frame_out

/-- What a point leaves in its block. -/
theorem point (c : Dev nD) (t : Fin cfg0.N) (r : Fin 688) (d : Fin 2048) :
    (show FVec Ideal S1x688x2048 .f32 from outsAt0 m c t) (ix3 0 r d)
      = fin (aU m c) (aP m c) (aM m c) (aW m c) (ix3 ⟨t.val % 3, Nat.mod_lt _ (by decide)⟩ ⟨t.val / 3 * 688 + r.val, by have := (idx t).2.2.2.2.2; omega⟩ d) := by
  rw [outA m c t]
  refine (pay2_at _ (iblk m c 3 t) r d).trans ?_
  refine Finset.sum_congr rfl fun k _ => ?_
  refine (congrArg₂ (· * ·) (pay1_at (iblk m c 0 t) (iblk m c 1 t) (iblk m c 2 t) r k) (blk3 m c t k d)).trans ?_
  rw [blk0 m c t, blk1 m c t, blk2 m c t]
  rfl

/-- The array after the run. -/
theorem final (c : Dev nD) : (dats m 0 c).arrAt 4 (cfgs 0).N = fin (aU m c) (aP m c) (aM m c) (aW m c) := by
  refine (dats m 0 c).arrAt_eq_of_covers 4 _ (by decide +kernel) fun t hf y => ?_
  blk_simp
  rw [after0_4]
  have e := point m c t (y 1) (y 2)
  have hy : y = ix3 0 (y 1) (y 2) := by
    funext a
    fin_cases a
    · exact Fin.ext (by have h : (y 0).val < 1 := (y 0).isLt; show (y 0).val = 0; omega)
    · rfl
    · rfl
  refine Eq.trans ?_ (e.trans ?_)
  · exact congrArg (outsAt0 m c t) hy
  · blk_ext [idx t]

end Cert.Rkv1Ideal.Acc

end
-- ==== Proof.Rkv1.Ref.lean ====
/- The plain receptance/key/value projection of layer 1, element by element, is the array the kernel leaves. -/
module

public import proofs.«01_k».proof.Proof.Rkv1.Acc
public import proofs.«01_k».proof.Proof.Gen.RefRkv1Ideal.Run
public import proofs.«01_k».proof.Proof.Gen.RefRkv1Ideal.Read

@[expose] public section

set_option maxRecDepth 16384

noncomputable section

open Idealize.ShloMosaic Idealize.ShloMosaic.TcCoe Idealize.SL.Sem
open Idealize.ShloMosaic.Pipeline (Dat)

namespace Cert.RefRkv1Ideal.Tie

open Cert.RefRkv1Ideal Cert.RefRkv1Ideal.Gen Cert.RefRkv1Ideal.Read

theorem ref_eq (U P : FVec Ideal S8256x2048 .f32) (M : FVec Ideal S2x6x2048 .f32) (W : FVec Ideal S2x3x2048x2048 .f32) :
    val_main_v27 (F := Ideal) U P M W = Cert.Rkv1Ideal.Acc.fin U P M W := by
  funext i
  idx_vars i
  fin_cases i0 <;> pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, Cert.Rkv1Ideal.Acc.fin, Cert.Rkv1Ideal.Acc.sel]

end Cert.RefRkv1Ideal.Tie

end
-- ==== Proof.NormP.Acc.lean ====
/- What the final norm of the prompt rows leaves, element by element, over the extended reals. -/
module

public import proofs.«01_k».proof.Proof.Gen.NormPIdeal.Frame
public import Idealize.ShloMosaic.Lib.Pipeline.ValueKit
public import Idealize.ShloMosaic.Lib.Pipeline.ReadBack
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.NormPIdeal.Acc

open Cert.NormPIdeal Cert.NormPIdeal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

theorem pay1_at (a : FVec Ideal S512x2048 .f32) (b : FVec Ideal S1x2048 .f32) (r : Fin 512) (k : Fin 2048) :
    k0_pay1 (F := Ideal) a b (ix2 r k) = nrm (fun l => a (ix2 r l)) (fun l => b (ix2 0 l)) k := by
  pointwise [k0_pay1, nrm]

variable (m : (ℓ : Loc nD τ sig) → Buf (Elt Ideal) ℓ)

theorem idx : ∀ t : Fin cfg0.N, win0_0.index t = ![0 + t.val, 0] ∧ win0_1.index t = ![0, 0] ∧ win0_2.index t = ![t.val, 0] ∧ t.val < 16 :=
  (by decide +kernel : ∀ t : Fin grid0.N, _)

/-- The array the call leaves. -/
def fin (X : FVec Ideal S8256x2048 .f32) (G : FVec Ideal S2048 .f32) : FVec Ideal S8192x2048 .f32 := fun i =>
  nrm (fun l => X (ix2 ⟨0 + (i 0).val, by have h : (i 0).val < 8192 := (i 0).isLt; omega⟩ l)) (fun l => G (ix1 l)) (i 1)

abbrev aX (c : Dev nD) : FVec Ideal S8256x2048 .f32 := m ((c : Thread nD τ).loc main_arg0)
abbrev aG (c : Dev nD) : FVec Ideal S2048 .f32 := m ((c : Thread nD τ).loc main_arg1)

theorem blk0 (c : Dev nD) (t : Fin cfg0.N) (r : Fin 512) (k : Fin 2048) :
    (X0_0 m c t : FVec Ideal S512x2048 .f32) (ix2 r k) = aX m c (ix2 ⟨0 + (t.val * 512 + r.val), by have := (idx t).2.2.2; omega⟩ k) := by
  unfold X0_0 Pipeline.Window.fill
  rw [dif_pos (moved0_0 t _)]
  blk_point [iblk, V, idx t]

theorem blk1 (c : Dev nD) (t : Fin cfg0.N) (k : Fin 2048) :
    (iblk m c 1 t : FVec Ideal S1x2048 .f32) (ix2 0 k) = aG m c (ix1 k) := by
  blk_simp [iblk, idx t]
  entry_read
  pointwise
  blk_ext [idx t]

theorem outA (c : Dev nD) (t : Fin cfg0.N) : outsAt0 m c t = k0_pay1 (F := Ideal) (X0_0 m c t) (iblk m c 1 t) := by
  unfold outsAt0; frame_out

/-- What a point leaves in its block. -/
theorem point (c : Dev nD) (t : Fin cfg0.N) (r : Fin 512) (d : Fin 2048) :
    (show FVec Ideal S512x2048 .f32 from outsAt0 m c t) (ix2 r d)
      = fin (aX m c) (aG m c) (ix2 ⟨t.val * 512 + r.val, by have := (idx t).2.2.2; omega⟩ d) := by
  rw [outA m c t]
  refine (pay1_at (X0_0 m c t) (iblk m c 1 t) r d).trans ?_
  unfold fin
  simp only [blk0 m c t, blk1 m c t]
  rfl

/-- The array after the run. -/
theorem final (c : Dev nD) : (dats m 0 c).arrAt 2 (cfgs 0).N = fin (aX m c) (aG m c) := by
  refine (dats m 0 c).arrAt_eq_of_covers 2 _ (by decide +kernel) fun t hf y => ?_
  blk_simp
  rw [after0_2]
  have e := point m c t (y 0) (y 1)
  refine Eq.trans ?_ (e.trans ?_)
  · blk_point
  · blk_ext [idx t]

end Cert.NormPIdeal.Acc

end
-- ==== Proof.NormP.Ref.lean ====
/- The plain final norm of the prompt rows, element by element, is the array the call leaves. -/
module

public import proofs.«01_k».proof.Proof.NormP.Acc
public import proofs.«01_k».proof.Proof.Gen.RefNormPIdeal.Run
public import proofs.«01_k».proof.Proof.Gen.RefNormPIdeal.Read

@[expose] public section

set_option maxRecDepth 16384

noncomputable section

open Idealize.ShloMosaic Idealize.ShloMosaic.TcCoe Idealize.SL.Sem
open Idealize.ShloMosaic.Pipeline (Dat)

namespace Cert.RefNormPIdeal.Tie

open Cert.RefNormPIdeal Cert.RefNormPIdeal.Gen Cert.RefNormPIdeal.Read

theorem ref_eq (X : FVec Ideal S8256x2048 .f32) (G : FVec Ideal S2048 .f32) : val_main_v13 (F := Ideal) X G = Cert.NormPIdeal.Acc.fin X G := by
  funext i
  idx_vars i
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.NormPIdeal.Acc.fin, Cert.NormPIdeal.Acc.nrm]

end Cert.RefNormPIdeal.Tie

end
-- ==== Proof.NormS.Acc.lean ====
/- What the final norm of the sample rows leaves, element by element, over the extended reals. -/
module

public import proofs.«01_k».proof.Proof.Gen.NormSIdeal.Frame
public import Idealize.ShloMosaic.Lib.Pipeline.ValueKit
public import Idealize.ShloMosaic.Lib.Pipeline.ReadBack
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.NormSIdeal.Acc

open Cert.NormSIdeal Cert.NormSIdeal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

theorem pay1_at (a : FVec Ideal S64x2048 .f32) (b : FVec Ideal S1x2048 .f32) (r : Fin 64) (k : Fin 2048) :
    k0_pay1 (F := Ideal) a b (ix2 r k) = nrm (fun l => a (ix2 r l)) (fun l => b (ix2 0 l)) k := by
  pointwise [k0_pay1, nrm]

variable (m : (ℓ : Loc nD τ sig) → Buf (Elt Ideal) ℓ)

theorem idx : ∀ t : Fin cfg0.N, win0_0.index t = ![128 + t.val, 0] ∧ win0_1.index t = ![0, 0] ∧ win0_2.index t = ![t.val, 0] ∧ t.val < 1 :=
  (by decide +kernel : ∀ t : Fin grid0.N, _)

/-- The array the call leaves. -/
def fin (X : FVec Ideal S8256x2048 .f32) (G : FVec Ideal S2048 .f32) : FVec Ideal S64x2048 .f32 := fun i =>
  nrm (fun l => X (ix2 ⟨8192 + (i 0).val, by have h : (i 0).val < 64 := (i 0).isLt; omega⟩ l)) (fun l => G (ix1 l)) (i 1)

abbrev aX (c : Dev nD) : FVec Ideal S8256x2048 .f32 := m ((c : Thread nD τ).loc main_arg0)
abbrev aG (c : Dev nD) : FVec Ideal S2048 .f32 := m ((c : Thread nD τ).loc main_arg1)

theorem blk0 (c : Dev nD) (t : Fin cfg0.N) (r : Fin 64) (k : Fin 2048) :
    (iblk m c 0 t : FVec Ideal S64x2048 .f32) (ix2 r k) = aX m c (ix2 ⟨8192 + (t.val * 64 + r.val), by have := (idx t).2.2.2; omega⟩ k) := by
  blk_point [iblk, V, idx t]

theorem blk1 (c : Dev nD) (t : Fin cfg0.N) (k : Fin 2048) :
    (iblk m c 1 t : FVec Ideal S1x2048 .f32) (ix2 0 k) = aG m c (ix1 k) := by
  blk_simp [iblk, idx t]
  entry_read
  pointwise
  blk_ext [idx t]

theorem outA (c : Dev nD) (t : Fin cfg0.N) : out0_2 (iblk m c 0 t) (iblk m c 1 t) = k0_pay1 (F := Ideal) (iblk m c 0 t) (iblk m c 1 t) := by
  frame_out

/-- What a point leaves in its block. -/
theorem point (c : Dev nD) (t : Fin cfg0.N) (r : Fin 64) (d : Fin 2048) :
    (show FVec Ideal S64x2048 .f32 from out0_2 (iblk m c 0 t) (iblk m c 1 t)) (ix2 r d)
      = fin (aX m c) (aG m c) (ix2 ⟨t.val * 64 + r.val, by have := (idx t).2.2.2; omega⟩ d) := by
  rw [outA m c t]
  refine (pay1_at (iblk m c 0 t) (iblk m c 1 t) r d).trans ?_
  unfold fin
  simp only [blk0 m c t, blk1 m c t]
  rfl

/-- The array after the run. -/
theorem final (c : Dev nD) : (dats m 0 c).arrAt 2 (cfgs 0).N = fin (aX m c) (aG m c) := by
  refine (dats m 0 c).arrAt_eq_of_covers 2 _ (by decide +kernel) fun t hf y => ?_
  blk_simp
  rw [after0_2]
  have e := point m c t (y 0) (y 1)
  refine Eq.trans ?_ (e.trans ?_)
  · blk_point
  · blk_ext [idx t]

end Cert.NormSIdeal.Acc

end
-- ==== Proof.NormS.Ref.lean ====
/- The plain final norm of the sample rows, element by element, is the array the call leaves. -/
module

public import proofs.«01_k».proof.Proof.NormS.Acc
public import proofs.«01_k».proof.Proof.Gen.RefNormSIdeal.Run
public import proofs.«01_k».proof.Proof.Gen.RefNormSIdeal.Read

@[expose] public section

set_option maxRecDepth 16384

noncomputable section

open Idealize.ShloMosaic Idealize.ShloMosaic.TcCoe Idealize.SL.Sem
open Idealize.ShloMosaic.Pipeline (Dat)

namespace Cert.RefNormSIdeal.Tie

open Cert.RefNormSIdeal Cert.RefNormSIdeal.Gen Cert.RefNormSIdeal.Read

theorem ref_eq (X : FVec Ideal S8256x2048 .f32) (G : FVec Ideal S2048 .f32) : val_main_v13 (F := Ideal) X G = Cert.NormSIdeal.Acc.fin X G := by
  funext i
  idx_vars i
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.NormSIdeal.Acc.fin, Cert.NormSIdeal.Acc.nrm]

end Cert.RefNormSIdeal.Tie

end
-- ==== Proof.Mls.Pure.lean ====
/-
The mathematics of one head of the chunk step, over extended reals and at any number of rows: the gates, the masked
decay matrix, the row stabiliser, the scores, the read-out and the three new states. Then the padding fact: a chunk of
four tokens padded to sixty-four rows (zero queries, keys and values, an input gate of minus infinity, no further
decay) has the same read-out on its four rows, the same states, and a normalised read-out of zero on the other rows.
-/
module

public import Idealize.ShloMosaic.Lib.Pipeline.ValueKit

@[expose] public section

set_option maxHeartbeats 400000

noncomputable section

open Idealize.ShloMosaic

namespace Cert.MlsP

/-- The soft cap of the gates. -/
def gact (x : EReal) : EReal :=
  Ideal.ofBits .f32 1097859072#32 * Ideal.tanh (Ideal.div x (Ideal.ofBits .f32 1097859072#32))

/-- One head's chunk: cumulative log decays, input gates, the running stabiliser, queries, keys, values, the two states. -/
structure Hd (n : ℕ) where
  B : Fin n → EReal
  I : Fin n → EReal
  M : EReal
  Q : Fin n → Fin 128 → EReal
  K : Fin n → Fin 128 → EReal
  V : Fin n → Fin 256 → EReal
  C : Fin 256 → Fin 128 → EReal
  N : Fin 128 → EReal

namespace Hd

variable {n : ℕ} (a : Hd n)

/-- The masked decay matrix. -/
def dm (t s : Fin n) : EReal := if s ≤ t then a.B t - a.B s + a.I s else ⊥
/-- The stabiliser of a row. -/
def mt (t : Fin n) : EReal := max (a.B t + a.M) (Finset.univ.fold max ⊥ (fun s => a.dm t s))
/-- The decay weights of a row. -/
def wd (t s : Fin n) : EReal := Ideal.exp (a.dm t s - a.mt t)
/-- The weight of the old state in a row. -/
def wi (t : Fin n) : EReal := Ideal.exp (a.B t + a.M - a.mt t)
/-- The weighted scores. -/
def sc (t s : Fin n) : EReal := (∑ e, a.Q t e * a.K s e) * a.wd t s
/-- The numerator of the read-out. -/
def num (t : Fin n) (x : Fin 256) : EReal := ∑ s, a.sc t s * a.V s x + a.wi t * ∑ e, a.Q t e * a.C x e
/-- The normaliser of the read-out. -/
def den (t : Fin n) : EReal := ∑ s, a.sc t s + a.wi t * ∑ e, a.Q t e * a.N e
/-- The read-out. -/
def h (t : Fin n) (x : Fin 256) : EReal :=
  Ideal.div (a.num t x) (max (max (a.den t) (-(a.den t))) (Ideal.exp (0 - a.mt t)))
/-- The read-out, normalised over its width. -/
def hn (t : Fin n) (x : Fin 256) : EReal :=
  a.h t x * Ideal.rsqrt (Ideal.div (∑ z, a.h t z * a.h t z) (Ideal.ofBits .f32 1132462080#32) + Ideal.ofBits .f32 897988541#32)
/-- The weights of the tokens in the new state. -/
def ws (l s : Fin n) : EReal := Ideal.exp (a.B l - a.B s + a.I s - a.mt l)
/-- The new matrix state. -/
def C' (l : Fin n) (x : Fin 256) (e : Fin 128) : EReal :=
  a.wi l * a.C x e + ∑ s, a.ws l s * a.V s x * a.K s e
/-- The new vector state. -/
def N' (l : Fin n) (e : Fin 128) : EReal := a.wi l * a.N e + ∑ s, a.ws l s * a.K s e

end Hd

/-- The row a padded row repeats. -/
def cl (t : Fin 64) : Fin 4 := ⟨min t.1 3, by omega⟩

/-- A chunk of four rows padded to sixty-four. -/
def pad (a : Hd 4) : Hd 64 where
  B t := a.B (cl t)
  I t := if h : t.1 < 4 then a.I ⟨t.1, h⟩ else ⊥
  M := a.M
  Q t e := if h : t.1 < 4 then a.Q ⟨t.1, h⟩ e else 0
  K t e := if h : t.1 < 4 then a.K ⟨t.1, h⟩ e else 0
  V t x := if h : t.1 < 4 then a.V ⟨t.1, h⟩ x else 0
  C := a.C
  N := a.N

theorem sum_pad (f : Fin 4 → EReal) : ∑ s : Fin 64, (if h : s.1 < 4 then f ⟨s.1, h⟩ else 0) = ∑ s, f s := by
  have e := Fin.sum_univ_add (a := 4) (b := 60) (fun s : Fin (4 + 60) => (if h : s.1 < 4 then f ⟨s.1, h⟩ else (0 : EReal)))
  refine e.trans ?_
  have z : ∑ i : Fin 60, (if h : (Fin.natAdd 4 i).1 < 4 then f ⟨(Fin.natAdd 4 i).1, h⟩ else (0 : EReal)) = 0 := by
    refine Finset.sum_eq_zero fun i _ => ?_
    rw [dif_neg (by simp [Fin.natAdd])]
  rw [z, add_zero]
  refine Finset.sum_congr rfl fun i _ => ?_
  rw [dif_pos (by simp)]
  rfl

theorem fold_pad (f : Fin 4 → EReal) (g : Fin 64 → EReal) (hg : ∀ s, g s = if h : s.1 < 4 then f ⟨s.1, h⟩ else ⊥) :
    Finset.univ.fold max ⊥ g = Finset.univ.fold max ⊥ f := by
  show Finset.univ.sup g = Finset.univ.sup f
  apply le_antisymm
  · refine Finset.sup_le fun s _ => ?_
    rw [hg s]
    split
    · exact Finset.le_sup (f := f) (Finset.mem_univ _)
    · exact bot_le
  · refine Finset.sup_le fun s _ => ?_
    have e : g ⟨s.1, by omega⟩ = f s := by rw [hg, dif_pos s.2]
    rw [← e]
    exact Finset.le_sup (f := g) (Finset.mem_univ _)

theorem cl_of_lt (t : Fin 64) (h : t.1 < 4) : cl t = ⟨t.1, h⟩ := by
  apply Fin.ext
  show min t.1 3 = t.1
  omega

theorem cl_last : cl 63 = 3 := by decide

section Pad

variable (a : Hd 4)

theorem dm_pad (t s : Fin 64) : (pad a).dm t s = if h : s.1 < 4 then a.dm (cl t) ⟨s.1, h⟩ else ⊥ := by
  unfold Hd.dm
  by_cases hs : s.1 < 4
  · rw [dif_pos hs]
    have e1 : (pad a).B s = a.B ⟨s.1, hs⟩ := by show a.B (cl s) = _; rw [cl_of_lt s hs]
    have e2 : (pad a).I s = a.I ⟨s.1, hs⟩ := by show (if h : s.1 < 4 then a.I ⟨s.1, h⟩ else ⊥) = _; rw [dif_pos hs]
    rw [e1, e2]
    have e3 : (s ≤ t) ↔ ((⟨s.1, hs⟩ : Fin 4) ≤ cl t) := by
      show s.1 ≤ t.1 ↔ s.1 ≤ min t.1 3
      omega
    by_cases hst : s ≤ t
    · rw [if_pos hst, if_pos (e3.mp hst)]; rfl
    · rw [if_neg hst, if_neg (fun h => hst (e3.mpr h))]
  · rw [dif_neg hs]
    have e2 : (pad a).I s = ⊥ := by show (if h : s.1 < 4 then a.I ⟨s.1, h⟩ else ⊥) = _; rw [dif_neg hs]
    rw [e2]
    simp

theorem mt_pad (t : Fin 64) : (pad a).mt t = a.mt (cl t) := by
  unfold Hd.mt
  rw [fold_pad (fun s => a.dm (cl t) s) _ (fun s => dm_pad a t s)]
  rfl

theorem wi_pad (t : Fin 64) : (pad a).wi t = a.wi (cl t) := by
  unfold Hd.wi
  rw [mt_pad]
  rfl

theorem ws_pad (s : Fin 64) (h : s.1 < 4) : (pad a).ws 63 s = a.ws 3 ⟨s.1, h⟩ := by
  unfold Hd.ws
  rw [mt_pad, cl_last]
  have e1 : (pad a).B s = a.B ⟨s.1, h⟩ := by show a.B (cl s) = _; rw [cl_of_lt s h]
  have e2 : (pad a).I s = a.I ⟨s.1, h⟩ := by show (if h : s.1 < 4 then a.I ⟨s.1, h⟩ else ⊥) = _; rw [dif_pos h]
  have e3 : (pad a).B 63 = a.B 3 := by show a.B (cl 63) = _; rw [cl_last]
  rw [e1, e2, e3]

theorem K_pad (s : Fin 64) (e : Fin 128) : (pad a).K s e = if h : s.1 < 4 then a.K ⟨s.1, h⟩ e else 0 := rfl
theorem V_pad (s : Fin 64) (x : Fin 256) : (pad a).V s x = if h : s.1 < 4 then a.V ⟨s.1, h⟩ x else 0 := rfl
theorem Q_pad (s : Fin 64) (e : Fin 128) : (pad a).Q s e = if h : s.1 < 4 then a.Q ⟨s.1, h⟩ e else 0 := rfl

theorem C'_pad (x : Fin 256) (e : Fin 128) : (pad a).C' 63 x e = a.C' 3 x e := by
  unfold Hd.C'
  rw [wi_pad, cl_last, ← sum_pad]
  congr 1
  refine Finset.sum_congr rfl fun s _ => ?_
  by_cases h : s.1 < 4
  · rw [dif_pos h, ws_pad a s h, K_pad, V_pad, dif_pos h, dif_pos h]
  · rw [dif_neg h, K_pad, dif_neg h, mul_zero]

theorem N'_pad (e : Fin 128) : (pad a).N' 63 e = a.N' 3 e := by
  unfold Hd.N'
  rw [wi_pad, cl_last, ← sum_pad]
  congr 1
  refine Finset.sum_congr rfl fun s _ => ?_
  by_cases h : s.1 < 4
  · rw [dif_pos h, ws_pad a s h, K_pad, dif_pos h]
  · rw [dif_neg h, K_pad, dif_neg h, mul_zero]

theorem sc_pad (t s : Fin 64) (ht : t.1 < 4) : (pad a).sc t s = if h : s.1 < 4 then a.sc ⟨t.1, ht⟩ ⟨s.1, h⟩ else 0 := by
  unfold Hd.sc
  by_cases h : s.1 < 4
  · rw [dif_pos h]
    have e : (pad a).wd t s = a.wd ⟨t.1, ht⟩ ⟨s.1, h⟩ := by
      unfold Hd.wd
      rw [mt_pad, dm_pad, dif_pos h, cl_of_lt t ht]
    rw [e]
    congr 1
    refine Finset.sum_congr rfl fun x _ => ?_
    rw [K_pad, Q_pad, dif_pos h, dif_pos ht]
  · rw [dif_neg h, Finset.sum_eq_zero (fun x _ => by rw [K_pad, dif_neg h, mul_zero]), zero_mul]

theorem h_pad (t : Fin 64) (ht : t.1 < 4) (x : Fin 256) : (pad a).h t x = a.h ⟨t.1, ht⟩ x := by
  have en : (pad a).num t x = a.num ⟨t.1, ht⟩ x := by
    unfold Hd.num
    rw [wi_pad, cl_of_lt t ht, ← sum_pad]
    congr 1
    · refine Finset.sum_congr rfl fun s _ => ?_
      rw [sc_pad a t s ht, V_pad]
      by_cases h : s.1 < 4
      · rw [dif_pos h, dif_pos h, dif_pos h]
      · rw [dif_neg h, dif_neg h, dif_neg h, mul_zero]
    · congr 1
      refine Finset.sum_congr rfl fun e _ => ?_
      rw [Q_pad, dif_pos ht]
      rfl
  have ed : (pad a).den t = a.den ⟨t.1, ht⟩ := by
    unfold Hd.den
    rw [wi_pad, cl_of_lt t ht, ← sum_pad]
    congr 1
    · exact Finset.sum_congr rfl fun s _ => sc_pad a t s ht
    · congr 1
      refine Finset.sum_congr rfl fun e _ => ?_
      rw [Q_pad, dif_pos ht]
      rfl
  unfold Hd.h
  rw [en, ed, mt_pad, cl_of_lt t ht]

theorem hn_pad (t : Fin 64) (ht : t.1 < 4) (x : Fin 256) : (pad a).hn t x = a.hn ⟨t.1, ht⟩ x := by
  unfold Hd.hn
  simp only [h_pad a t ht]

theorem c256 : Ideal.ofBits .f32 1132462080#32 = ((256 : ℝ) : EReal) := by
  have e1 : ((1132462080#32 : BitVec 32).extractLsb' 23 8).toNat = 135 := by decide
  have e2 : ((1132462080#32 : BitVec 32).extractLsb' 0 23).toNat = 0 := by decide
  have e3 : ((1132462080#32 : BitVec 32).extractLsb' (8 + 23) 1 == 1#1) = false := by decide
  simp only [Ideal.ofBits, Ideal.ieee, e1, e2, e3]
  norm_num

theorem real_of_bits (b : BitVec 32) (h : (b.extractLsb' 23 8).toNat ≠ 255) : ∃ r : ℝ, Ideal.ofBits .f32 b = (r : EReal) := by
  simp only [Ideal.ofBits, Ideal.ieee]
  rw [if_neg (by norm_num; exact h)]
  split
  · exact ⟨_, rfl⟩
  · exact ⟨_, rfl⟩

theorem hn_pad_ge (t : Fin 64) (ht : ¬ t.1 < 4) (x : Fin 256) : (pad a).hn t x = 0 := by
  have esc : ∀ s, (pad a).sc t s = 0 := fun s => by
    unfold Hd.sc
    rw [Finset.sum_eq_zero (fun x _ => by rw [Q_pad, dif_neg ht, zero_mul]), zero_mul]
  have en : ∀ z, (pad a).num t z = 0 := fun z => by
    unfold Hd.num
    rw [Finset.sum_eq_zero (fun s _ => by rw [esc, zero_mul]), Finset.sum_eq_zero (fun s _ => by rw [Q_pad, dif_neg ht, zero_mul]),
      mul_zero, add_zero]
  have eh : (∀ z, (pad a).h t z = 0) ∨ (∀ z, (pad a).h t z = ⊥) := by
    unfold Hd.h
    simp only [en]
    generalize max (max ((pad a).den t) (-((pad a).den t))) (Ideal.exp (0 - (pad a).mt t)) = d
    by_cases hd : d = 0
    · right; intro z; simp [Ideal.div, hd]
    · left; intro z; simp [Ideal.div, hd]
  unfold Hd.hn
  rcases eh with eh | eh
  · rw [eh, zero_mul]
  · simp only [eh]
    obtain ⟨r, hr⟩ := real_of_bits 897988541#32 (by decide)
    have es : ∑ _z : Fin 256, (⊥ : EReal) * ⊥ = ⊤ := by
      rw [EReal.bot_mul_bot, Fin.sum_univ_succ, EReal.top_add_of_ne_bot]
      refine ne_of_gt (lt_of_lt_of_le EReal.bot_lt_zero (Finset.sum_nonneg fun _ _ => le_top))
    have ed : Ideal.div ⊤ (Ideal.ofBits .f32 1132462080#32) = ⊤ := by
      rw [c256]
      unfold Ideal.div
      rw [if_neg (by norm_num), ← EReal.coe_inv]
      exact EReal.top_mul_coe_of_pos (by norm_num)
    rw [es, ed, hr, EReal.top_add_coe]
    rw [show Ideal.rsqrt ⊤ = 0 from rfl, mul_zero]

end Pad

/-- The log of the logistic function, as the kernel computes it. -/
def lsig (g : EReal) : EReal := min g 0 - Ideal.log (1 + Ideal.exp (0 - max g (-g)))

/-- Head `h` of a chunk of four tokens: from the gates before their soft cap (input gates, then forget gates), the
queries, keys and values of all heads, and the three states. -/
def spec (g : Fin 4 → Fin 16 → EReal) (q k : Fin 4 → Fin 1024 → EReal) (v : Fin 4 → Fin 2048 → EReal)
    (C : Fin 8 → Fin 256 → Fin 128 → EReal) (N : Fin 8 → Fin 128 → EReal) (M : Fin 8 → EReal) (h : Fin 8) : Hd 4 where
  B t := ∑ s : Fin 4, if s ≤ t then lsig (gact (g s ⟨8 + h.1, by omega⟩)) else 0
  I t := gact (g t ⟨h.1, by omega⟩)
  M := M h
  Q t e := q t ⟨h.1 * 128 + e.1, by omega⟩
  K t e := k t ⟨h.1 * 128 + e.1, by omega⟩ * Ideal.ofBits .f32 1035273459#32
  V t x := v t ⟨h.1 * 256 + x.1, by omega⟩
  C x e := C h x e
  N e := N h e

/-- The soft cap is a real number. -/
theorem gact_real (x : EReal) : ∃ r : ℝ, gact x = (r : EReal) := by
  unfold gact
  obtain ⟨c, hc⟩ := real_of_bits 1097859072#32 (by decide)
  rw [hc]
  generalize Ideal.div x (c : EReal) = y
  induction y using EReal.rec with
  | bot => exact ⟨c * -1, by rw [show Ideal.tanh ⊥ = ((-1 : ℝ) : EReal) from rfl, EReal.coe_mul]⟩
  | top => exact ⟨c * 1, by rw [show Ideal.tanh ⊤ = ((1 : ℝ) : EReal) from rfl, EReal.coe_mul]⟩
  | coe y => exact ⟨c * Real.tanh y, by rw [show Ideal.tanh (y : EReal) = (Real.tanh y : EReal) from rfl, EReal.coe_mul]⟩

end Cert.MlsP
-- ==== Proof.Mls.Head.lean ====
/- What one head of the chunk step computes, value by value, over the extended reals. -/
module

public import proofs.«01_k».proof.Proof.Gen.MlsIdeal.Frame
public import proofs.«01_k».proof.Proof.Mls.Pure
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

/-- Row and column numbers compare as numbers. -/
theorem cmp_sge : ∀ t s : Fin 64, IntOp.cmpi .sge (BitVec.ofNat 32 t.val) (BitVec.ofNat 32 s.val) = if s ≤ t then 1#1 else 0#1 := by decide +kernel

/-- The rows below four are the tokens. -/
theorem cmp_slt : ∀ t : Fin 64, IntOp.cmpi .slt (IntOp.addi (Scalar.addi (Scalar.muli 0#32 8#32) (Scalar.muli 0#32 64#32)) (BitVec.ofNat 32 t.val)) 4#32
    = if t.val < 4 then 1#1 else 0#1 := by decide +kernel

theorem sel_if {p : Prop} [Decidable p] {α : Type} (a b : α) : Scalar.select (if p then 1#1 else 0#1) a b = if p then a else b := by
  by_cases h : p
  · rw [if_pos h, if_pos h]; rfl
  · rw [if_neg h, if_neg h]; rfl

theorem neg_inf : Ideal.ofBits .f32 4286578688#32 = ⊥ := by
  have e1 : ((4286578688#32 : BitVec 32).extractLsb' 23 8).toNat = 255 := by decide
  have e2 : ((4286578688#32 : BitVec 32).extractLsb' 0 23).toNat = 0 := by decide
  have e3 : ((4286578688#32 : BitVec 32).extractLsb' (8 + 23) 1 == 1#1) = true := by decide
  simp only [Ideal.ofBits, Ideal.ieee, e1, e2, e3]
  norm_num

/-- The blocks of one head hold a head's chunk. -/
structure Ok (H : Hd 64) (bc ic : FVec Ideal S64x1 .f32) (br ir : FVec Ideal S1x64 .f32) (mm : FVec Ideal S1x1 .f32) (qf kf : FVec Ideal S64x128 .f32) (vf : FVec Ideal S64x256 .f32)
  (C : FVec Ideal S256x128 .f32) (nn : FVec Ideal S1x128 .f32) : Prop where
  bc : ∀ t : Fin 64, bc (ix2 t 0) = H.B t
  br : ∀ t : Fin 64, br (ix2 0 t) = H.B t
  ic : ∀ t : Fin 64, ic (ix2 t 0) = H.I t
  ir : ∀ t : Fin 64, ir (ix2 0 t) = H.I t
  mm : mm (ix2 0 0) = H.M
  q : ∀ (t : Fin 64) (e : Fin 128), qf (ix2 t e) = H.Q t e
  k : ∀ (t : Fin 64) (e : Fin 128), kf (ix2 t e) = H.K t e
  v : ∀ (t : Fin 64) (e : Fin 256), vf (ix2 t e) = H.V t e
  C : ∀ (x : Fin 256) (e : Fin 128), C (ix2 x e) = H.C x e
  n : ∀ e : Fin 128, nn (ix2 0 e) = H.N e

section

variable {H : Hd 64} {bc ic : FVec Ideal S64x1 .f32} {br ir : FVec Ideal S1x64 .f32} {mm : FVec Ideal S1x1 .f32} {qf kf : FVec Ideal S64x128 .f32} {vf : FVec Ideal S64x256 .f32}
  {C : FVec Ideal S256x128 .f32} {nn : FVec Ideal S1x128 .f32}
  (ok : Ok H bc ic br ir mm qf kf vf C nn)

variable (bc ic br ir mm qf kf vf C nn) in
abbrev DM := k0_pay106 (F := Ideal) k0_pay4 bc br ir
variable (bc ic br ir mm qf kf vf C nn) in
abbrev MT := k0_pay123 (F := Ideal) bc mm (DM bc br ir)
variable (bc ic br ir mm qf kf vf C nn) in
abbrev WD := k0_pay132 (F := Ideal) (k0_pay131 bc mm (DM bc br ir))
variable (bc ic br ir mm qf kf vf C nn) in
abbrev WI := k0_pay140 (F := Ideal) (k0_pay115 bc mm) (MT bc br ir mm)
variable (bc ic br ir mm qf kf vf C nn) in
abbrev SC := k0_pay172 (F := Ideal) (WD bc br ir mm) (k0_pay148 qf) (k0_pay156 kf)
variable (bc ic br ir mm qf kf vf C nn) in
abbrev NUM := k0_pay186 (F := Ideal) C (WD bc br ir mm) (WI bc br ir mm) (k0_pay148 qf) (k0_pay156 kf) (k0_pay164 vf)
variable (bc ic br ir mm qf kf vf C nn) in
abbrev DEN := k0_pay195 (F := Ideal) qf nn (WI bc br ir mm) (SC bc br ir mm qf kf)
variable (bc ic br ir mm qf kf vf C nn) in
abbrev HH := k0_pay207 (F := Ideal) (MT bc br ir mm) (NUM bc br ir mm qf kf vf C) (DEN bc br ir mm qf kf nn)
variable (bc ic br ir mm qf kf vf C nn) in
abbrev MN := k0_pay215 (F := Ideal) (MT bc br ir mm)
variable (bc ic br ir mm qf kf vf C nn) in
abbrev WS := k0_pay231 (F := Ideal) bc ic (MT bc br ir mm)
variable (bc ic br ir mm qf kf vf C nn) in
abbrev DEC := k0_pay240 (F := Ideal) mm (MN bc br ir mm) (k0_pay223 bc)
variable (bc ic br ir mm qf kf vf C nn) in
abbrev CC := k0_pay248 (F := Ideal) vf (k0_pay156 kf) (WS bc ic br ir mm)

include ok

theorem dm_at (t s : Fin 64) : DM bc br ir (ix2 t s) = H.dm t s := by
  pointwise [k0_pay106, k0_pay4]
  rw [cmp_sge, sel_if, ok.bc, ok.br, ok.ir, neg_inf]
  rfl

theorem mt_at (t : Fin 64) : MT bc br ir mm (ix2 t 0) = H.mt t := by
  pointwise [k0_pay123, k0_pay115]
  simp only [dm_at ok, ok.bc, ok.mm, neg_inf]
  rfl

theorem wd_at (t s : Fin 64) : WD bc br ir mm (ix2 t s) = H.wd t s := by
  pointwise [k0_pay132, k0_pay131]
  simp only [dm_at ok, mt_at ok]
  rfl

theorem wi_at (t : Fin 64) : WI bc br ir mm (ix2 t 0) = H.wi t := by
  pointwise [k0_pay140, k0_pay115]
  simp only [mt_at ok, ok.bc, ok.mm]
  rfl

theorem sc_at (t s : Fin 64) : SC bc br ir mm qf kf (ix2 t s) = H.sc t s := by
  pointwise [k0_pay172, k0_pay148, k0_pay156]
  simp only [wd_at ok, ok.q, ok.k]
  rfl

theorem num_at (t : Fin 64) (x : Fin 256) : NUM bc br ir mm qf kf vf C (ix2 t x) = H.num t x := by
  pointwise [k0_pay186, k0_pay172, k0_pay148, k0_pay156, k0_pay164]
  simp only [wd_at ok, wi_at ok, ok.q, ok.k, ok.v, ok.C]
  rfl

theorem den_at (t : Fin 64) : DEN bc br ir mm qf kf nn (ix2 t 0) = H.den t := by
  pointwise [k0_pay195]
  simp only [sc_at ok, wi_at ok, ok.q, ok.n]
  rfl

theorem h_at (t : Fin 64) (x : Fin 256) : HH bc br ir mm qf kf vf C nn (ix2 t x) = H.h t x := by
  pointwise [k0_pay207]
  simp only [num_at ok, den_at ok, mt_at ok]
  rfl

theorem mn_at : MN bc br ir mm (ix2 0 0) = H.mt 63 := by
  pointwise [k0_pay215]
  exact mt_at ok 63

theorem ws_at (s : Fin 64) : WS bc ic br ir mm (ix2 s 0) = H.ws 63 s := by
  pointwise [k0_pay231, k0_pay223, k0_pay215]
  have e := mt_at ok 63
  simp only [ok.bc, ok.ic]
  rw [e]
  rfl

theorem dec_at : DEC bc br ir mm (ix2 0 0) = H.wi 63 := by
  pointwise [k0_pay240, k0_pay223]
  simp only [mn_at ok, ok.mm]
  rw [show bc _ = H.B 63 from ok.bc 63]
  rfl

theorem cc_at (x : Fin 256) (e : Fin 128) : CC bc ic br ir mm kf vf (ix2 x e) = ∑ s, H.ws 63 s * H.V s x * H.K s e := by
  pointwise [k0_pay248, k0_pay156]
  simp only [ws_at ok, ok.v, ok.k]

theorem C_at (x : Fin 256) (e : Fin 128) : k0_pay262 (F := Ideal) C (DEC bc br ir mm) (CC bc ic br ir mm kf vf) (ix3 0 x e) = H.C' 63 x e := by
  pointwise [k0_pay262]
  simp only [dec_at ok, cc_at ok, ok.C]
  rfl

theorem N_at (e : Fin 128) : k0_pay263 (F := Ideal) kf nn (WS bc ic br ir mm) (DEC bc br ir mm) (ix2 0 e) = H.N' 63 e := by
  pointwise [k0_pay263]
  simp only [dec_at ok, ws_at ok, ok.k, ok.n]
  rfl

theorem m_at (e : Fin 128) : k0_pay264 (F := Ideal) (MN bc br ir mm) (ix2 0 e) = H.mt 63 := by
  pointwise [k0_pay264]
  exact mn_at ok

end

end Cert.MlsIdeal.Acc
-- ==== Proof.Mls.Blocks.lean ====
/- What the blocks of each head hold, over the extended reals. -/
module

public import proofs.«01_k».proof.Proof.Mls.Head

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

variable (gb : FVec Ideal S1x128 .f32) (x : FVec Ideal S8x128 .f32) (i : grid0.Coords)

theorem pay7_at (t : Fin 64) (j : Fin 128) : k0_pay7 (F := Ideal) gb x (ix2 t j) = gact ((if h : t.val < 8 then x (ix2 ⟨t.val, h⟩ j) else 0) + gb (ix2 0 j)) := by
  pointwise [k0_pay7]
  rfl

theorem pay8_at (t : Fin 64) (j : Fin 128) : k0_pay8 (F := Ideal) gb x (ix2 t j) = lsig (k0_pay7 (F := Ideal) gb x (ix2 t j)) := by
  pointwise [k0_pay8]
  rfl

theorem pay12_at (t : Fin 64) (j : Fin 128) : k0_pay12 (F := Ideal) (k0_pay7 gb x) (k0_pay9 i) k0_pay10 (ix2 t j)
    = if h : t.val < 4 then gact (x (ix2 ⟨t.val, by omega⟩ j) + gb (ix2 0 j)) else ⊥ := by
  pointwise [k0_pay12, k0_pay11, k0_pay9, k0_pay10]
  rw [cmp_slt, sel_if]
  by_cases h : t.val < 4
  · rw [if_pos h, dif_pos h, pay7_at, dif_pos (by omega)]
  · rw [if_neg h, dif_neg h]
    rfl

theorem one_if {p : Prop} [Decidable p] : (FloatOps.sitofp (F := Ideal) .f32 (BitVec.setWidth 32 (if p then 1#1 else 0#1)) : EReal) = if p then 1 else 0 := by
  by_cases h : p
  · rw [if_pos h, if_pos h]
    show (((BitVec.toInt (BitVec.setWidth 32 1#1) : ℤ) : ℝ) : EReal) = 1
    rw [show BitVec.toInt (BitVec.setWidth 32 1#1) = 1 by decide]
    simp
  · rw [if_neg h, if_neg h]
    show (((BitVec.toInt (BitVec.setWidth 32 0#1) : ℤ) : ℝ) : EReal) = 0
    rw [show BitVec.toInt (BitVec.setWidth 32 0#1) = 0 by decide]
    simp

theorem pay13_at (t : Fin 64) (j : Fin 128) : k0_pay13 (F := Ideal) k0_pay5 (k0_pay8 gb x) (k0_pay9 i) k0_pay10 (ix2 t j)
    = ∑ s : Fin 4, if s ≤ cl t then lsig (gact (x (ix2 ⟨s.val, by omega⟩ j) + gb (ix2 0 j))) else 0 := by
  pointwise [k0_pay13, k0_pay4, k0_pay5, k0_pay11, k0_pay9, k0_pay10]
  rw [← sum_pad]
  refine Finset.sum_congr rfl fun s _ => ?_
  rw [cmp_slt, sel_if, cmp_sge, one_if]
  by_cases h : s.val < 4
  · rw [if_pos h, dif_pos h, pay8_at, pay7_at, dif_pos (by omega)]
    have e3 : (s ≤ t) ↔ ((⟨s.1, h⟩ : Fin 4) ≤ cl t) := by
      show s.1 ≤ t.1 ↔ s.1 ≤ min t.1 3
      omega
    by_cases hst : s ≤ t
    · rw [if_pos hst, if_pos (e3.mp hst), one_mul]
    · rw [if_neg hst, if_neg (fun h => hst (e3.mpr h)), zero_mul]
  · rw [if_neg h, dif_neg h]

variable (x0 x1 : FVec Ideal S8x1024 .f32) (x2 : FVec Ideal S8x2048 .f32) (x7 : FVec Ideal S1x8x256x128 .f32) (x8 x9 : FVec Ideal S1x8x128 .f32)

/-- A head's chunk, from the blocks a step holds. -/
def HB (h : Fin 8) : Hd 4 :=
  spec (fun t j => x (ix2 ⟨t.val, by omega⟩ ⟨j.val, by omega⟩) + gb (ix2 0 ⟨j.val, by omega⟩)) (fun t j => x0 (ix2 ⟨t.val, by omega⟩ j))
    (fun t j => x1 (ix2 ⟨t.val, by omega⟩ j)) (fun t j => x2 (ix2 ⟨t.val, by omega⟩ j)) (fun h y e => x7 (ix4 0 h y e)) (fun h e => x8 (ix3 0 h e)) (fun h => x9 (ix3 0 h 0)) h

/-- Head 0. -/
theorem ok0 : Ok (pad (HB gb x x0 x1 x2 x7 x8 x9 0)) (k0_pay16 (F := Ideal) k0_pay5 (k0_pay8 gb x) (k0_pay9 i) k0_pay10)
    (k0_pay32 (F := Ideal) (k0_pay7 gb x) (k0_pay9 i) k0_pay10)
    (k0_pay24 (F := Ideal) k0_pay5 (k0_pay8 gb x) (k0_pay9 i) k0_pay10)
    (k0_pay40 (F := Ideal) (k0_pay7 gb x) (k0_pay9 i) k0_pay10)
    (View.ld (Val := Elt Ideal) (e' := .f32) (S := S8x128) (k0_pay3 (F := Ideal) x9) (Rect.unit ![0, 0] ![1, 1] inb_S8x128_S1x1_0_0))
    (k0_pay73 (F := Ideal) (k0_pay11 (k0_pay9 i) k0_pay10) (k0_pay48 (View.ld (Val := Elt Ideal) (e' := .f32) (S := S8x1024) x0 (Rect.unit ![0, 0] ![8, 128] inb_S8x1024_S8x128_0_0))))
    (k0_pay81 (F := Ideal) (k0_pay11 (k0_pay9 i) k0_pay10) (k0_pay56 (F := Ideal) (View.ld (Val := Elt Ideal) (e' := .f32) (S := S8x1024) x1 (Rect.unit ![0, 0] ![8, 128] inb_S8x1024_S8x128_0_0))))
    (k0_pay89 (F := Ideal) (k0_pay11 (k0_pay9 i) k0_pay10) (k0_pay65 (View.ld (Val := Elt Ideal) (e' := .f32) (S := S8x2048) x2 (Rect.unit ![0, 0] ![8, 256] inb_S8x2048_S8x256_0_0))))
    (k0_pay97 (F := Ideal) (View.ld (Val := Elt Ideal) (e' := .f32) (S := S8x256x128) (k0_pay1 (F := Ideal) x7) (Rect.unit ![0, 0, 0] ![1, 256, 128] inb_S8x256x128_S1x256x128_0_0_0)))
    (View.ld (Val := Elt Ideal) (e' := .f32) (S := S8x128) (k0_pay2 (F := Ideal) x8) (Rect.unit ![0, 0] ![1, 128] inb_S8x128_S1x128_0_0)) where
  bc t := by
    pointwise [k0_pay16]
    exact pay13_at gb x i t _
  br t := by
    pointwise [k0_pay24, k0_pay15]
    exact pay13_at gb x i t _
  ic t := by
    pointwise [k0_pay32]
    exact pay12_at gb x i t _
  ir t := by
    pointwise [k0_pay40, k0_pay14]
    exact pay12_at gb x i t _
  mm := by
    show _ = x9 (ix3 0 0 0)
    pointwise [k0_pay3]
    blk_ext []
  q t e := by
    pointwise [k0_pay73, k0_pay48, k0_pay11, k0_pay9, k0_pay10]
    rw [cmp_slt, sel_if]
    by_cases h : t.val < 4
    · rw [if_pos h, dif_pos (by omega)]
      rw [Q_pad, dif_pos h]
      show _ = x0 (ix2 ⟨t.val, by omega⟩ ⟨0 * 128 + e.val, by omega⟩)
      blk_ext []
    · rw [if_neg h, Q_pad, dif_neg h]
  k t e := by
    pointwise [k0_pay81, k0_pay56, k0_pay11, k0_pay9, k0_pay10]
    rw [cmp_slt, sel_if]
    by_cases h : t.val < 4
    · rw [if_pos h, dif_pos (by omega)]
      rw [K_pad, dif_pos h]
      refine congrArg (· * _) ?_
      show _ = x1 (ix2 ⟨t.val, by omega⟩ ⟨0 * 128 + e.val, by omega⟩)
      blk_ext []
    · rw [if_neg h, K_pad, dif_neg h]
  v t e := by
    pointwise [k0_pay89, k0_pay65, k0_pay11, k0_pay9, k0_pay10]
    rw [cmp_slt, sel_if]
    by_cases h : t.val < 4
    · rw [if_pos h, dif_pos (by omega)]
      rw [V_pad, dif_pos h]
      show _ = x2 (ix2 ⟨t.val, by omega⟩ ⟨0 * 256 + e.val, by omega⟩)
      blk_ext []
    · rw [if_neg h, V_pad, dif_neg h]
  C y e := by
    show _ = x7 (ix4 0 0 y e)
    pointwise [k0_pay97, k0_pay1]
    blk_ext []
  n e := by
    show _ = x8 (ix3 0 0 e)
    pointwise [k0_pay2]
    blk_ext []

/-- Head 1. -/
theorem ok1 : Ok (pad (HB gb x x0 x1 x2 x7 x8 x9 1)) (k0_pay17 (F := Ideal) k0_pay5 (k0_pay8 gb x) (k0_pay9 i) k0_pay10)
    (k0_pay33 (F := Ideal) (k0_pay7 gb x) (k0_pay9 i) k0_pay10)
    (k0_pay25 (F := Ideal) k0_pay5 (k0_pay8 gb x) (k0_pay9 i) k0_pay10)
    (k0_pay41 (F := Ideal) (k0_pay7 gb x) (k0_pay9 i) k0_pay10)
    (View.ld (Val := Elt Ideal) (e' := .f32) (S := S8x128) (k0_pay3 (F := Ideal) x9) (Rect.unit ![1, 0] ![1, 1] inb_S8x128_S1x1_1_0))
    (k0_pay74 (F := Ideal) (k0_pay11 (k0_pay9 i) k0_pay10) (k0_pay49 (View.ld (Val := Elt Ideal) (e' := .f32) (S := S8x1024) x0 (Rect.unit ![0, 128] ![8, 128] inb_S8x1024_S8x128_0_128))))
    (k0_pay82 (F := Ideal) (k0_pay11 (k0_pay9 i) k0_pay10) (k0_pay57 (F := Ideal) (View.ld (Val := Elt Ideal) (e' := .f32) (S := S8x1024) x1 (Rect.unit ![0, 128] ![8, 128] inb_S8x1024_S8x128_0_128))))
    (k0_pay90 (F := Ideal) (k0_pay11 (k0_pay9 i) k0_pay10) (k0_pay66 (View.ld (Val := Elt Ideal) (e' := .f32) (S := S8x2048) x2 (Rect.unit ![0, 256] ![8, 256] inb_S8x2048_S8x256_0_256))))
    (k0_pay98 (F := Ideal) (View.ld (Val := Elt Ideal) (e' := .f32) (S := S8x256x128) (k0_pay1 (F := Ideal) x7) (Rect.unit ![1, 0, 0] ![1, 256, 128] inb_S8x256x128_S1x256x128_1_0_0)))
    (View.ld (Val := Elt Ideal) (e' := .f32) (S := S8x128) (k0_pay2 (F := Ideal) x8) (Rect.unit ![1, 0] ![1, 128] inb_S8x128_S1x128_1_0)) where
  bc t := by
    pointwise [k0_pay17]
    exact pay13_at gb x i t _
  br t := by
    pointwise [k0_pay25, k0_pay15]
    exact pay13_at gb x i t _
  ic t := by
    pointwise [k0_pay33]
    exact pay12_at gb x i t _
  ir t := by
    pointwise [k0_pay41, k0_pay14]
    exact pay12_at gb x i t _
  mm := by
    show _ = x9 (ix3 0 1 0)
    pointwise [k0_pay3]
    blk_ext []
  q t e := by
    pointwise [k0_pay74, k0_pay49, k0_pay11, k0_pay9, k0_pay10]
    rw [cmp_slt, sel_if]
    by_cases h : t.val < 4
    · rw [if_pos h, dif_pos (by omega)]
      rw [Q_pad, dif_pos h]
      show _ = x0 (ix2 ⟨t.val, by omega⟩ ⟨1 * 128 + e.val, by omega⟩)
      blk_ext []
    · rw [if_neg h, Q_pad, dif_neg h]
  k t e := by
    pointwise [k0_pay82, k0_pay57, k0_pay11, k0_pay9, k0_pay10]
    rw [cmp_slt, sel_if]
    by_cases h : t.val < 4
    · rw [if_pos h, dif_pos (by omega)]
      rw [K_pad, dif_pos h]
      refine congrArg (· * _) ?_
      show _ = x1 (ix2 ⟨t.val, by omega⟩ ⟨1 * 128 + e.val, by omega⟩)
      blk_ext []
    · rw [if_neg h, K_pad, dif_neg h]
  v t e := by
    pointwise [k0_pay90, k0_pay66, k0_pay11, k0_pay9, k0_pay10]
    rw [cmp_slt, sel_if]
    by_cases h : t.val < 4
    · rw [if_pos h, dif_pos (by omega)]
      rw [V_pad, dif_pos h]
      show _ = x2 (ix2 ⟨t.val, by omega⟩ ⟨1 * 256 + e.val, by omega⟩)
      blk_ext []
    · rw [if_neg h, V_pad, dif_neg h]
  C y e := by
    show _ = x7 (ix4 0 1 y e)
    pointwise [k0_pay98, k0_pay1]
    blk_ext []
  n e := by
    show _ = x8 (ix3 0 1 e)
    pointwise [k0_pay2]
    blk_ext []

/-- Head 2. -/
theorem ok2 : Ok (pad (HB gb x x0 x1 x2 x7 x8 x9 2)) (k0_pay18 (F := Ideal) k0_pay5 (k0_pay8 gb x) (k0_pay9 i) k0_pay10)
    (k0_pay34 (F := Ideal) (k0_pay7 gb x) (k0_pay9 i) k0_pay10)
    (k0_pay26 (F := Ideal) k0_pay5 (k0_pay8 gb x) (k0_pay9 i) k0_pay10)
    (k0_pay42 (F := Ideal) (k0_pay7 gb x) (k0_pay9 i) k0_pay10)
    (View.ld (Val := Elt Ideal) (e' := .f32) (S := S8x128) (k0_pay3 (F := Ideal) x9) (Rect.unit ![2, 0] ![1, 1] inb_S8x128_S1x1_2_0))
    (k0_pay75 (F := Ideal) (k0_pay11 (k0_pay9 i) k0_pay10) (k0_pay50 (View.ld (Val := Elt Ideal) (e' := .f32) (S := S8x1024) x0 (Rect.unit ![0, 256] ![8, 128] inb_S8x1024_S8x128_0_256))))
    (k0_pay83 (F := Ideal) (k0_pay11 (k0_pay9 i) k0_pay10) (k0_pay59 (F := Ideal) (k0_pay58 (View.ld (Val := Elt Ideal) (e' := .f32) (S := S8x1024) x1 (Rect.unit ![0, 256] ![8, 128] inb_S8x1024_S8x128_0_256))) (Scalar.ofBits .f32 0x3DB504F3#32)))
    (k0_pay91 (F := Ideal) (k0_pay11 (k0_pay9 i) k0_pay10) (k0_pay67 (View.ld (Val := Elt Ideal) (e' := .f32) (S := S8x2048) x2 (Rect.unit ![0, 512] ![8, 256] inb_S8x2048_S8x256_0_512))))
    (k0_pay99 (F := Ideal) (View.ld (Val := Elt Ideal) (e' := .f32) (S := S8x256x128) (k0_pay1 (F := Ideal) x7) (Rect.unit ![2, 0, 0] ![1, 256, 128] inb_S8x256x128_S1x256x128_2_0_0)))
    (View.ld (Val := Elt Ideal) (e' := .f32) (S := S8x128) (k0_pay2 (F := Ideal) x8) (Rect.unit ![2, 0] ![1, 128] inb_S8x128_S1x128_2_0)) where
  bc t := by
    pointwise [k0_pay18]
    exact pay13_at gb x i t _
  br t := by
    pointwise [k0_pay26, k0_pay15]
    exact pay13_at gb x i t _
  ic t := by
    pointwise [k0_pay34]
    exact pay12_at gb x i t _
  ir t := by
    pointwise [k0_pay42, k0_pay14]
    exact pay12_at gb x i t _
  mm := by
    show _ = x9 (ix3 0 2 0)
    pointwise [k0_pay3]
    blk_ext []
  q t e := by
    pointwise [k0_pay75, k0_pay50, k0_pay11, k0_pay9, k0_pay10]
    rw [cmp_slt, sel_if]
    by_cases h : t.val < 4
    · rw [if_pos h, dif_pos (by omega)]
      rw [Q_pad, dif_pos h]
      show _ = x0 (ix2 ⟨t.val, by omega⟩ ⟨2 * 128 + e.val, by omega⟩)
      blk_ext []
    · rw [if_neg h, Q_pad, dif_neg h]
  k t e := by
    pointwise [k0_pay83, k0_pay59, k0_pay58, k0_pay11, k0_pay9, k0_pay10]
    rw [cmp_slt, sel_if]
    by_cases h : t.val < 4
    · rw [if_pos h, dif_pos (by omega)]
      rw [K_pad, dif_pos h]
      refine congrArg (· * _) ?_
      show _ = x1 (ix2 ⟨t.val, by omega⟩ ⟨2 * 128 + e.val, by omega⟩)
      blk_ext []
    · rw [if_neg h, K_pad, dif_neg h]
  v t e := by
    pointwise [k0_pay91, k0_pay67, k0_pay11, k0_pay9, k0_pay10]
    rw [cmp_slt, sel_if]
    by_cases h : t.val < 4
    · rw [if_pos h, dif_pos (by omega)]
      rw [V_pad, dif_pos h]
      show _ = x2 (ix2 ⟨t.val, by omega⟩ ⟨2 * 256 + e.val, by omega⟩)
      blk_ext []
    · rw [if_neg h, V_pad, dif_neg h]
  C y e := by
    show _ = x7 (ix4 0 2 y e)
    pointwise [k0_pay99, k0_pay1]
    blk_ext []
  n e := by
    show _ = x8 (ix3 0 2 e)
    pointwise [k0_pay2]
    blk_ext []

/-- Head 3. -/
theorem ok3 : Ok (pad (HB gb x x0 x1 x2 x7 x8 x9 3)) (k0_pay19 (F := Ideal) k0_pay5 (k0_pay8 gb x) (k0_pay9 i) k0_pay10)
    (k0_pay35 (F := Ideal) (k0_pay7 gb x) (k0_pay9 i) k0_pay10)
    (k0_pay27 (F := Ideal) k0_pay5 (k0_pay8 gb x) (k0_pay9 i) k0_pay10)
    (k0_pay43 (F := Ideal) (k0_pay7 gb x) (k0_pay9 i) k0_pay10)
    (View.ld (Val := Elt Ideal) (e' := .f32) (S := S8x128) (k0_pay3 (F := Ideal) x9) (Rect.unit ![3, 0] ![1, 1] inb_S8x128_S1x1_3_0))
    (k0_pay76 (F := Ideal) (k0_pay11 (k0_pay9 i) k0_pay10) (k0_pay51 (View.ld (Val := Elt Ideal) (e' := .f32) (S := S8x1024) x0 (Rect.unit ![0, 384] ![8, 128] inb_S8x1024_S8x128_0_384))))
    (k0_pay84 (F := Ideal) (k0_pay11 (k0_pay9 i) k0_pay10) (k0_pay60 (F := Ideal) (View.ld (Val := Elt Ideal) (e' := .f32) (S := S8x1024) x1 (Rect.unit ![0, 384] ![8, 128] inb_S8x1024_S8x128_0_384))))
    (k0_pay92 (F := Ideal) (k0_pay11 (k0_pay9 i) k0_pay10) (k0_pay68 (View.ld (Val := Elt Ideal) (e' := .f32) (S := S8x2048) x2 (Rect.unit ![0, 768] ![8, 256] inb_S8x2048_S8x256_0_768))))
    (k0_pay100 (F := Ideal) (View.ld (Val := Elt Ideal) (e' := .f32) (S := S8x256x128) (k0_pay1 (F := Ideal) x7) (Rect.unit ![3, 0, 0] ![1, 256, 128] inb_S8x256x128_S1x256x128_3_0_0)))
    (View.ld (Val := Elt Ideal) (e' := .f32) (S := S8x128) (k0_pay2 (F := Ideal) x8) (Rect.unit ![3, 0] ![1, 128] inb_S8x128_S1x128_3_0)) where
  bc t := by
    pointwise [k0_pay19]
    exact pay13_at gb x i t _
  br t := by
    pointwise [k0_pay27, k0_pay15]
    exact pay13_at gb x i t _
  ic t := by
    pointwise [k0_pay35]
    exact pay12_at gb x i t _
  ir t := by
    pointwise [k0_pay43, k0_pay14]
    exact pay12_at gb x i t _
  mm := by
    show _ = x9 (ix3 0 3 0)
    pointwise [k0_pay3]
    blk_ext []
  q t e := by
    pointwise [k0_pay76, k0_pay51, k0_pay11, k0_pay9, k0_pay10]
    rw [cmp_slt, sel_if]
    by_cases h : t.val < 4
    · rw [if_pos h, dif_pos (by omega)]
      rw [Q_pad, dif_pos h]
      show _ = x0 (ix2 ⟨t.val, by omega⟩ ⟨3 * 128 + e.val, by omega⟩)
      blk_ext []
    · rw [if_neg h, Q_pad, dif_neg h]
  k t e := by
    pointwise [k0_pay84, k0_pay60, k0_pay11, k0_pay9, k0_pay10]
    rw [cmp_slt, sel_if]
    by_cases h : t.val < 4
    · rw [if_pos h, dif_pos (by omega)]
      rw [K_pad, dif_pos h]
      refine congrArg (· * _) ?_
      show _ = x1 (ix2 ⟨t.val, by omega⟩ ⟨3 * 128 + e.val, by omega⟩)
      blk_ext []
    · rw [if_neg h, K_pad, dif_neg h]
  v t e := by
    pointwise [k0_pay92, k0_pay68, k0_pay11, k0_pay9, k0_pay10]
    rw [cmp_slt, sel_if]
    by_cases h : t.val < 4
    · rw [if_pos h, dif_pos (by omega)]
      rw [V_pad, dif_pos h]
      show _ = x2 (ix2 ⟨t.val, by omega⟩ ⟨3 * 256 + e.val, by omega⟩)
      blk_ext []
    · rw [if_neg h, V_pad, dif_neg h]
  C y e := by
    show _ = x7 (ix4 0 3 y e)
    pointwise [k0_pay100, k0_pay1]
    blk_ext []
  n e := by
    show _ = x8 (ix3 0 3 e)
    pointwise [k0_pay2]
    blk_ext []

/-- Head 4. -/
theorem ok4 : Ok (pad (HB gb x x0 x1 x2 x7 x8 x9 4)) (k0_pay20 (F := Ideal) k0_pay5 (k0_pay8 gb x) (k0_pay9 i) k0_pay10)
    (k0_pay36 (F := Ideal) (k0_pay7 gb x) (k0_pay9 i) k0_pay10)
    (k0_pay28 (F := Ideal) k0_pay5 (k0_pay8 gb x) (k0_pay9 i) k0_pay10)
    (k0_pay44 (F := Ideal) (k0_pay7 gb x) (k0_pay9 i) k0_pay10)
    (View.ld (Val := Elt Ideal) (e' := .f32) (S := S8x128) (k0_pay3 (F := Ideal) x9) (Rect.unit ![4, 0] ![1, 1] inb_S8x128_S1x1_4_0))
    (k0_pay77 (F := Ideal) (k0_pay11 (k0_pay9 i) k0_pay10) (k0_pay52 (View.ld (Val := Elt Ideal) (e' := .f32) (S := S8x1024) x0 (Rect.unit ![0, 512] ![8, 128] inb_S8x1024_S8x128_0_512))))
    (k0_pay85 (F := Ideal) (k0_pay11 (k0_pay9 i) k0_pay10) (k0_pay61 (F := Ideal) (View.ld (Val := Elt Ideal) (e' := .f32) (S := S8x1024) x1 (Rect.unit ![0, 512] ![8, 128] inb_S8x1024_S8x128_0_512))))
    (k0_pay93 (F := Ideal) (k0_pay11 (k0_pay9 i) k0_pay10) (k0_pay69 (View.ld (Val := Elt Ideal) (e' := .f32) (S := S8x2048) x2 (Rect.unit ![0, 1024] ![8, 256] inb_S8x2048_S8x256_0_1024))))
    (k0_pay101 (F := Ideal) (View.ld (Val := Elt Ideal) (e' := .f32) (S := S8x256x128) (k0_pay1 (F := Ideal) x7) (Rect.unit ![4, 0, 0] ![1, 256, 128] inb_S8x256x128_S1x256x128_4_0_0)))
    (View.ld (Val := Elt Ideal) (e' := .f32) (S := S8x128) (k0_pay2 (F := Ideal) x8) (Rect.unit ![4, 0] ![1, 128] inb_S8x128_S1x128_4_0)) where
  bc t := by
    pointwise [k0_pay20]
    exact pay13_at gb x i t _
  br t := by
    pointwise [k0_pay28, k0_pay15]
    exact pay13_at gb x i t _
  ic t := by
    pointwise [k0_pay36]
    exact pay12_at gb x i t _
  ir t := by
    pointwise [k0_pay44, k0_pay14]
    exact pay12_at gb x i t _
  mm := by
    show _ = x9 (ix3 0 4 0)
    pointwise [k0_pay3]
    blk_ext []
  q t e := by
    pointwise [k0_pay77, k0_pay52, k0_pay11, k0_pay9, k0_pay10]
    rw [cmp_slt, sel_if]
    by_cases h : t.val < 4
    · rw [if_pos h, dif_pos (by omega)]
      rw [Q_pad, dif_pos h]
      show _ = x0 (ix2 ⟨t.val, by omega⟩ ⟨4 * 128 + e.val, by omega⟩)
      blk_ext []
    · rw [if_neg h, Q_pad, dif_neg h]
  k t e := by
    pointwise [k0_pay85, k0_pay61, k0_pay11, k0_pay9, k0_pay10]
    rw [cmp_slt, sel_if]
    by_cases h : t.val < 4
    · rw [if_pos h, dif_pos (by omega)]
      rw [K_pad, dif_pos h]
      refine congrArg (· * _) ?_
      show _ = x1 (ix2 ⟨t.val, by omega⟩ ⟨4 * 128 + e.val, by omega⟩)
      blk_ext []
    · rw [if_neg h, K_pad, dif_neg h]
  v t e := by
    pointwise [k0_pay93, k0_pay69, k0_pay11, k0_pay9, k0_pay10]
    rw [cmp_slt, sel_if]
    by_cases h : t.val < 4
    · rw [if_pos h, dif_pos (by omega)]
      rw [V_pad, dif_pos h]
      show _ = x2 (ix2 ⟨t.val, by omega⟩ ⟨4 * 256 + e.val, by omega⟩)
      blk_ext []
    · rw [if_neg h, V_pad, dif_neg h]
  C y e := by
    show _ = x7 (ix4 0 4 y e)
    pointwise [k0_pay101, k0_pay1]
    blk_ext []
  n e := by
    show _ = x8 (ix3 0 4 e)
    pointwise [k0_pay2]
    blk_ext []

/-- Head 5. -/
theorem ok5 : Ok (pad (HB gb x x0 x1 x2 x7 x8 x9 5)) (k0_pay21 (F := Ideal) k0_pay5 (k0_pay8 gb x) (k0_pay9 i) k0_pay10)
    (k0_pay37 (F := Ideal) (k0_pay7 gb x) (k0_pay9 i) k0_pay10)
    (k0_pay29 (F := Ideal) k0_pay5 (k0_pay8 gb x) (k0_pay9 i) k0_pay10)
    (k0_pay45 (F := Ideal) (k0_pay7 gb x) (k0_pay9 i) k0_pay10)
    (View.ld (Val := Elt Ideal) (e' := .f32) (S := S8x128) (k0_pay3 (F := Ideal) x9) (Rect.unit ![5, 0] ![1, 1] inb_S8x128_S1x1_5_0))
    (k0_pay78 (F := Ideal) (k0_pay11 (k0_pay9 i) k0_pay10) (k0_pay53 (View.ld (Val := Elt Ideal) (e' := .f32) (S := S8x1024) x0 (Rect.unit ![0, 640] ![8, 128] inb_S8x1024_S8x128_0_640))))
    (k0_pay86 (F := Ideal) (k0_pay11 (k0_pay9 i) k0_pay10) (k0_pay62 (F := Ideal) (View.ld (Val := Elt Ideal) (e' := .f32) (S := S8x1024) x1 (Rect.unit ![0, 640] ![8, 128] inb_S8x1024_S8x128_0_640))))
    (k0_pay94 (F := Ideal) (k0_pay11 (k0_pay9 i) k0_pay10) (k0_pay70 (View.ld (Val := Elt Ideal) (e' := .f32) (S := S8x2048) x2 (Rect.unit ![0, 1280] ![8, 256] inb_S8x2048_S8x256_0_1280))))
    (k0_pay102 (F := Ideal) (View.ld (Val := Elt Ideal) (e' := .f32) (S := S8x256x128) (k0_pay1 (F := Ideal) x7) (Rect.unit ![5, 0, 0] ![1, 256, 128] inb_S8x256x128_S1x256x128_5_0_0)))
    (View.ld (Val := Elt Ideal) (e' := .f32) (S := S8x128) (k0_pay2 (F := Ideal) x8) (Rect.unit ![5, 0] ![1, 128] inb_S8x128_S1x128_5_0)) where
  bc t := by
    pointwise [k0_pay21]
    exact pay13_at gb x i t _
  br t := by
    pointwise [k0_pay29, k0_pay15]
    exact pay13_at gb x i t _
  ic t := by
    pointwise [k0_pay37]
    exact pay12_at gb x i t _
  ir t := by
    pointwise [k0_pay45, k0_pay14]
    exact pay12_at gb x i t _
  mm := by
    show _ = x9 (ix3 0 5 0)
    pointwise [k0_pay3]
    blk_ext []
  q t e := by
    pointwise [k0_pay78, k0_pay53, k0_pay11, k0_pay9, k0_pay10]
    rw [cmp_slt, sel_if]
    by_cases h : t.val < 4
    · rw [if_pos h, dif_pos (by omega)]
      rw [Q_pad, dif_pos h]
      show _ = x0 (ix2 ⟨t.val, by omega⟩ ⟨5 * 128 + e.val, by omega⟩)
      blk_ext []
    · rw [if_neg h, Q_pad, dif_neg h]
  k t e := by
    pointwise [k0_pay86, k0_pay62, k0_pay11, k0_pay9, k0_pay10]
    rw [cmp_slt, sel_if]
    by_cases h : t.val < 4
    · rw [if_pos h, dif_pos (by omega)]
      rw [K_pad, dif_pos h]
      refine congrArg (· * _) ?_
      show _ = x1 (ix2 ⟨t.val, by omega⟩ ⟨5 * 128 + e.val, by omega⟩)
      blk_ext []
    · rw [if_neg h, K_pad, dif_neg h]
  v t e := by
    pointwise [k0_pay94, k0_pay70, k0_pay11, k0_pay9, k0_pay10]
    rw [cmp_slt, sel_if]
    by_cases h : t.val < 4
    · rw [if_pos h, dif_pos (by omega)]
      rw [V_pad, dif_pos h]
      show _ = x2 (ix2 ⟨t.val, by omega⟩ ⟨5 * 256 + e.val, by omega⟩)
      blk_ext []
    · rw [if_neg h, V_pad, dif_neg h]
  C y e := by
    show _ = x7 (ix4 0 5 y e)
    pointwise [k0_pay102, k0_pay1]
    blk_ext []
  n e := by
    show _ = x8 (ix3 0 5 e)
    pointwise [k0_pay2]
    blk_ext []

/-- Head 6. -/
theorem ok6 : Ok (pad (HB gb x x0 x1 x2 x7 x8 x9 6)) (k0_pay22 (F := Ideal) k0_pay5 (k0_pay8 gb x) (k0_pay9 i) k0_pay10)
    (k0_pay38 (F := Ideal) (k0_pay7 gb x) (k0_pay9 i) k0_pay10)
    (k0_pay30 (F := Ideal) k0_pay5 (k0_pay8 gb x) (k0_pay9 i) k0_pay10)
    (k0_pay46 (F := Ideal) (k0_pay7 gb x) (k0_pay9 i) k0_pay10)
    (View.ld (Val := Elt Ideal) (e' := .f32) (S := S8x128) (k0_pay3 (F := Ideal) x9) (Rect.unit ![6, 0] ![1, 1] inb_S8x128_S1x1_6_0))
    (k0_pay79 (F := Ideal) (k0_pay11 (k0_pay9 i) k0_pay10) (k0_pay54 (View.ld (Val := Elt Ideal) (e' := .f32) (S := S8x1024) x0 (Rect.unit ![0, 768] ![8, 128] inb_S8x1024_S8x128_0_768))))
    (k0_pay87 (F := Ideal) (k0_pay11 (k0_pay9 i) k0_pay10) (k0_pay63 (F := Ideal) (View.ld (Val := Elt Ideal) (e' := .f32) (S := S8x1024) x1 (Rect.unit ![0, 768] ![8, 128] inb_S8x1024_S8x128_0_768))))
    (k0_pay95 (F := Ideal) (k0_pay11 (k0_pay9 i) k0_pay10) (k0_pay71 (View.ld (Val := Elt Ideal) (e' := .f32) (S := S8x2048) x2 (Rect.unit ![0, 1536] ![8, 256] inb_S8x2048_S8x256_0_1536))))
    (k0_pay103 (F := Ideal) (View.ld (Val := Elt Ideal) (e' := .f32) (S := S8x256x128) (k0_pay1 (F := Ideal) x7) (Rect.unit ![6, 0, 0] ![1, 256, 128] inb_S8x256x128_S1x256x128_6_0_0)))
    (View.ld (Val := Elt Ideal) (e' := .f32) (S := S8x128) (k0_pay2 (F := Ideal) x8) (Rect.unit ![6, 0] ![1, 128] inb_S8x128_S1x128_6_0)) where
  bc t := by
    pointwise [k0_pay22]
    exact pay13_at gb x i t _
  br t := by
    pointwise [k0_pay30, k0_pay15]
    exact pay13_at gb x i t _
  ic t := by
    pointwise [k0_pay38]
    exact pay12_at gb x i t _
  ir t := by
    pointwise [k0_pay46, k0_pay14]
    exact pay12_at gb x i t _
  mm := by
    show _ = x9 (ix3 0 6 0)
    pointwise [k0_pay3]
    blk_ext []
  q t e := by
    pointwise [k0_pay79, k0_pay54, k0_pay11, k0_pay9, k0_pay10]
    rw [cmp_slt, sel_if]
    by_cases h : t.val < 4
    · rw [if_pos h, dif_pos (by omega)]
      rw [Q_pad, dif_pos h]
      show _ = x0 (ix2 ⟨t.val, by omega⟩ ⟨6 * 128 + e.val, by omega⟩)
      blk_ext []
    · rw [if_neg h, Q_pad, dif_neg h]
  k t e := by
    pointwise [k0_pay87, k0_pay63, k0_pay11, k0_pay9, k0_pay10]
    rw [cmp_slt, sel_if]
    by_cases h : t.val < 4
    · rw [if_pos h, dif_pos (by omega)]
      rw [K_pad, dif_pos h]
      refine congrArg (· * _) ?_
      show _ = x1 (ix2 ⟨t.val, by omega⟩ ⟨6 * 128 + e.val, by omega⟩)
      blk_ext []
    · rw [if_neg h, K_pad, dif_neg h]
  v t e := by
    pointwise [k0_pay95, k0_pay71, k0_pay11, k0_pay9, k0_pay10]
    rw [cmp_slt, sel_if]
    by_cases h : t.val < 4
    · rw [if_pos h, dif_pos (by omega)]
      rw [V_pad, dif_pos h]
      show _ = x2 (ix2 ⟨t.val, by omega⟩ ⟨6 * 256 + e.val, by omega⟩)
      blk_ext []
    · rw [if_neg h, V_pad, dif_neg h]
  C y e := by
    show _ = x7 (ix4 0 6 y e)
    pointwise [k0_pay103, k0_pay1]
    blk_ext []
  n e := by
    show _ = x8 (ix3 0 6 e)
    pointwise [k0_pay2]
    blk_ext []

/-- Head 7. -/
theorem ok7 : Ok (pad (HB gb x x0 x1 x2 x7 x8 x9 7)) (k0_pay23 (F := Ideal) k0_pay5 (k0_pay8 gb x) (k0_pay9 i) k0_pay10)
    (k0_pay39 (F := Ideal) (k0_pay7 gb x) (k0_pay9 i) k0_pay10)
    (k0_pay31 (F := Ideal) k0_pay5 (k0_pay8 gb x) (k0_pay9 i) k0_pay10)
    (k0_pay47 (F := Ideal) (k0_pay7 gb x) (k0_pay9 i) k0_pay10)
    (View.ld (Val := Elt Ideal) (e' := .f32) (S := S8x128) (k0_pay3 (F := Ideal) x9) (Rect.unit ![7, 0] ![1, 1] inb_S8x128_S1x1_7_0))
    (k0_pay80 (F := Ideal) (k0_pay11 (k0_pay9 i) k0_pay10) (k0_pay55 (View.ld (Val := Elt Ideal) (e' := .f32) (S := S8x1024) x0 (Rect.unit ![0, 896] ![8, 128] inb_S8x1024_S8x128_0_896))))
    (k0_pay88 (F := Ideal) (k0_pay11 (k0_pay9 i) k0_pay10) (k0_pay64 (F := Ideal) (View.ld (Val := Elt Ideal) (e' := .f32) (S := S8x1024) x1 (Rect.unit ![0, 896] ![8, 128] inb_S8x1024_S8x128_0_896))))
    (k0_pay96 (F := Ideal) (k0_pay11 (k0_pay9 i) k0_pay10) (k0_pay72 (View.ld (Val := Elt Ideal) (e' := .f32) (S := S8x2048) x2 (Rect.unit ![0, 1792] ![8, 256] inb_S8x2048_S8x256_0_1792))))
    (k0_pay104 (F := Ideal) (View.ld (Val := Elt Ideal) (e' := .f32) (S := S8x256x128) (k0_pay1 (F := Ideal) x7) (Rect.unit ![7, 0, 0] ![1, 256, 128] inb_S8x256x128_S1x256x128_7_0_0)))
    (View.ld (Val := Elt Ideal) (e' := .f32) (S := S8x128) (k0_pay2 (F := Ideal) x8) (Rect.unit ![7, 0] ![1, 128] inb_S8x128_S1x128_7_0)) where
  bc t := by
    pointwise [k0_pay23]
    exact pay13_at gb x i t _
  br t := by
    pointwise [k0_pay31, k0_pay15]
    exact pay13_at gb x i t _
  ic t := by
    pointwise [k0_pay39]
    exact pay12_at gb x i t _
  ir t := by
    pointwise [k0_pay47, k0_pay14]
    exact pay12_at gb x i t _
  mm := by
    show _ = x9 (ix3 0 7 0)
    pointwise [k0_pay3]
    blk_ext []
  q t e := by
    pointwise [k0_pay80, k0_pay55, k0_pay11, k0_pay9, k0_pay10]
    rw [cmp_slt, sel_if]
    by_cases h : t.val < 4
    · rw [if_pos h, dif_pos (by omega)]
      rw [Q_pad, dif_pos h]
      show _ = x0 (ix2 ⟨t.val, by omega⟩ ⟨7 * 128 + e.val, by omega⟩)
      blk_ext []
    · rw [if_neg h, Q_pad, dif_neg h]
  k t e := by
    pointwise [k0_pay88, k0_pay64, k0_pay11, k0_pay9, k0_pay10]
    rw [cmp_slt, sel_if]
    by_cases h : t.val < 4
    · rw [if_pos h, dif_pos (by omega)]
      rw [K_pad, dif_pos h]
      refine congrArg (· * _) ?_
      show _ = x1 (ix2 ⟨t.val, by omega⟩ ⟨7 * 128 + e.val, by omega⟩)
      blk_ext []
    · rw [if_neg h, K_pad, dif_neg h]
  v t e := by
    pointwise [k0_pay96, k0_pay72, k0_pay11, k0_pay9, k0_pay10]
    rw [cmp_slt, sel_if]
    by_cases h : t.val < 4
    · rw [if_pos h, dif_pos (by omega)]
      rw [V_pad, dif_pos h]
      show _ = x2 (ix2 ⟨t.val, by omega⟩ ⟨7 * 256 + e.val, by omega⟩)
      blk_ext []
    · rw [if_neg h, V_pad, dif_neg h]
  C y e := by
    show _ = x7 (ix4 0 7 y e)
    pointwise [k0_pay104, k0_pay1]
    blk_ext []
  n e := by
    show _ = x8 (ix3 0 7 e)
    pointwise [k0_pay2]
    blk_ext []

end Cert.MlsIdeal.Acc
-- ==== Proof.Mls.Same.lean ====
/- The values of the other heads are those of head 1 at their own operands. -/
module

public import proofs.«01_k».proof.Proof.Mls.Head

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen

section
variable (bc ic wi den sc1 : FVec Ideal S64x1 .f32) (br ir : FVec Ideal S1x64 .f32) (mm mn be dec : FVec Ideal S1x1 .f32) (qf kf : FVec Ideal S64x128 .f32)
  (qb kb : FVec Ideal S64x128 .bf16) (vb : FVec Ideal S64x256 .bf16) (vf num hh : FVec Ideal S64x256 .f32) (C cc : FVec Ideal S256x128 .f32) (nn : FVec Ideal S1x128 .f32)
  (dm wd sc : FVec Ideal S64x64 .f32) (mt : FVec Ideal S64x1 .f32)

theorem same1 : k0_pay105 (F := Ideal) k0_pay4 bc br ir = k0_pay106 (F := Ideal) k0_pay4 bc br ir := rfl
theorem same2 : k0_pay122 (F := Ideal) bc mm dm = k0_pay123 (F := Ideal) bc mm dm := rfl
theorem same3 : k0_pay114 (F := Ideal) bc mm = k0_pay115 (F := Ideal) bc mm := rfl
theorem same4 : k0_pay130 (F := Ideal) bc mm dm = k0_pay132 (F := Ideal) (k0_pay131 bc mm dm) := rfl
theorem same5 : k0_pay139 (F := Ideal) sc1 mt = k0_pay140 (F := Ideal) sc1 mt := rfl
theorem same6 : k0_pay147 (F := Ideal) qf = k0_pay148 (F := Ideal) qf := rfl
theorem same7 : k0_pay155 (F := Ideal) kf = k0_pay156 (F := Ideal) kf := rfl
theorem same8 : k0_pay163 (F := Ideal) vf = k0_pay164 (F := Ideal) vf := rfl
theorem same9 : k0_pay171 (F := Ideal) wd qb kb (constant S64x64 .f32 0x00000000#32) = k0_pay172 (F := Ideal) wd qb kb := rfl
theorem same10 : k0_pay185 (F := Ideal) C wd wi qb kb vb (constant S64x64 .f32 0x00000000#32) = k0_pay186 (F := Ideal) C wd wi qb kb vb := rfl
theorem same11 : k0_pay194 (F := Ideal) qf nn wi sc = k0_pay195 (F := Ideal) qf nn wi sc := rfl
theorem same12 : k0_pay206 (F := Ideal) num (k0_pay204 den) (k0_pay205 mt) = k0_pay207 (F := Ideal) mt num den := rfl
theorem same13 : k0_pay214 (F := Ideal) mt = k0_pay215 (F := Ideal) mt := rfl
theorem same14 : k0_pay222 (F := Ideal) bc = k0_pay223 (F := Ideal) bc := rfl
theorem same15 : k0_pay230 (F := Ideal) bc ic (k0_pay215 mt) = k0_pay231 (F := Ideal) bc ic mt := rfl
theorem same16 : k0_pay239 (F := Ideal) mm mn be = k0_pay240 (F := Ideal) mm mn be := rfl
theorem same17 : k0_pay247 (F := Ideal) vf kb wi = k0_pay248 (F := Ideal) vf kb wi := rfl
theorem same18 : k0_pay256 (F := Ideal) C dec cc = k0_pay262 (F := Ideal) C dec cc := rfl
theorem same19 : k0_pay257 (F := Ideal) kf nn wi dec = k0_pay263 (F := Ideal) kf nn wi dec := rfl
theorem same20 : k0_pay258 (F := Ideal) mn = k0_pay264 (F := Ideal) mn := rfl
theorem same21 : k0_pay107 (F := Ideal) k0_pay4 bc br ir = k0_pay106 (F := Ideal) k0_pay4 bc br ir := rfl
theorem same22 : k0_pay124 (F := Ideal) bc mm dm = k0_pay123 (F := Ideal) bc mm dm := rfl
theorem same23 : k0_pay116 (F := Ideal) bc mm = k0_pay115 (F := Ideal) bc mm := rfl
theorem same24 : k0_pay133 (F := Ideal) dm (k0_pay123 bc mm dm) = k0_pay132 (F := Ideal) (k0_pay131 bc mm dm) := rfl
theorem same25 : k0_pay141 (F := Ideal) sc1 mt = k0_pay140 (F := Ideal) sc1 mt := rfl
theorem same26 : k0_pay149 (F := Ideal) qf = k0_pay148 (F := Ideal) qf := rfl
theorem same27 : k0_pay157 (F := Ideal) kf = k0_pay156 (F := Ideal) kf := rfl
theorem same28 : k0_pay165 (F := Ideal) vf = k0_pay164 (F := Ideal) vf := rfl
theorem same29 : k0_pay173 (F := Ideal) wd qb kb = k0_pay172 (F := Ideal) wd qb kb := rfl
theorem same30 : k0_pay188 (F := Ideal) wi vb (k0_pay179 C qb) (k0_pay187 wd qb kb) = k0_pay186 (F := Ideal) C wd wi qb kb vb := rfl
theorem same31 : k0_pay198 (F := Ideal) wi (k0_pay196 sc) (k0_pay197 qf nn) = k0_pay195 (F := Ideal) qf nn wi sc := rfl
theorem same32 : k0_pay208 (F := Ideal) mt num den = k0_pay207 (F := Ideal) mt num den := rfl
theorem same33 : k0_pay216 (F := Ideal) mt = k0_pay215 (F := Ideal) mt := rfl
theorem same34 : k0_pay224 (F := Ideal) bc = k0_pay223 (F := Ideal) bc := rfl
theorem same35 : k0_pay232 (F := Ideal) bc ic mt = k0_pay231 (F := Ideal) bc ic mt := rfl
theorem same36 : k0_pay241 (F := Ideal) mm mn be = k0_pay240 (F := Ideal) mm mn be := rfl
theorem same37 : k0_pay249 (F := Ideal) vf kb wi = k0_pay248 (F := Ideal) vf kb wi := rfl
theorem same38 : k0_pay267 (F := Ideal) C dec cc = k0_pay262 (F := Ideal) C dec cc := rfl
theorem same39 : k0_pay268 (F := Ideal) kf nn wi dec = k0_pay263 (F := Ideal) kf nn wi dec := rfl
theorem same40 : k0_pay269 (F := Ideal) mn = k0_pay264 (F := Ideal) mn := rfl
theorem same41 : k0_pay108 (F := Ideal) k0_pay4 bc br ir = k0_pay106 (F := Ideal) k0_pay4 bc br ir := rfl
theorem same42 : k0_pay125 (F := Ideal) bc mm dm = k0_pay123 (F := Ideal) bc mm dm := rfl
theorem same43 : k0_pay117 (F := Ideal) bc mm = k0_pay115 (F := Ideal) bc mm := rfl
theorem same44 : k0_pay134 (F := Ideal) dm (k0_pay123 bc mm dm) = k0_pay132 (F := Ideal) (k0_pay131 bc mm dm) := rfl
theorem same45 : k0_pay142 (F := Ideal) sc1 mt = k0_pay140 (F := Ideal) sc1 mt := rfl
theorem same46 : k0_pay150 (F := Ideal) qf = k0_pay148 (F := Ideal) qf := rfl
theorem same47 : k0_pay158 (F := Ideal) kf = k0_pay156 (F := Ideal) kf := rfl
theorem same48 : k0_pay166 (F := Ideal) vf = k0_pay164 (F := Ideal) vf := rfl
theorem same49 : k0_pay174 (F := Ideal) wd qb kb = k0_pay172 (F := Ideal) wd qb kb := rfl
theorem same50 : k0_pay189 (F := Ideal) wi vb (k0_pay172 wd qb kb) (k0_pay180 C qb) = k0_pay186 (F := Ideal) C wd wi qb kb vb := rfl
theorem same51 : k0_pay199 (F := Ideal) qf nn wi sc = k0_pay195 (F := Ideal) qf nn wi sc := rfl
theorem same52 : k0_pay209 (F := Ideal) mt num den = k0_pay207 (F := Ideal) mt num den := rfl
theorem same53 : k0_pay217 (F := Ideal) mt = k0_pay215 (F := Ideal) mt := rfl
theorem same54 : k0_pay225 (F := Ideal) bc = k0_pay223 (F := Ideal) bc := rfl
theorem same55 : k0_pay233 (F := Ideal) bc ic mt = k0_pay231 (F := Ideal) bc ic mt := rfl
theorem same56 : k0_pay242 (F := Ideal) mm mn be = k0_pay240 (F := Ideal) mm mn be := rfl
theorem same57 : k0_pay250 (F := Ideal) vf kb wi = k0_pay248 (F := Ideal) vf kb wi := rfl
theorem same58 : k0_pay272 (F := Ideal) C dec cc = k0_pay262 (F := Ideal) C dec cc := rfl
theorem same59 : k0_pay273 (F := Ideal) kf nn wi dec = k0_pay263 (F := Ideal) kf nn wi dec := rfl
theorem same60 : k0_pay274 (F := Ideal) mn = k0_pay264 (F := Ideal) mn := rfl
theorem same61 : k0_pay109 (F := Ideal) k0_pay4 bc br ir = k0_pay106 (F := Ideal) k0_pay4 bc br ir := rfl
theorem same62 : k0_pay126 (F := Ideal) bc mm dm = k0_pay123 (F := Ideal) bc mm dm := rfl
theorem same63 : k0_pay118 (F := Ideal) bc mm = k0_pay115 (F := Ideal) bc mm := rfl
theorem same64 : k0_pay135 (F := Ideal) dm (k0_pay123 bc mm dm) = k0_pay132 (F := Ideal) (k0_pay131 bc mm dm) := rfl
theorem same65 : k0_pay143 (F := Ideal) sc1 mt = k0_pay140 (F := Ideal) sc1 mt := rfl
theorem same66 : k0_pay151 (F := Ideal) qf = k0_pay148 (F := Ideal) qf := rfl
theorem same67 : k0_pay159 (F := Ideal) kf = k0_pay156 (F := Ideal) kf := rfl
theorem same68 : k0_pay167 (F := Ideal) vf = k0_pay164 (F := Ideal) vf := rfl
theorem same69 : k0_pay175 (F := Ideal) wd qb kb = k0_pay172 (F := Ideal) wd qb kb := rfl
theorem same70 : k0_pay190 (F := Ideal) wi vb (k0_pay172 wd qb kb) (k0_pay181 C qb) = k0_pay186 (F := Ideal) C wd wi qb kb vb := rfl
theorem same71 : k0_pay200 (F := Ideal) qf nn wi sc = k0_pay195 (F := Ideal) qf nn wi sc := rfl
theorem same72 : k0_pay210 (F := Ideal) mt num den = k0_pay207 (F := Ideal) mt num den := rfl
theorem same73 : k0_pay218 (F := Ideal) mt = k0_pay215 (F := Ideal) mt := rfl
theorem same74 : k0_pay226 (F := Ideal) bc = k0_pay223 (F := Ideal) bc := rfl
theorem same75 : k0_pay234 (F := Ideal) bc ic mt = k0_pay231 (F := Ideal) bc ic mt := rfl
theorem same76 : k0_pay243 (F := Ideal) mm mn be = k0_pay240 (F := Ideal) mm mn be := rfl
theorem same77 : k0_pay251 (F := Ideal) vf kb wi = k0_pay248 (F := Ideal) vf kb wi := rfl
theorem same78 : k0_pay278 (F := Ideal) C dec cc = k0_pay262 (F := Ideal) C dec cc := rfl
theorem same79 : k0_pay279 (F := Ideal) kf nn wi dec = k0_pay263 (F := Ideal) kf nn wi dec := rfl
theorem same80 : k0_pay280 (F := Ideal) mn = k0_pay264 (F := Ideal) mn := rfl
theorem same81 : k0_pay110 (F := Ideal) k0_pay4 bc br ir = k0_pay106 (F := Ideal) k0_pay4 bc br ir := rfl
theorem same82 : k0_pay127 (F := Ideal) bc mm dm = k0_pay123 (F := Ideal) bc mm dm := rfl
theorem same83 : k0_pay119 (F := Ideal) bc mm = k0_pay115 (F := Ideal) bc mm := rfl
theorem same84 : k0_pay136 (F := Ideal) dm (k0_pay123 bc mm dm) = k0_pay132 (F := Ideal) (k0_pay131 bc mm dm) := rfl
theorem same85 : k0_pay144 (F := Ideal) sc1 mt = k0_pay140 (F := Ideal) sc1 mt := rfl
theorem same86 : k0_pay152 (F := Ideal) qf = k0_pay148 (F := Ideal) qf := rfl
theorem same87 : k0_pay160 (F := Ideal) kf = k0_pay156 (F := Ideal) kf := rfl
theorem same88 : k0_pay168 (F := Ideal) vf = k0_pay164 (F := Ideal) vf := rfl
theorem same89 : k0_pay176 (F := Ideal) wd qb kb = k0_pay172 (F := Ideal) wd qb kb := rfl
theorem same90 : k0_pay191 (F := Ideal) wi vb (k0_pay172 wd qb kb) (k0_pay182 C qb) = k0_pay186 (F := Ideal) C wd wi qb kb vb := rfl
theorem same91 : k0_pay201 (F := Ideal) qf nn wi sc = k0_pay195 (F := Ideal) qf nn wi sc := rfl
theorem same92 : k0_pay211 (F := Ideal) mt num den = k0_pay207 (F := Ideal) mt num den := rfl
theorem same93 : k0_pay219 (F := Ideal) mt = k0_pay215 (F := Ideal) mt := rfl
theorem same94 : k0_pay227 (F := Ideal) bc = k0_pay223 (F := Ideal) bc := rfl
theorem same95 : k0_pay235 (F := Ideal) bc ic mt = k0_pay231 (F := Ideal) bc ic mt := rfl
theorem same96 : k0_pay244 (F := Ideal) mm mn be = k0_pay240 (F := Ideal) mm mn be := rfl
theorem same97 : k0_pay252 (F := Ideal) vf kb wi = k0_pay248 (F := Ideal) vf kb wi := rfl
theorem same98 : k0_pay283 (F := Ideal) C dec cc = k0_pay262 (F := Ideal) C dec cc := rfl
theorem same99 : k0_pay284 (F := Ideal) kf nn wi dec = k0_pay263 (F := Ideal) kf nn wi dec := rfl
theorem same100 : k0_pay286 (F := Ideal) (k0_pay285 mn) = k0_pay264 (F := Ideal) mn := rfl
theorem same101 : k0_pay111 (F := Ideal) k0_pay4 bc br ir = k0_pay106 (F := Ideal) k0_pay4 bc br ir := rfl
theorem same102 : k0_pay128 (F := Ideal) bc mm dm = k0_pay123 (F := Ideal) bc mm dm := rfl
theorem same103 : k0_pay120 (F := Ideal) bc mm = k0_pay115 (F := Ideal) bc mm := rfl
theorem same104 : k0_pay137 (F := Ideal) dm (k0_pay123 bc mm dm) = k0_pay132 (F := Ideal) (k0_pay131 bc mm dm) := rfl
theorem same105 : k0_pay145 (F := Ideal) sc1 mt = k0_pay140 (F := Ideal) sc1 mt := rfl
theorem same106 : k0_pay153 (F := Ideal) qf = k0_pay148 (F := Ideal) qf := rfl
theorem same107 : k0_pay161 (F := Ideal) kf = k0_pay156 (F := Ideal) kf := rfl
theorem same108 : k0_pay169 (F := Ideal) vf = k0_pay164 (F := Ideal) vf := rfl
theorem same109 : k0_pay177 (F := Ideal) wd qb kb = k0_pay172 (F := Ideal) wd qb kb := rfl
theorem same110 : k0_pay192 (F := Ideal) wi vb (k0_pay172 wd qb kb) (k0_pay183 C qb) = k0_pay186 (F := Ideal) C wd wi qb kb vb := rfl
theorem same111 : k0_pay202 (F := Ideal) qf nn wi sc = k0_pay195 (F := Ideal) qf nn wi sc := rfl
theorem same112 : k0_pay212 (F := Ideal) mt num den = k0_pay207 (F := Ideal) mt num den := rfl
theorem same113 : k0_pay220 (F := Ideal) mt = k0_pay215 (F := Ideal) mt := rfl
theorem same114 : k0_pay228 (F := Ideal) bc = k0_pay223 (F := Ideal) bc := rfl
theorem same115 : k0_pay236 (F := Ideal) bc ic mt = k0_pay231 (F := Ideal) bc ic mt := rfl
theorem same116 : k0_pay245 (F := Ideal) mm mn be = k0_pay240 (F := Ideal) mm mn be := rfl
theorem same117 : k0_pay254 (F := Ideal) kb (k0_pay253 vf wi) = k0_pay248 (F := Ideal) vf kb wi := rfl
theorem same118 : k0_pay288 (F := Ideal) C dec cc = k0_pay262 (F := Ideal) C dec cc := rfl
theorem same119 : k0_pay289 (F := Ideal) kf nn wi dec = k0_pay263 (F := Ideal) kf nn wi dec := rfl
theorem same120 : k0_pay290 (F := Ideal) mn = k0_pay264 (F := Ideal) mn := rfl
theorem same121 : k0_pay113 (F := Ideal) k0_pay4 br ir (k0_pay112 bc) = k0_pay106 (F := Ideal) k0_pay4 bc br ir := rfl
theorem same122 : k0_pay129 (F := Ideal) k0_pay4 bc br ir mm (k0_pay112 bc) = k0_pay123 (F := Ideal) bc mm (k0_pay106 k0_pay4 bc br ir) := rfl
theorem same123 : k0_pay121 (F := Ideal) bc mm = k0_pay115 (F := Ideal) bc mm := rfl
theorem same124 : k0_pay138 (F := Ideal) dm (k0_pay123 bc mm dm) = k0_pay132 (F := Ideal) (k0_pay131 bc mm dm) := rfl
theorem same125 : k0_pay146 (F := Ideal) sc1 mt = k0_pay140 (F := Ideal) sc1 mt := rfl
theorem same126 : k0_pay154 (F := Ideal) qf = k0_pay148 (F := Ideal) qf := rfl
theorem same127 : k0_pay162 (F := Ideal) kf = k0_pay156 (F := Ideal) kf := rfl
theorem same128 : k0_pay170 (F := Ideal) vf = k0_pay164 (F := Ideal) vf := rfl
theorem same129 : k0_pay178 (F := Ideal) wd qb kb = k0_pay172 (F := Ideal) wd qb kb := rfl
theorem same130 : k0_pay193 (F := Ideal) wi vb (k0_pay172 wd qb kb) (k0_pay184 C qb) = k0_pay186 (F := Ideal) C wd wi qb kb vb := rfl
theorem same131 : k0_pay203 (F := Ideal) qf nn wi sc = k0_pay195 (F := Ideal) qf nn wi sc := rfl
theorem same132 : k0_pay213 (F := Ideal) mt num den = k0_pay207 (F := Ideal) mt num den := rfl
theorem same133 : k0_pay221 (F := Ideal) mt = k0_pay215 (F := Ideal) mt := rfl
theorem same134 : k0_pay229 (F := Ideal) bc = k0_pay223 (F := Ideal) bc := rfl
theorem same135 : k0_pay238 (F := Ideal) (k0_pay215 mt) (k0_pay237 bc ic) = k0_pay231 (F := Ideal) bc ic mt := rfl
theorem same136 : k0_pay246 (F := Ideal) mm mn be = k0_pay240 (F := Ideal) mm mn be := rfl
theorem same137 : k0_pay255 (F := Ideal) vf kb wi = k0_pay248 (F := Ideal) vf kb wi := rfl
theorem same138 : k0_pay292 (F := Ideal) C dec cc = k0_pay262 (F := Ideal) C dec cc := rfl
theorem same139 : k0_pay294 (F := Ideal) (k0_pay293 kf nn wi dec) = k0_pay263 (F := Ideal) kf nn wi dec := rfl
theorem same140 : k0_pay295 (F := Ideal) mn = k0_pay264 (F := Ideal) mn := rfl

end

end Cert.MlsIdeal.Acc
-- ==== Proof.Mls.Acc.lean ====
/- What a step of the chunk kernel leaves in its blocks, over the extended reals. -/
module

public import proofs.«01_k».proof.Proof.Mls.Blocks
public import proofs.«01_k».proof.Proof.Mls.Same

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

variable (m : (ℓ : Loc nD τ sig) → Buf (Elt Ideal) ℓ)

/-- A head's chunk at a step. -/
def KB (c : Dev nD) (t : Fin cfg0.N) (h : Fin 8) : Hd 4 :=
  HB (iblk m c 5 t) (iblk m c 4 t) (X0_0 m c t) (X0_1 m c t) (X0_2 m c t) (iblk m c 7 t) (iblk m c 8 t) (iblk m c 9 t) h

theorem whole2 (h : Fin 8) (e : Fin 128) : (Rect.unit ![0, 0] ![8, 128] inb_S8x128_S8x128_0_0 : Rect S8x128).idx (ix2 h e) = ix2 h e := by
  funext a; fin_cases a
  · exact Fin.ext (by show 0 + 1 * h.val = h.val; omega)
  · exact Fin.ext (by show 0 + 1 * e.val = e.val; omega)

theorem whole3 (h : Fin 8) (x : Fin 256) (e : Fin 128) : (Rect.unit ![0, 0, 0] ![8, 256, 128] inb_S8x256x128_S8x256x128_0_0_0 : Rect S8x256x128).idx (ix3 h x e) = ix3 h x e := by
  funext a; fin_cases a
  · exact Fin.ext (by show 0 + 1 * h.val = h.val; omega)
  · exact Fin.ext (by show 0 + 1 * x.val = x.val; omega)
  · exact Fin.ext (by show 0 + 1 * e.val = e.val; omega)

theorem row2_0 (e : Fin 128) : (Rect.unit ![0, 0] ![1, 128] inb_S8x128_S1x128_0_0 : Rect S8x128).idx (ix2 0 e) = ix2 0 e := by
  funext a; fin_cases a
  · rfl
  · exact Fin.ext (by show 0 + 1 * e.val = e.val; omega)

theorem row3_0 (x : Fin 256) (e : Fin 128) : (Rect.unit ![0, 0, 0] ![1, 256, 128] inb_S8x256x128_S1x256x128_0_0_0 : Rect S8x256x128).idx (ix3 0 x e) = ix3 0 x e := by
  funext a; fin_cases a
  · rfl
  · exact Fin.ext (by show 0 + 1 * x.val = x.val; omega)
  · exact Fin.ext (by show 0 + 1 * e.val = e.val; omega)

theorem in2_0 (e : Fin 128) : (Rect.unit ![0, 0] ![8, 128] inb_S8x128_S8x128_0_0 : Rect S8x128).idx (ix2 0 e) ∈ (Rect.unit ![0, 0] ![1, 128] inb_S8x128_S1x128_0_0 : Rect S8x128).set := by
  rw [whole2, ← row2_0]
  exact LoadRect.idx_mem _ _

theorem in3_0 (x : Fin 256) (e : Fin 128) : (Rect.unit ![0, 0, 0] ![8, 256, 128] inb_S8x256x128_S8x256x128_0_0_0 : Rect S8x256x128).idx (ix3 0 x e) ∈ (Rect.unit ![0, 0, 0] ![1, 256, 128] inb_S8x256x128_S1x256x128_0_0_0 : Rect S8x256x128).set := by
  rw [whole3, ← row3_0]
  exact LoadRect.idx_mem _ _

theorem row2_1 (e : Fin 128) : (Rect.unit ![1, 0] ![1, 128] inb_S8x128_S1x128_1_0 : Rect S8x128).idx (ix2 0 e) = ix2 1 e := by
  funext a; fin_cases a
  · rfl
  · exact Fin.ext (by show 0 + 1 * e.val = e.val; omega)

theorem row3_1 (x : Fin 256) (e : Fin 128) : (Rect.unit ![1, 0, 0] ![1, 256, 128] inb_S8x256x128_S1x256x128_1_0_0 : Rect S8x256x128).idx (ix3 0 x e) = ix3 1 x e := by
  funext a; fin_cases a
  · rfl
  · exact Fin.ext (by show 0 + 1 * x.val = x.val; omega)
  · exact Fin.ext (by show 0 + 1 * e.val = e.val; omega)

theorem in2_1 (e : Fin 128) : (Rect.unit ![0, 0] ![8, 128] inb_S8x128_S8x128_0_0 : Rect S8x128).idx (ix2 1 e) ∈ (Rect.unit ![1, 0] ![1, 128] inb_S8x128_S1x128_1_0 : Rect S8x128).set := by
  rw [whole2, ← row2_1]
  exact LoadRect.idx_mem _ _

theorem in3_1 (x : Fin 256) (e : Fin 128) : (Rect.unit ![0, 0, 0] ![8, 256, 128] inb_S8x256x128_S8x256x128_0_0_0 : Rect S8x256x128).idx (ix3 1 x e) ∈ (Rect.unit ![1, 0, 0] ![1, 256, 128] inb_S8x256x128_S1x256x128_1_0_0 : Rect S8x256x128).set := by
  rw [whole3, ← row3_1]
  exact LoadRect.idx_mem _ _

theorem row2_2 (e : Fin 128) : (Rect.unit ![2, 0] ![1, 128] inb_S8x128_S1x128_2_0 : Rect S8x128).idx (ix2 0 e) = ix2 2 e := by
  funext a; fin_cases a
  · rfl
  · exact Fin.ext (by show 0 + 1 * e.val = e.val; omega)

theorem row3_2 (x : Fin 256) (e : Fin 128) : (Rect.unit ![2, 0, 0] ![1, 256, 128] inb_S8x256x128_S1x256x128_2_0_0 : Rect S8x256x128).idx (ix3 0 x e) = ix3 2 x e := by
  funext a; fin_cases a
  · rfl
  · exact Fin.ext (by show 0 + 1 * x.val = x.val; omega)
  · exact Fin.ext (by show 0 + 1 * e.val = e.val; omega)

theorem in2_2 (e : Fin 128) : (Rect.unit ![0, 0] ![8, 128] inb_S8x128_S8x128_0_0 : Rect S8x128).idx (ix2 2 e) ∈ (Rect.unit ![2, 0] ![1, 128] inb_S8x128_S1x128_2_0 : Rect S8x128).set := by
  rw [whole2, ← row2_2]
  exact LoadRect.idx_mem _ _

theorem in3_2 (x : Fin 256) (e : Fin 128) : (Rect.unit ![0, 0, 0] ![8, 256, 128] inb_S8x256x128_S8x256x128_0_0_0 : Rect S8x256x128).idx (ix3 2 x e) ∈ (Rect.unit ![2, 0, 0] ![1, 256, 128] inb_S8x256x128_S1x256x128_2_0_0 : Rect S8x256x128).set := by
  rw [whole3, ← row3_2]
  exact LoadRect.idx_mem _ _

theorem row2_3 (e : Fin 128) : (Rect.unit ![3, 0] ![1, 128] inb_S8x128_S1x128_3_0 : Rect S8x128).idx (ix2 0 e) = ix2 3 e := by
  funext a; fin_cases a
  · rfl
  · exact Fin.ext (by show 0 + 1 * e.val = e.val; omega)

theorem row3_3 (x : Fin 256) (e : Fin 128) : (Rect.unit ![3, 0, 0] ![1, 256, 128] inb_S8x256x128_S1x256x128_3_0_0 : Rect S8x256x128).idx (ix3 0 x e) = ix3 3 x e := by
  funext a; fin_cases a
  · rfl
  · exact Fin.ext (by show 0 + 1 * x.val = x.val; omega)
  · exact Fin.ext (by show 0 + 1 * e.val = e.val; omega)

theorem in2_3 (e : Fin 128) : (Rect.unit ![0, 0] ![8, 128] inb_S8x128_S8x128_0_0 : Rect S8x128).idx (ix2 3 e) ∈ (Rect.unit ![3, 0] ![1, 128] inb_S8x128_S1x128_3_0 : Rect S8x128).set := by
  rw [whole2, ← row2_3]
  exact LoadRect.idx_mem _ _

theorem in3_3 (x : Fin 256) (e : Fin 128) : (Rect.unit ![0, 0, 0] ![8, 256, 128] inb_S8x256x128_S8x256x128_0_0_0 : Rect S8x256x128).idx (ix3 3 x e) ∈ (Rect.unit ![3, 0, 0] ![1, 256, 128] inb_S8x256x128_S1x256x128_3_0_0 : Rect S8x256x128).set := by
  rw [whole3, ← row3_3]
  exact LoadRect.idx_mem _ _

theorem row2_4 (e : Fin 128) : (Rect.unit ![4, 0] ![1, 128] inb_S8x128_S1x128_4_0 : Rect S8x128).idx (ix2 0 e) = ix2 4 e := by
  funext a; fin_cases a
  · rfl
  · exact Fin.ext (by show 0 + 1 * e.val = e.val; omega)

theorem row3_4 (x : Fin 256) (e : Fin 128) : (Rect.unit ![4, 0, 0] ![1, 256, 128] inb_S8x256x128_S1x256x128_4_0_0 : Rect S8x256x128).idx (ix3 0 x e) = ix3 4 x e := by
  funext a; fin_cases a
  · rfl
  · exact Fin.ext (by show 0 + 1 * x.val = x.val; omega)
  · exact Fin.ext (by show 0 + 1 * e.val = e.val; omega)

theorem in2_4 (e : Fin 128) : (Rect.unit ![0, 0] ![8, 128] inb_S8x128_S8x128_0_0 : Rect S8x128).idx (ix2 4 e) ∈ (Rect.unit ![4, 0] ![1, 128] inb_S8x128_S1x128_4_0 : Rect S8x128).set := by
  rw [whole2, ← row2_4]
  exact LoadRect.idx_mem _ _

theorem in3_4 (x : Fin 256) (e : Fin 128) : (Rect.unit ![0, 0, 0] ![8, 256, 128] inb_S8x256x128_S8x256x128_0_0_0 : Rect S8x256x128).idx (ix3 4 x e) ∈ (Rect.unit ![4, 0, 0] ![1, 256, 128] inb_S8x256x128_S1x256x128_4_0_0 : Rect S8x256x128).set := by
  rw [whole3, ← row3_4]
  exact LoadRect.idx_mem _ _

theorem row2_5 (e : Fin 128) : (Rect.unit ![5, 0] ![1, 128] inb_S8x128_S1x128_5_0 : Rect S8x128).idx (ix2 0 e) = ix2 5 e := by
  funext a; fin_cases a
  · rfl
  · exact Fin.ext (by show 0 + 1 * e.val = e.val; omega)

theorem row3_5 (x : Fin 256) (e : Fin 128) : (Rect.unit ![5, 0, 0] ![1, 256, 128] inb_S8x256x128_S1x256x128_5_0_0 : Rect S8x256x128).idx (ix3 0 x e) = ix3 5 x e := by
  funext a; fin_cases a
  · rfl
  · exact Fin.ext (by show 0 + 1 * x.val = x.val; omega)
  · exact Fin.ext (by show 0 + 1 * e.val = e.val; omega)

theorem in2_5 (e : Fin 128) : (Rect.unit ![0, 0] ![8, 128] inb_S8x128_S8x128_0_0 : Rect S8x128).idx (ix2 5 e) ∈ (Rect.unit ![5, 0] ![1, 128] inb_S8x128_S1x128_5_0 : Rect S8x128).set := by
  rw [whole2, ← row2_5]
  exact LoadRect.idx_mem _ _

theorem in3_5 (x : Fin 256) (e : Fin 128) : (Rect.unit ![0, 0, 0] ![8, 256, 128] inb_S8x256x128_S8x256x128_0_0_0 : Rect S8x256x128).idx (ix3 5 x e) ∈ (Rect.unit ![5, 0, 0] ![1, 256, 128] inb_S8x256x128_S1x256x128_5_0_0 : Rect S8x256x128).set := by
  rw [whole3, ← row3_5]
  exact LoadRect.idx_mem _ _

theorem row2_6 (e : Fin 128) : (Rect.unit ![6, 0] ![1, 128] inb_S8x128_S1x128_6_0 : Rect S8x128).idx (ix2 0 e) = ix2 6 e := by
  funext a; fin_cases a
  · rfl
  · exact Fin.ext (by show 0 + 1 * e.val = e.val; omega)

theorem row3_6 (x : Fin 256) (e : Fin 128) : (Rect.unit ![6, 0, 0] ![1, 256, 128] inb_S8x256x128_S1x256x128_6_0_0 : Rect S8x256x128).idx (ix3 0 x e) = ix3 6 x e := by
  funext a; fin_cases a
  · rfl
  · exact Fin.ext (by show 0 + 1 * x.val = x.val; omega)
  · exact Fin.ext (by show 0 + 1 * e.val = e.val; omega)

theorem in2_6 (e : Fin 128) : (Rect.unit ![0, 0] ![8, 128] inb_S8x128_S8x128_0_0 : Rect S8x128).idx (ix2 6 e) ∈ (Rect.unit ![6, 0] ![1, 128] inb_S8x128_S1x128_6_0 : Rect S8x128).set := by
  rw [whole2, ← row2_6]
  exact LoadRect.idx_mem _ _

theorem in3_6 (x : Fin 256) (e : Fin 128) : (Rect.unit ![0, 0, 0] ![8, 256, 128] inb_S8x256x128_S8x256x128_0_0_0 : Rect S8x256x128).idx (ix3 6 x e) ∈ (Rect.unit ![6, 0, 0] ![1, 256, 128] inb_S8x256x128_S1x256x128_6_0_0 : Rect S8x256x128).set := by
  rw [whole3, ← row3_6]
  exact LoadRect.idx_mem _ _

theorem row2_7 (e : Fin 128) : (Rect.unit ![7, 0] ![1, 128] inb_S8x128_S1x128_7_0 : Rect S8x128).idx (ix2 0 e) = ix2 7 e := by
  funext a; fin_cases a
  · rfl
  · exact Fin.ext (by show 0 + 1 * e.val = e.val; omega)

theorem row3_7 (x : Fin 256) (e : Fin 128) : (Rect.unit ![7, 0, 0] ![1, 256, 128] inb_S8x256x128_S1x256x128_7_0_0 : Rect S8x256x128).idx (ix3 0 x e) = ix3 7 x e := by
  funext a; fin_cases a
  · rfl
  · exact Fin.ext (by show 0 + 1 * x.val = x.val; omega)
  · exact Fin.ext (by show 0 + 1 * e.val = e.val; omega)

theorem in2_7 (e : Fin 128) : (Rect.unit ![0, 0] ![8, 128] inb_S8x128_S8x128_0_0 : Rect S8x128).idx (ix2 7 e) ∈ (Rect.unit ![7, 0] ![1, 128] inb_S8x128_S1x128_7_0 : Rect S8x128).set := by
  rw [whole2, ← row2_7]
  exact LoadRect.idx_mem _ _

theorem in3_7 (x : Fin 256) (e : Fin 128) : (Rect.unit ![0, 0, 0] ![8, 256, 128] inb_S8x256x128_S8x256x128_0_0_0 : Rect S8x256x128).idx (ix3 7 x e) ∈ (Rect.unit ![7, 0, 0] ![1, 256, 128] inb_S8x256x128_S1x256x128_7_0_0 : Rect S8x256x128).set := by
  rw [whole3, ← row3_7]
  exact LoadRect.idx_mem _ _

end Cert.MlsIdeal.Acc
-- ==== Proof.Mls.Gain.lean ====
/- The gated read-out of each head, over the extended reals. -/
module

public import proofs.«01_k».proof.Proof.Mls.Head

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

/-- A gated value. -/
def gt (h w o : EReal) : EReal := h * w * Ideal.div 1 (1 + Ideal.exp (0 - o))

variable {H : Hd 64} (nw : FVec Ideal S1x2048 .f32) (hk y0 y1 y2 y3 y4 y5 y6 : FVec Ideal S64x256 .f32) (xo : FVec Ideal S8x256 .f32)

theorem y_0 (hh : ∀ t x, hk (ix2 t x) = H.h t x) (r : Fin 8) (x : Fin 256) :
    k0_pay261 (F := Ideal) (k0_pay259 nw hk) xo k0_pay260 (ix2 ⟨r.val, by omega⟩ x) = gt (H.hn ⟨r.val, by omega⟩ x) (nw (ix2 0 ⟨0 + x.val, by omega⟩)) (xo (ix2 r x)) := by
  pointwise [k0_pay261, k0_pay259, k0_pay260]
  simp only [hh, gt, Hd.hn]

theorem out_0 (r : Fin 8) (x : Fin 256) (d : Fin 2048) (hd : d.val = 0 + x.val) :
    k0_pay296 (F := Ideal) nw hk y0 y1 y2 y3 y4 y5 y6 xo (ix2 r d) = y0 (ix2 ⟨r.val, by omega⟩ x) := by
  pointwise [k0_pay296]
  rw [dif_pos (by omega)]
  blk_ext []

theorem y_1 (hh : ∀ t x, hk (ix2 t x) = H.h t x) (r : Fin 8) (x : Fin 256) :
    k0_pay266 (F := Ideal) (k0_pay265 nw hk) xo (ix2 ⟨r.val, by omega⟩ x) = gt (H.hn ⟨r.val, by omega⟩ x) (nw (ix2 0 ⟨256 + x.val, by omega⟩)) (xo (ix2 r x)) := by
  pointwise [k0_pay266, k0_pay265]
  simp only [hh, gt, Hd.hn]

theorem out_1 (r : Fin 8) (x : Fin 256) (d : Fin 2048) (hd : d.val = 256 + x.val) :
    k0_pay296 (F := Ideal) nw hk y0 y1 y2 y3 y4 y5 y6 xo (ix2 r d) = y1 (ix2 ⟨r.val, by omega⟩ x) := by
  pointwise [k0_pay296]
  rw [dif_neg (by omega)]
  rw [dif_pos (by omega)]
  blk_ext []

theorem y_2 (hh : ∀ t x, hk (ix2 t x) = H.h t x) (r : Fin 8) (x : Fin 256) :
    k0_pay271 (F := Ideal) nw hk (k0_pay270 hk) xo (ix2 ⟨r.val, by omega⟩ x) = gt (H.hn ⟨r.val, by omega⟩ x) (nw (ix2 0 ⟨512 + x.val, by omega⟩)) (xo (ix2 r x)) := by
  pointwise [k0_pay271, k0_pay270]
  simp only [hh, gt, Hd.hn]

theorem out_2 (r : Fin 8) (x : Fin 256) (d : Fin 2048) (hd : d.val = 512 + x.val) :
    k0_pay296 (F := Ideal) nw hk y0 y1 y2 y3 y4 y5 y6 xo (ix2 r d) = y2 (ix2 ⟨r.val, by omega⟩ x) := by
  pointwise [k0_pay296]
  rw [dif_neg (by omega)]
  rw [dif_neg (by omega)]
  rw [dif_pos (by omega)]
  blk_ext []

theorem y_3 (hh : ∀ t x, hk (ix2 t x) = H.h t x) (r : Fin 8) (x : Fin 256) :
    k0_pay277 (F := Ideal) nw hk (k0_pay275 hk) k0_pay276 xo (ix2 ⟨r.val, by omega⟩ x) = gt (H.hn ⟨r.val, by omega⟩ x) (nw (ix2 0 ⟨768 + x.val, by omega⟩)) (xo (ix2 r x)) := by
  pointwise [k0_pay277, k0_pay275, k0_pay276]
  simp only [hh, gt, Hd.hn]

theorem out_3 (r : Fin 8) (x : Fin 256) (d : Fin 2048) (hd : d.val = 768 + x.val) :
    k0_pay296 (F := Ideal) nw hk y0 y1 y2 y3 y4 y5 y6 xo (ix2 r d) = y3 (ix2 ⟨r.val, by omega⟩ x) := by
  pointwise [k0_pay296]
  rw [dif_neg (by omega)]
  rw [dif_neg (by omega)]
  rw [dif_neg (by omega)]
  rw [dif_pos (by omega)]
  blk_ext []

theorem y_4 (hh : ∀ t x, hk (ix2 t x) = H.h t x) (r : Fin 8) (x : Fin 256) :
    k0_pay282 (F := Ideal) nw hk (k0_pay281 hk) xo (ix2 ⟨r.val, by omega⟩ x) = gt (H.hn ⟨r.val, by omega⟩ x) (nw (ix2 0 ⟨1024 + x.val, by omega⟩)) (xo (ix2 r x)) := by
  pointwise [k0_pay282, k0_pay281]
  simp only [hh, gt, Hd.hn]

theorem out_4 (r : Fin 8) (x : Fin 256) (d : Fin 2048) (hd : d.val = 1024 + x.val) :
    k0_pay296 (F := Ideal) nw hk y0 y1 y2 y3 y4 y5 y6 xo (ix2 r d) = y4 (ix2 ⟨r.val, by omega⟩ x) := by
  pointwise [k0_pay296]
  rw [dif_neg (by omega)]
  rw [dif_neg (by omega)]
  rw [dif_neg (by omega)]
  rw [dif_neg (by omega)]
  rw [dif_pos (by omega)]
  blk_ext []

theorem y_5 (hh : ∀ t x, hk (ix2 t x) = H.h t x) (r : Fin 8) (x : Fin 256) :
    k0_pay287 (F := Ideal) nw hk xo (ix2 ⟨r.val, by omega⟩ x) = gt (H.hn ⟨r.val, by omega⟩ x) (nw (ix2 0 ⟨1280 + x.val, by omega⟩)) (xo (ix2 r x)) := by
  pointwise [k0_pay287]
  simp only [hh, gt, Hd.hn]

theorem out_5 (r : Fin 8) (x : Fin 256) (d : Fin 2048) (hd : d.val = 1280 + x.val) :
    k0_pay296 (F := Ideal) nw hk y0 y1 y2 y3 y4 y5 y6 xo (ix2 r d) = y5 (ix2 ⟨r.val, by omega⟩ x) := by
  pointwise [k0_pay296]
  rw [dif_neg (by omega)]
  rw [dif_neg (by omega)]
  rw [dif_neg (by omega)]
  rw [dif_neg (by omega)]
  rw [dif_neg (by omega)]
  rw [dif_pos (by omega)]
  blk_ext []

theorem y_6 (hh : ∀ t x, hk (ix2 t x) = H.h t x) (r : Fin 8) (x : Fin 256) :
    k0_pay291 (F := Ideal) nw hk xo (ix2 ⟨r.val, by omega⟩ x) = gt (H.hn ⟨r.val, by omega⟩ x) (nw (ix2 0 ⟨1536 + x.val, by omega⟩)) (xo (ix2 r x)) := by
  pointwise [k0_pay291]
  simp only [hh, gt, Hd.hn]

theorem out_6 (r : Fin 8) (x : Fin 256) (d : Fin 2048) (hd : d.val = 1536 + x.val) :
    k0_pay296 (F := Ideal) nw hk y0 y1 y2 y3 y4 y5 y6 xo (ix2 r d) = y6 (ix2 ⟨r.val, by omega⟩ x) := by
  pointwise [k0_pay296]
  rw [dif_neg (by omega)]
  rw [dif_neg (by omega)]
  rw [dif_neg (by omega)]
  rw [dif_neg (by omega)]
  rw [dif_neg (by omega)]
  rw [dif_neg (by omega)]
  rw [dif_pos (by omega)]
  blk_ext []

theorem out_7 (hh : ∀ t x, hk (ix2 t x) = H.h t x) (r : Fin 8) (x : Fin 256) (d : Fin 2048) (hd : d.val = 1792 + x.val) :
    k0_pay296 (F := Ideal) nw hk y0 y1 y2 y3 y4 y5 y6 xo (ix2 r d) = gt (H.hn ⟨r.val, by omega⟩ x) (nw (ix2 0 ⟨1792 + x.val, by omega⟩)) (xo (ix2 r x)) := by
  obtain ⟨x, hx⟩ := x
  obtain ⟨d, hd'⟩ := d
  obtain rfl : d = 1792 + x := hd
  pointwise [k0_pay296]
  rw [dif_neg (by omega)]
  rw [dif_neg (by omega)]
  rw [dif_neg (by omega)]
  rw [dif_neg (by omega)]
  rw [dif_neg (by omega)]
  rw [dif_neg (by omega)]
  rw [dif_neg (by omega)]
  have e : 1792 + x - 256 - 256 - 256 - 256 - 256 - 256 - 256 = x := by omega
  simp only [hh, gt, Hd.hn, e]

end Cert.MlsIdeal.Acc
-- ==== Proof.Mls.Acc10.lean ====
/- What a step of the chunk kernel leaves in one of its blocks, over the extended reals. -/
module

public import proofs.«01_k».proof.Proof.Mls.Acc
public import proofs.«01_k».proof.Proof.Mls.Gain
public import proofs.«01_k».proof.Proof.Mls.Gain
public import proofs.«01_k».proof.Proof.Mls.Gain
public import proofs.«01_k».proof.Proof.Mls.Gain
public import proofs.«01_k».proof.Proof.Mls.Gain

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

variable (m : (ℓ : Loc nD τ sig) → Buf (Elt Ideal) ℓ)

theorem ld_o0 (x3 : FVec Ideal S8x2048 .f32) (r : Fin 8) (x : Fin 256) :
    View.ld (Val := Elt Ideal) (e' := .f32) (S := S8x2048) x3 (Rect.unit ![0, 0] ![8, 256] inb_S8x2048_S8x256_0_0) (ix2 r x) = x3 (ix2 r ⟨0 + x.val, by omega⟩) := by
  refine congrArg x3 ?_
  funext a; fin_cases a
  · exact Fin.ext (by show 0 + 1 * r.val = r.val; omega)
  · exact Fin.ext (by show 0 + 1 * x.val = 0 + x.val; omega)

theorem ld_o1 (x3 : FVec Ideal S8x2048 .f32) (r : Fin 8) (x : Fin 256) :
    View.ld (Val := Elt Ideal) (e' := .f32) (S := S8x2048) x3 (Rect.unit ![0, 256] ![8, 256] inb_S8x2048_S8x256_0_256) (ix2 r x) = x3 (ix2 r ⟨256 + x.val, by omega⟩) := by
  refine congrArg x3 ?_
  funext a; fin_cases a
  · exact Fin.ext (by show 0 + 1 * r.val = r.val; omega)
  · exact Fin.ext (by show 256 + 1 * x.val = 256 + x.val; omega)

theorem ld_o2 (x3 : FVec Ideal S8x2048 .f32) (r : Fin 8) (x : Fin 256) :
    View.ld (Val := Elt Ideal) (e' := .f32) (S := S8x2048) x3 (Rect.unit ![0, 512] ![8, 256] inb_S8x2048_S8x256_0_512) (ix2 r x) = x3 (ix2 r ⟨512 + x.val, by omega⟩) := by
  refine congrArg x3 ?_
  funext a; fin_cases a
  · exact Fin.ext (by show 0 + 1 * r.val = r.val; omega)
  · exact Fin.ext (by show 512 + 1 * x.val = 512 + x.val; omega)

theorem ld_o3 (x3 : FVec Ideal S8x2048 .f32) (r : Fin 8) (x : Fin 256) :
    View.ld (Val := Elt Ideal) (e' := .f32) (S := S8x2048) x3 (Rect.unit ![0, 768] ![8, 256] inb_S8x2048_S8x256_0_768) (ix2 r x) = x3 (ix2 r ⟨768 + x.val, by omega⟩) := by
  refine congrArg x3 ?_
  funext a; fin_cases a
  · exact Fin.ext (by show 0 + 1 * r.val = r.val; omega)
  · exact Fin.ext (by show 768 + 1 * x.val = 768 + x.val; omega)

theorem ld_o4 (x3 : FVec Ideal S8x2048 .f32) (r : Fin 8) (x : Fin 256) :
    View.ld (Val := Elt Ideal) (e' := .f32) (S := S8x2048) x3 (Rect.unit ![0, 1024] ![8, 256] inb_S8x2048_S8x256_0_1024) (ix2 r x) = x3 (ix2 r ⟨1024 + x.val, by omega⟩) := by
  refine congrArg x3 ?_
  funext a; fin_cases a
  · exact Fin.ext (by show 0 + 1 * r.val = r.val; omega)
  · exact Fin.ext (by show 1024 + 1 * x.val = 1024 + x.val; omega)

theorem ld_o5 (x3 : FVec Ideal S8x2048 .f32) (r : Fin 8) (x : Fin 256) :
    View.ld (Val := Elt Ideal) (e' := .f32) (S := S8x2048) x3 (Rect.unit ![0, 1280] ![8, 256] inb_S8x2048_S8x256_0_1280) (ix2 r x) = x3 (ix2 r ⟨1280 + x.val, by omega⟩) := by
  refine congrArg x3 ?_
  funext a; fin_cases a
  · exact Fin.ext (by show 0 + 1 * r.val = r.val; omega)
  · exact Fin.ext (by show 1280 + 1 * x.val = 1280 + x.val; omega)

theorem ld_o6 (x3 : FVec Ideal S8x2048 .f32) (r : Fin 8) (x : Fin 256) :
    View.ld (Val := Elt Ideal) (e' := .f32) (S := S8x2048) x3 (Rect.unit ![0, 1536] ![8, 256] inb_S8x2048_S8x256_0_1536) (ix2 r x) = x3 (ix2 r ⟨1536 + x.val, by omega⟩) := by
  refine congrArg x3 ?_
  funext a; fin_cases a
  · exact Fin.ext (by show 0 + 1 * r.val = r.val; omega)
  · exact Fin.ext (by show 1536 + 1 * x.val = 1536 + x.val; omega)

theorem ld_o7 (x3 : FVec Ideal S8x2048 .f32) (r : Fin 8) (x : Fin 256) :
    View.ld (Val := Elt Ideal) (e' := .f32) (S := S8x2048) x3 (Rect.unit ![0, 1792] ![8, 256] inb_S8x2048_S8x256_0_1792) (ix2 r x) = x3 (ix2 r ⟨1792 + x.val, by omega⟩) := by
  refine congrArg x3 ?_
  funext a; fin_cases a
  · exact Fin.ext (by show 0 + 1 * r.val = r.val; omega)
  · exact Fin.ext (by show 1792 + 1 * x.val = 1792 + x.val; omega)

theorem gt_congr {a a' b b' c c' : EReal} (h1 : a = a') (h2 : b = b') (h3 : c = c') : gt a b c = gt a' b' c' := by
  rw [h1, h2, h3]

set_option maxHeartbeats 4000000 in
theorem case10 (c : Dev nD) (t : Fin cfg0.N) (k : Fin 8) (r : Fin 8) (x : Fin 256) (d : Fin 2048) (hd : d.val = 256 * k.val + x.val) :
    (outsAt0 m c t).1 (ix2 r d) = gt ((pad (KB m c t k)).hn ⟨r.val, by omega⟩ x) (iblk m c 6 t (ix2 0 d)) (X0_3 m c t (ix2 r d)) := by
  unfold outsAt0
  frame_open
  simp (disch := decide) only [↓ View.readCov_skip, ↓ View.readCov_cons_toLoadRect, ↓ View.readCov_fill]
  frame_out
  match k, hd with
  | 0, hd =>
    obtain ⟨d, hd'⟩ := d
    obtain rfl : d = 0 + x.val := hd
    simp only [same1, same2, same3, same4, same5, same6, same7, same8, same9, same10, same11, same12, same13, same14, same15, same16, same17, same18, same19, same20]
    refine (out_0 _ _ _ _ _ _ _ _ _ _ r x _ rfl).trans ?_
    refine (y_0 _ _ _ (h_at (ok0 (iblk m c 5 t) (iblk m c 4 t) (grid0.coords t) (X0_0 m c t) (X0_1 m c t) (X0_2 m c t) (iblk m c 7 t) (iblk m c 8 t) (iblk m c 9 t))) r x).trans ?_
    refine gt_congr rfl ?_ ?_
    · pointwise [k0_pay6]
    · exact ld_o0 (X0_3 m c t) r x
  | 1, hd =>
    obtain ⟨d, hd'⟩ := d
    obtain rfl : d = 256 + x.val := hd
    refine (out_1 _ _ _ _ _ _ _ _ _ _ r x _ rfl).trans ?_
    refine (y_1 _ _ _ (h_at (ok1 (iblk m c 5 t) (iblk m c 4 t) (grid0.coords t) (X0_0 m c t) (X0_1 m c t) (X0_2 m c t) (iblk m c 7 t) (iblk m c 8 t) (iblk m c 9 t))) r x).trans ?_
    refine gt_congr rfl ?_ ?_
    · pointwise [k0_pay6]
    · exact ld_o1 (X0_3 m c t) r x
  | 2, hd =>
    obtain ⟨d, hd'⟩ := d
    obtain rfl : d = 512 + x.val := hd
    simp only [same21, same22, same23, same24, same25, same26, same27, same28, same29, same30, same31, same32, same33, same34, same35, same36, same37, same38, same39, same40]
    refine (out_2 _ _ _ _ _ _ _ _ _ _ r x _ rfl).trans ?_
    refine (y_2 _ _ _ (h_at (ok2 (iblk m c 5 t) (iblk m c 4 t) (grid0.coords t) (X0_0 m c t) (X0_1 m c t) (X0_2 m c t) (iblk m c 7 t) (iblk m c 8 t) (iblk m c 9 t))) r x).trans ?_
    refine gt_congr rfl ?_ ?_
    · pointwise [k0_pay6]
    · exact ld_o2 (X0_3 m c t) r x
  | 3, hd =>
    obtain ⟨d, hd'⟩ := d
    obtain rfl : d = 768 + x.val := hd
    simp only [same41, same42, same43, same44, same45, same46, same47, same48, same49, same50, same51, same52, same53, same54, same55, same56, same57, same58, same59, same60]
    refine (out_3 _ _ _ _ _ _ _ _ _ _ r x _ rfl).trans ?_
    refine (y_3 _ _ _ (h_at (ok3 (iblk m c 5 t) (iblk m c 4 t) (grid0.coords t) (X0_0 m c t) (X0_1 m c t) (X0_2 m c t) (iblk m c 7 t) (iblk m c 8 t) (iblk m c 9 t))) r x).trans ?_
    refine gt_congr rfl ?_ ?_
    · pointwise [k0_pay6]
    · exact ld_o3 (X0_3 m c t) r x
  | 4, hd =>
    obtain ⟨d, hd'⟩ := d
    obtain rfl : d = 1024 + x.val := hd
    simp only [same61, same62, same63, same64, same65, same66, same67, same68, same69, same70, same71, same72, same73, same74, same75, same76, same77, same78, same79, same80]
    refine (out_4 _ _ _ _ _ _ _ _ _ _ r x _ rfl).trans ?_
    refine (y_4 _ _ _ (h_at (ok4 (iblk m c 5 t) (iblk m c 4 t) (grid0.coords t) (X0_0 m c t) (X0_1 m c t) (X0_2 m c t) (iblk m c 7 t) (iblk m c 8 t) (iblk m c 9 t))) r x).trans ?_
    refine gt_congr rfl ?_ ?_
    · pointwise [k0_pay6]
    · exact ld_o4 (X0_3 m c t) r x
  | 5, hd =>
    obtain ⟨d, hd'⟩ := d
    obtain rfl : d = 1280 + x.val := hd
    simp only [same81, same82, same83, same84, same85, same86, same87, same88, same89, same90, same91, same92, same93, same94, same95, same96, same97, same98, same99, same100]
    refine (out_5 _ _ _ _ _ _ _ _ _ _ r x _ rfl).trans ?_
    refine (y_5 _ _ _ (h_at (ok5 (iblk m c 5 t) (iblk m c 4 t) (grid0.coords t) (X0_0 m c t) (X0_1 m c t) (X0_2 m c t) (iblk m c 7 t) (iblk m c 8 t) (iblk m c 9 t))) r x).trans ?_
    refine gt_congr rfl ?_ ?_
    · pointwise [k0_pay6]
    · exact ld_o5 (X0_3 m c t) r x
  | 6, hd =>
    obtain ⟨d, hd'⟩ := d
    obtain rfl : d = 1536 + x.val := hd
    simp only [same101, same102, same103, same104, same105, same106, same107, same108, same109, same110, same111, same112, same113, same114, same115, same116, same117, same118, same119, same120]
    refine (out_6 _ _ _ _ _ _ _ _ _ _ r x _ rfl).trans ?_
    refine (y_6 _ _ _ (h_at (ok6 (iblk m c 5 t) (iblk m c 4 t) (grid0.coords t) (X0_0 m c t) (X0_1 m c t) (X0_2 m c t) (iblk m c 7 t) (iblk m c 8 t) (iblk m c 9 t))) r x).trans ?_
    refine gt_congr rfl ?_ ?_
    · pointwise [k0_pay6]
    · exact ld_o6 (X0_3 m c t) r x
  | 7, hd =>
    obtain ⟨d, hd'⟩ := d
    obtain rfl : d = 1792 + x.val := hd
    simp only [same121, same122, same123, same124, same125, same126, same127, same128, same129, same130, same131, same132, same133, same134, same135, same136, same137, same138, same139, same140]
    refine (out_7 _ _ _ _ _ _ _ _ _ _ (h_at (ok7 (iblk m c 5 t) (iblk m c 4 t) (grid0.coords t) (X0_0 m c t) (X0_1 m c t) (X0_2 m c t) (iblk m c 7 t) (iblk m c 8 t) (iblk m c 9 t))) r x _ rfl).trans ?_
    refine gt_congr rfl ?_ ?_
    · pointwise [k0_pay6]
    · exact ld_o7 (X0_3 m c t) r x

end Cert.MlsIdeal.Acc
-- ==== Proof.Mls.Acc11.lean ====
/- What a step of the chunk kernel leaves in one of its blocks, over the extended reals. -/
module

public import proofs.«01_k».proof.Proof.Mls.Acc

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

variable (m : (ℓ : Loc nD τ sig) → Buf (Elt Ideal) ℓ)

theorem G11_0 (c : Dev nD) (t : Fin cfg0.N) (x : Fin 256) (e : Fin 128) : (pad (HB (iblk m c 5 t) (iblk m c 4 t) (X0_0 m c t) (X0_1 m c t) (X0_2 m c t) (iblk m c 7 t) (iblk m c 8 t) (iblk m c 9 t) 0)).C' 63 x e = (fun y : S8x256x128.Idx => (pad (KB m c t (y 0))).C' 63 (y 1) (y 2)) ((Rect.unit ![0, 0, 0] ![1, 256, 128] inb_S8x256x128_S1x256x128_0_0_0 : Rect S8x256x128).idx (ix3 0 x e)) := by
  rw [row3_0]
  rfl

theorem G11_1 (c : Dev nD) (t : Fin cfg0.N) (x : Fin 256) (e : Fin 128) : (pad (HB (iblk m c 5 t) (iblk m c 4 t) (X0_0 m c t) (X0_1 m c t) (X0_2 m c t) (iblk m c 7 t) (iblk m c 8 t) (iblk m c 9 t) 1)).C' 63 x e = (fun y : S8x256x128.Idx => (pad (KB m c t (y 0))).C' 63 (y 1) (y 2)) ((Rect.unit ![1, 0, 0] ![1, 256, 128] inb_S8x256x128_S1x256x128_1_0_0 : Rect S8x256x128).idx (ix3 0 x e)) := by
  rw [row3_1]
  rfl

theorem G11_2 (c : Dev nD) (t : Fin cfg0.N) (x : Fin 256) (e : Fin 128) : (pad (HB (iblk m c 5 t) (iblk m c 4 t) (X0_0 m c t) (X0_1 m c t) (X0_2 m c t) (iblk m c 7 t) (iblk m c 8 t) (iblk m c 9 t) 2)).C' 63 x e = (fun y : S8x256x128.Idx => (pad (KB m c t (y 0))).C' 63 (y 1) (y 2)) ((Rect.unit ![2, 0, 0] ![1, 256, 128] inb_S8x256x128_S1x256x128_2_0_0 : Rect S8x256x128).idx (ix3 0 x e)) := by
  rw [row3_2]
  rfl

theorem G11_3 (c : Dev nD) (t : Fin cfg0.N) (x : Fin 256) (e : Fin 128) : (pad (HB (iblk m c 5 t) (iblk m c 4 t) (X0_0 m c t) (X0_1 m c t) (X0_2 m c t) (iblk m c 7 t) (iblk m c 8 t) (iblk m c 9 t) 3)).C' 63 x e = (fun y : S8x256x128.Idx => (pad (KB m c t (y 0))).C' 63 (y 1) (y 2)) ((Rect.unit ![3, 0, 0] ![1, 256, 128] inb_S8x256x128_S1x256x128_3_0_0 : Rect S8x256x128).idx (ix3 0 x e)) := by
  rw [row3_3]
  rfl

theorem G11_4 (c : Dev nD) (t : Fin cfg0.N) (x : Fin 256) (e : Fin 128) : (pad (HB (iblk m c 5 t) (iblk m c 4 t) (X0_0 m c t) (X0_1 m c t) (X0_2 m c t) (iblk m c 7 t) (iblk m c 8 t) (iblk m c 9 t) 4)).C' 63 x e = (fun y : S8x256x128.Idx => (pad (KB m c t (y 0))).C' 63 (y 1) (y 2)) ((Rect.unit ![4, 0, 0] ![1, 256, 128] inb_S8x256x128_S1x256x128_4_0_0 : Rect S8x256x128).idx (ix3 0 x e)) := by
  rw [row3_4]
  rfl

theorem G11_5 (c : Dev nD) (t : Fin cfg0.N) (x : Fin 256) (e : Fin 128) : (pad (HB (iblk m c 5 t) (iblk m c 4 t) (X0_0 m c t) (X0_1 m c t) (X0_2 m c t) (iblk m c 7 t) (iblk m c 8 t) (iblk m c 9 t) 5)).C' 63 x e = (fun y : S8x256x128.Idx => (pad (KB m c t (y 0))).C' 63 (y 1) (y 2)) ((Rect.unit ![5, 0, 0] ![1, 256, 128] inb_S8x256x128_S1x256x128_5_0_0 : Rect S8x256x128).idx (ix3 0 x e)) := by
  rw [row3_5]
  rfl

theorem G11_6 (c : Dev nD) (t : Fin cfg0.N) (x : Fin 256) (e : Fin 128) : (pad (HB (iblk m c 5 t) (iblk m c 4 t) (X0_0 m c t) (X0_1 m c t) (X0_2 m c t) (iblk m c 7 t) (iblk m c 8 t) (iblk m c 9 t) 6)).C' 63 x e = (fun y : S8x256x128.Idx => (pad (KB m c t (y 0))).C' 63 (y 1) (y 2)) ((Rect.unit ![6, 0, 0] ![1, 256, 128] inb_S8x256x128_S1x256x128_6_0_0 : Rect S8x256x128).idx (ix3 0 x e)) := by
  rw [row3_6]
  rfl

theorem G11_7 (c : Dev nD) (t : Fin cfg0.N) (x : Fin 256) (e : Fin 128) : (pad (HB (iblk m c 5 t) (iblk m c 4 t) (X0_0 m c t) (X0_1 m c t) (X0_2 m c t) (iblk m c 7 t) (iblk m c 8 t) (iblk m c 9 t) 7)).C' 63 x e = (fun y : S8x256x128.Idx => (pad (KB m c t (y 0))).C' 63 (y 1) (y 2)) ((Rect.unit ![7, 0, 0] ![1, 256, 128] inb_S8x256x128_S1x256x128_7_0_0 : Rect S8x256x128).idx (ix3 0 x e)) := by
  rw [row3_7]
  rfl

theorem W11 (c : Dev nD) (t : Fin cfg0.N) (h : Fin 8) (x : Fin 256) (e : Fin 128) : (fun y : S8x256x128.Idx => (pad (KB m c t (y 0))).C' 63 (y 1) (y 2)) ((Rect.unit ![0, 0, 0] ![8, 256, 128] inb_S8x256x128_S8x256x128_0_0_0 : Rect S8x256x128).idx (ix3 h x e)) = (pad (KB m c t h)).C' 63 x e := by
  rw [whole3]
  rfl

set_option maxHeartbeats 600000 in
theorem case11 (c : Dev nD) (t : Fin cfg0.N) (h : Fin 8) (x : Fin 256) (e : Fin 128) : (outsAt0 m c t).2.1 (ix4 0 h x e) = (pad (KB m c t h)).C' 63 x e := by
  unfold outsAt0
  frame_open
  simp (disch := decide) only [↓ View.readCov_skip, ↓ View.readCov_cons_toLoadRect, ↓ View.readCov_fill]
  frame_out
  pointwise [k0_pay297]
  rw [View.readCov_eq_canon']
  refine (View.canon_append_of_piecesOf (Val := Elt Ideal) (e := .f32) (s := S8x256x128) (fun y => (pad (KB m c t (y 0))).C' 63 (y 1) (y 2)) [_] [_,_,_,_,_,_,_,_] ?_ _ ?_).trans ?_
  refine ⟨?_, ?_, ?_, ?_, ?_, ?_, ?_, ?_, trivial⟩
  · intro z
    obtain ⟨a, x, e, rfl⟩ : ∃ (a : Fin 1) (x : Fin 256) (e : Fin 128), z = ix3 a x e := ⟨_, _, _, eq_ix3 (n0 := 1) (n1 := 256) (n2 := 128) z⟩
    obtain rfl : a = 0 := Subsingleton.elim _ _
    simp only [same121, same122, same123, same124, same125, same126, same127, same128, same129, same130, same131, same132, same133, same134, same135, same136, same137, same138, same139, same140]
    refine Eq.trans (C_at (ok7 (iblk m c 5 t) (iblk m c 4 t) (grid0.coords t) (X0_0 m c t) (X0_1 m c t) (X0_2 m c t) (iblk m c 7 t) (iblk m c 8 t) (iblk m c 9 t)) x e) ?_
    exact G11_7 m c t x e
  · intro z
    obtain ⟨a, x, e, rfl⟩ : ∃ (a : Fin 1) (x : Fin 256) (e : Fin 128), z = ix3 a x e := ⟨_, _, _, eq_ix3 (n0 := 1) (n1 := 256) (n2 := 128) z⟩
    obtain rfl : a = 0 := Subsingleton.elim _ _
    simp only [same101, same102, same103, same104, same105, same106, same107, same108, same109, same110, same111, same112, same113, same114, same115, same116, same117, same118, same119, same120]
    refine Eq.trans (C_at (ok6 (iblk m c 5 t) (iblk m c 4 t) (grid0.coords t) (X0_0 m c t) (X0_1 m c t) (X0_2 m c t) (iblk m c 7 t) (iblk m c 8 t) (iblk m c 9 t)) x e) ?_
    exact G11_6 m c t x e
  · intro z
    obtain ⟨a, x, e, rfl⟩ : ∃ (a : Fin 1) (x : Fin 256) (e : Fin 128), z = ix3 a x e := ⟨_, _, _, eq_ix3 (n0 := 1) (n1 := 256) (n2 := 128) z⟩
    obtain rfl : a = 0 := Subsingleton.elim _ _
    simp only [same81, same82, same83, same84, same85, same86, same87, same88, same89, same90, same91, same92, same93, same94, same95, same96, same97, same98, same99, same100]
    refine Eq.trans (C_at (ok5 (iblk m c 5 t) (iblk m c 4 t) (grid0.coords t) (X0_0 m c t) (X0_1 m c t) (X0_2 m c t) (iblk m c 7 t) (iblk m c 8 t) (iblk m c 9 t)) x e) ?_
    exact G11_5 m c t x e
  · intro z
    obtain ⟨a, x, e, rfl⟩ : ∃ (a : Fin 1) (x : Fin 256) (e : Fin 128), z = ix3 a x e := ⟨_, _, _, eq_ix3 (n0 := 1) (n1 := 256) (n2 := 128) z⟩
    obtain rfl : a = 0 := Subsingleton.elim _ _
    simp only [same61, same62, same63, same64, same65, same66, same67, same68, same69, same70, same71, same72, same73, same74, same75, same76, same77, same78, same79, same80]
    refine Eq.trans (C_at (ok4 (iblk m c 5 t) (iblk m c 4 t) (grid0.coords t) (X0_0 m c t) (X0_1 m c t) (X0_2 m c t) (iblk m c 7 t) (iblk m c 8 t) (iblk m c 9 t)) x e) ?_
    exact G11_4 m c t x e
  · intro z
    obtain ⟨a, x, e, rfl⟩ : ∃ (a : Fin 1) (x : Fin 256) (e : Fin 128), z = ix3 a x e := ⟨_, _, _, eq_ix3 (n0 := 1) (n1 := 256) (n2 := 128) z⟩
    obtain rfl : a = 0 := Subsingleton.elim _ _
    simp only [same41, same42, same43, same44, same45, same46, same47, same48, same49, same50, same51, same52, same53, same54, same55, same56, same57, same58, same59, same60]
    refine Eq.trans (C_at (ok3 (iblk m c 5 t) (iblk m c 4 t) (grid0.coords t) (X0_0 m c t) (X0_1 m c t) (X0_2 m c t) (iblk m c 7 t) (iblk m c 8 t) (iblk m c 9 t)) x e) ?_
    exact G11_3 m c t x e
  · intro z
    obtain ⟨a, x, e, rfl⟩ : ∃ (a : Fin 1) (x : Fin 256) (e : Fin 128), z = ix3 a x e := ⟨_, _, _, eq_ix3 (n0 := 1) (n1 := 256) (n2 := 128) z⟩
    obtain rfl : a = 0 := Subsingleton.elim _ _
    simp only [same21, same22, same23, same24, same25, same26, same27, same28, same29, same30, same31, same32, same33, same34, same35, same36, same37, same38, same39, same40]
    refine Eq.trans (C_at (ok2 (iblk m c 5 t) (iblk m c 4 t) (grid0.coords t) (X0_0 m c t) (X0_1 m c t) (X0_2 m c t) (iblk m c 7 t) (iblk m c 8 t) (iblk m c 9 t)) x e) ?_
    exact G11_2 m c t x e
  · intro z
    obtain ⟨a, x, e, rfl⟩ : ∃ (a : Fin 1) (x : Fin 256) (e : Fin 128), z = ix3 a x e := ⟨_, _, _, eq_ix3 (n0 := 1) (n1 := 256) (n2 := 128) z⟩
    obtain rfl : a = 0 := Subsingleton.elim _ _
    refine Eq.trans (C_at (ok1 (iblk m c 5 t) (iblk m c 4 t) (grid0.coords t) (X0_0 m c t) (X0_1 m c t) (X0_2 m c t) (iblk m c 7 t) (iblk m c 8 t) (iblk m c 9 t)) x e) ?_
    exact G11_1 m c t x e
  · intro z
    obtain ⟨a, x, e, rfl⟩ : ∃ (a : Fin 1) (x : Fin 256) (e : Fin 128), z = ix3 a x e := ⟨_, _, _, eq_ix3 (n0 := 1) (n1 := 256) (n2 := 128) z⟩
    obtain rfl : a = 0 := Subsingleton.elim _ _
    simp only [same1, same2, same3, same4, same5, same6, same7, same8, same9, same10, same11, same12, same13, same14, same15, same16, same17, same18, same19, same20]
    refine Eq.trans (C_at (ok0 (iblk m c 5 t) (iblk m c 4 t) (grid0.coords t) (X0_0 m c t) (X0_1 m c t) (X0_2 m c t) (iblk m c 7 t) (iblk m c 8 t) (iblk m c 9 t)) x e) ?_
    exact G11_0 m c t x e
  · match h with
    | 0 => exact ⟨_, .tail _ (.tail _ (.tail _ (.tail _ (.tail _ (.tail _ (.tail _ (.head _))))))), in3_0 x e⟩
    | 1 => exact ⟨_, .tail _ (.tail _ (.tail _ (.tail _ (.tail _ (.tail _ (.head _)))))), in3_1 x e⟩
    | 2 => exact ⟨_, .tail _ (.tail _ (.tail _ (.tail _ (.tail _ (.head _))))), in3_2 x e⟩
    | 3 => exact ⟨_, .tail _ (.tail _ (.tail _ (.tail _ (.head _)))), in3_3 x e⟩
    | 4 => exact ⟨_, .tail _ (.tail _ (.tail _ (.head _))), in3_4 x e⟩
    | 5 => exact ⟨_, .tail _ (.tail _ (.head _)), in3_5 x e⟩
    | 6 => exact ⟨_, .tail _ (.head _), in3_6 x e⟩
    | 7 => exact ⟨_, .head _, in3_7 x e⟩
  · exact W11 m c t h x e

end Cert.MlsIdeal.Acc
-- ==== Proof.Mls.Acc12.lean ====
/- What a step of the chunk kernel leaves in one of its blocks, over the extended reals. -/
module

public import proofs.«01_k».proof.Proof.Mls.Acc

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

variable (m : (ℓ : Loc nD τ sig) → Buf (Elt Ideal) ℓ)

theorem G12_0 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 0)).N' 63 e = (fun y : S8x128.Idx => (pad (KB m c t (y 0))).N' 63 (y 1)) ((Rect.unit ![0, 0] ![1, 128] inb_S8x128_S1x128_0_0 : Rect S8x128).idx (ix2 0 e)) := by
  rw [row2_0]
  rfl

theorem G12_1 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 1)).N' 63 e = (fun y : S8x128.Idx => (pad (KB m c t (y 0))).N' 63 (y 1)) ((Rect.unit ![1, 0] ![1, 128] inb_S8x128_S1x128_1_0 : Rect S8x128).idx (ix2 0 e)) := by
  rw [row2_1]
  rfl

theorem G12_2 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 2)).N' 63 e = (fun y : S8x128.Idx => (pad (KB m c t (y 0))).N' 63 (y 1)) ((Rect.unit ![2, 0] ![1, 128] inb_S8x128_S1x128_2_0 : Rect S8x128).idx (ix2 0 e)) := by
  rw [row2_2]
  rfl

theorem G12_3 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 3)).N' 63 e = (fun y : S8x128.Idx => (pad (KB m c t (y 0))).N' 63 (y 1)) ((Rect.unit ![3, 0] ![1, 128] inb_S8x128_S1x128_3_0 : Rect S8x128).idx (ix2 0 e)) := by
  rw [row2_3]
  rfl

theorem G12_4 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 4)).N' 63 e = (fun y : S8x128.Idx => (pad (KB m c t (y 0))).N' 63 (y 1)) ((Rect.unit ![4, 0] ![1, 128] inb_S8x128_S1x128_4_0 : Rect S8x128).idx (ix2 0 e)) := by
  rw [row2_4]
  rfl

theorem G12_5 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 5)).N' 63 e = (fun y : S8x128.Idx => (pad (KB m c t (y 0))).N' 63 (y 1)) ((Rect.unit ![5, 0] ![1, 128] inb_S8x128_S1x128_5_0 : Rect S8x128).idx (ix2 0 e)) := by
  rw [row2_5]
  rfl

theorem G12_6 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 6)).N' 63 e = (fun y : S8x128.Idx => (pad (KB m c t (y 0))).N' 63 (y 1)) ((Rect.unit ![6, 0] ![1, 128] inb_S8x128_S1x128_6_0 : Rect S8x128).idx (ix2 0 e)) := by
  rw [row2_6]
  rfl

theorem G12_7 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 7)).N' 63 e = (fun y : S8x128.Idx => (pad (KB m c t (y 0))).N' 63 (y 1)) ((Rect.unit ![7, 0] ![1, 128] inb_S8x128_S1x128_7_0 : Rect S8x128).idx (ix2 0 e)) := by
  rw [row2_7]
  rfl

theorem W12 (c : Dev nD) (t : Fin cfg0.N) (h : Fin 8) (e : Fin 128) : (fun y : S8x128.Idx => (pad (KB m c t (y 0))).N' 63 (y 1)) ((Rect.unit ![0, 0] ![8, 128] inb_S8x128_S8x128_0_0 : Rect S8x128).idx (ix2 h e)) = (pad (KB m c t h)).N' 63 e := by
  rw [whole2]
  rfl

set_option maxHeartbeats 600000 in
theorem case12 (c : Dev nD) (t : Fin cfg0.N) (h : Fin 8) (e : Fin 128) : (outsAt0 m c t).2.2.1 (ix3 0 h e) = (pad (KB m c t h)).N' 63 e := by
  unfold outsAt0
  frame_open
  simp (disch := decide) only [↓ View.readCov_skip, ↓ View.readCov_cons_toLoadRect, ↓ View.readCov_fill]
  frame_out
  pointwise [k0_pay298]
  rw [View.readCov_eq_canon']
  refine (View.canon_append_of_piecesOf (Val := Elt Ideal) (e := .f32) (s := S8x128) (fun y => (pad (KB m c t (y 0))).N' 63 (y 1)) [_] [_,_,_,_,_,_,_,_] ?_ _ ?_).trans ?_
  refine ⟨?_, ?_, ?_, ?_, ?_, ?_, ?_, ?_, trivial⟩
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same121, same122, same123, same124, same125, same126, same127, same128, same129, same130, same131, same132, same133, same134, same135, same136, same137, same138, same139, same140]
    refine Eq.trans (N_at (ok7 (iblk m c 5 t) (iblk m c 4 t) (grid0.coords t) (X0_0 m c t) (X0_1 m c t) (X0_2 m c t) (iblk m c 7 t) (iblk m c 8 t) (iblk m c 9 t)) e) ?_
    exact G12_7 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same101, same102, same103, same104, same105, same106, same107, same108, same109, same110, same111, same112, same113, same114, same115, same116, same117, same118, same119, same120]
    refine Eq.trans (N_at (ok6 (iblk m c 5 t) (iblk m c 4 t) (grid0.coords t) (X0_0 m c t) (X0_1 m c t) (X0_2 m c t) (iblk m c 7 t) (iblk m c 8 t) (iblk m c 9 t)) e) ?_
    exact G12_6 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same81, same82, same83, same84, same85, same86, same87, same88, same89, same90, same91, same92, same93, same94, same95, same96, same97, same98, same99, same100]
    refine Eq.trans (N_at (ok5 (iblk m c 5 t) (iblk m c 4 t) (grid0.coords t) (X0_0 m c t) (X0_1 m c t) (X0_2 m c t) (iblk m c 7 t) (iblk m c 8 t) (iblk m c 9 t)) e) ?_
    exact G12_5 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same61, same62, same63, same64, same65, same66, same67, same68, same69, same70, same71, same72, same73, same74, same75, same76, same77, same78, same79, same80]
    refine Eq.trans (N_at (ok4 (iblk m c 5 t) (iblk m c 4 t) (grid0.coords t) (X0_0 m c t) (X0_1 m c t) (X0_2 m c t) (iblk m c 7 t) (iblk m c 8 t) (iblk m c 9 t)) e) ?_
    exact G12_4 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same41, same42, same43, same44, same45, same46, same47, same48, same49, same50, same51, same52, same53, same54, same55, same56, same57, same58, same59, same60]
    refine Eq.trans (N_at (ok3 (iblk m c 5 t) (iblk m c 4 t) (grid0.coords t) (X0_0 m c t) (X0_1 m c t) (X0_2 m c t) (iblk m c 7 t) (iblk m c 8 t) (iblk m c 9 t)) e) ?_
    exact G12_3 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same21, same22, same23, same24, same25, same26, same27, same28, same29, same30, same31, same32, same33, same34, same35, same36, same37, same38, same39, same40]
    refine Eq.trans (N_at (ok2 (iblk m c 5 t) (iblk m c 4 t) (grid0.coords t) (X0_0 m c t) (X0_1 m c t) (X0_2 m c t) (iblk m c 7 t) (iblk m c 8 t) (iblk m c 9 t)) e) ?_
    exact G12_2 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    refine Eq.trans (N_at (ok1 (iblk m c 5 t) (iblk m c 4 t) (grid0.coords t) (X0_0 m c t) (X0_1 m c t) (X0_2 m c t) (iblk m c 7 t) (iblk m c 8 t) (iblk m c 9 t)) e) ?_
    exact G12_1 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same1, same2, same3, same4, same5, same6, same7, same8, same9, same10, same11, same12, same13, same14, same15, same16, same17, same18, same19, same20]
    refine Eq.trans (N_at (ok0 (iblk m c 5 t) (iblk m c 4 t) (grid0.coords t) (X0_0 m c t) (X0_1 m c t) (X0_2 m c t) (iblk m c 7 t) (iblk m c 8 t) (iblk m c 9 t)) e) ?_
    exact G12_0 m c t e
  · match h with
    | 0 => exact ⟨_, .tail _ (.tail _ (.tail _ (.tail _ (.tail _ (.tail _ (.tail _ (.head _))))))), in2_0 e⟩
    | 1 => exact ⟨_, .tail _ (.tail _ (.tail _ (.tail _ (.tail _ (.tail _ (.head _)))))), in2_1 e⟩
    | 2 => exact ⟨_, .tail _ (.tail _ (.tail _ (.tail _ (.tail _ (.head _))))), in2_2 e⟩
    | 3 => exact ⟨_, .tail _ (.tail _ (.tail _ (.tail _ (.head _)))), in2_3 e⟩
    | 4 => exact ⟨_, .tail _ (.tail _ (.tail _ (.head _))), in2_4 e⟩
    | 5 => exact ⟨_, .tail _ (.tail _ (.head _)), in2_5 e⟩
    | 6 => exact ⟨_, .tail _ (.head _), in2_6 e⟩
    | 7 => exact ⟨_, .head _, in2_7 e⟩
  · exact W12 m c t h e

end Cert.MlsIdeal.Acc
-- ==== Proof.Mls.Acc13.lean ====
/- What a step of the chunk kernel leaves in one of its blocks, over the extended reals. -/
module

public import proofs.«01_k».proof.Proof.Mls.Acc

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

variable (m : (ℓ : Loc nD τ sig) → Buf (Elt Ideal) ℓ)

theorem G13_0 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 0)).mt 63 = (fun y : S8x128.Idx => (pad (KB m c t (y 0))).mt 63) ((Rect.unit ![0, 0] ![1, 128] inb_S8x128_S1x128_0_0 : Rect S8x128).idx (ix2 0 e)) := by
  rw [row2_0]
  rfl

theorem G13_1 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 1)).mt 63 = (fun y : S8x128.Idx => (pad (KB m c t (y 0))).mt 63) ((Rect.unit ![1, 0] ![1, 128] inb_S8x128_S1x128_1_0 : Rect S8x128).idx (ix2 0 e)) := by
  rw [row2_1]
  rfl

theorem G13_2 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 2)).mt 63 = (fun y : S8x128.Idx => (pad (KB m c t (y 0))).mt 63) ((Rect.unit ![2, 0] ![1, 128] inb_S8x128_S1x128_2_0 : Rect S8x128).idx (ix2 0 e)) := by
  rw [row2_2]
  rfl

theorem G13_3 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 3)).mt 63 = (fun y : S8x128.Idx => (pad (KB m c t (y 0))).mt 63) ((Rect.unit ![3, 0] ![1, 128] inb_S8x128_S1x128_3_0 : Rect S8x128).idx (ix2 0 e)) := by
  rw [row2_3]
  rfl

theorem G13_4 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 4)).mt 63 = (fun y : S8x128.Idx => (pad (KB m c t (y 0))).mt 63) ((Rect.unit ![4, 0] ![1, 128] inb_S8x128_S1x128_4_0 : Rect S8x128).idx (ix2 0 e)) := by
  rw [row2_4]
  rfl

theorem G13_5 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 5)).mt 63 = (fun y : S8x128.Idx => (pad (KB m c t (y 0))).mt 63) ((Rect.unit ![5, 0] ![1, 128] inb_S8x128_S1x128_5_0 : Rect S8x128).idx (ix2 0 e)) := by
  rw [row2_5]
  rfl

theorem G13_6 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 6)).mt 63 = (fun y : S8x128.Idx => (pad (KB m c t (y 0))).mt 63) ((Rect.unit ![6, 0] ![1, 128] inb_S8x128_S1x128_6_0 : Rect S8x128).idx (ix2 0 e)) := by
  rw [row2_6]
  rfl

theorem G13_7 (c : Dev nD) (t : Fin cfg0.N) (e : Fin 128) : (pad (HB (iblk m c 5 t) (iblk m c 4 t) (X0_0 m c t) (X0_1 m c t) (X0_2 m c t) (iblk m c 7 t) (iblk m c 8 t) (iblk m c 9 t) 7)).mt 63 = (fun y : S8x128.Idx => (pad (KB m c t (y 0))).mt 63) ((Rect.unit ![7, 0] ![1, 128] inb_S8x128_S1x128_7_0 : Rect S8x128).idx (ix2 0 e)) := by
  rw [row2_7]
  rfl

theorem W13 (c : Dev nD) (t : Fin cfg0.N) (h : Fin 8) (e : Fin 128) : (fun y : S8x128.Idx => (pad (KB m c t (y 0))).mt 63) ((Rect.unit ![0, 0] ![8, 128] inb_S8x128_S8x128_0_0 : Rect S8x128).idx (ix2 h e)) = (pad (KB m c t h)).mt 63 := by
  rw [whole2]
  rfl

set_option maxHeartbeats 600000 in
theorem case13 (c : Dev nD) (t : Fin cfg0.N) (h : Fin 8) (e : Fin 128) : (outsAt0 m c t).2.2.2 (ix3 0 h e) = (pad (KB m c t h)).mt 63 := by
  unfold outsAt0
  frame_open
  simp (disch := decide) only [↓ View.readCov_skip, ↓ View.readCov_cons_toLoadRect, ↓ View.readCov_fill]
  frame_out
  pointwise [k0_pay299]
  rw [View.readCov_eq_canon']
  refine (View.canon_append_of_piecesOf (Val := Elt Ideal) (e := .f32) (s := S8x128) (fun y => (pad (KB m c t (y 0))).mt 63) [_] [_,_,_,_,_,_,_,_] ?_ _ ?_).trans ?_
  refine ⟨?_, ?_, ?_, ?_, ?_, ?_, ?_, ?_, trivial⟩
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same121, same122, same123, same124, same125, same126, same127, same128, same129, same130, same131, same132, same133, same134, same135, same136, same137, same138, same139, same140]
    refine Eq.trans (m_at (ok7 (iblk m c 5 t) (iblk m c 4 t) (grid0.coords t) (X0_0 m c t) (X0_1 m c t) (X0_2 m c t) (iblk m c 7 t) (iblk m c 8 t) (iblk m c 9 t)) e) ?_
    exact G13_7 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same101, same102, same103, same104, same105, same106, same107, same108, same109, same110, same111, same112, same113, same114, same115, same116, same117, same118, same119, same120]
    refine Eq.trans (m_at (ok6 (iblk m c 5 t) (iblk m c 4 t) (grid0.coords t) (X0_0 m c t) (X0_1 m c t) (X0_2 m c t) (iblk m c 7 t) (iblk m c 8 t) (iblk m c 9 t)) e) ?_
    exact G13_6 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same81, same82, same83, same84, same85, same86, same87, same88, same89, same90, same91, same92, same93, same94, same95, same96, same97, same98, same99, same100]
    refine Eq.trans (m_at (ok5 (iblk m c 5 t) (iblk m c 4 t) (grid0.coords t) (X0_0 m c t) (X0_1 m c t) (X0_2 m c t) (iblk m c 7 t) (iblk m c 8 t) (iblk m c 9 t)) e) ?_
    exact G13_5 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same61, same62, same63, same64, same65, same66, same67, same68, same69, same70, same71, same72, same73, same74, same75, same76, same77, same78, same79, same80]
    refine Eq.trans (m_at (ok4 (iblk m c 5 t) (iblk m c 4 t) (grid0.coords t) (X0_0 m c t) (X0_1 m c t) (X0_2 m c t) (iblk m c 7 t) (iblk m c 8 t) (iblk m c 9 t)) e) ?_
    exact G13_4 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same41, same42, same43, same44, same45, same46, same47, same48, same49, same50, same51, same52, same53, same54, same55, same56, same57, same58, same59, same60]
    refine Eq.trans (m_at (ok3 (iblk m c 5 t) (iblk m c 4 t) (grid0.coords t) (X0_0 m c t) (X0_1 m c t) (X0_2 m c t) (iblk m c 7 t) (iblk m c 8 t) (iblk m c 9 t)) e) ?_
    exact G13_3 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same21, same22, same23, same24, same25, same26, same27, same28, same29, same30, same31, same32, same33, same34, same35, same36, same37, same38, same39, same40]
    refine Eq.trans (m_at (ok2 (iblk m c 5 t) (iblk m c 4 t) (grid0.coords t) (X0_0 m c t) (X0_1 m c t) (X0_2 m c t) (iblk m c 7 t) (iblk m c 8 t) (iblk m c 9 t)) e) ?_
    exact G13_2 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    refine Eq.trans (m_at (ok1 (iblk m c 5 t) (iblk m c 4 t) (grid0.coords t) (X0_0 m c t) (X0_1 m c t) (X0_2 m c t) (iblk m c 7 t) (iblk m c 8 t) (iblk m c 9 t)) e) ?_
    exact G13_1 m c t e
  · intro z
    obtain ⟨a, e, rfl⟩ : ∃ (a : Fin 1) (e : Fin 128), z = ix2 a e := ⟨_, _, eq_ix2 (n0 := 1) (n1 := 128) z⟩
    obtain rfl : a = 0 := Subsingleton.elim _ _
    simp only [same1, same2, same3, same4, same5, same6, same7, same8, same9, same10, same11, same12, same13, same14, same15, same16, same17, same18, same19, same20]
    refine Eq.trans (m_at (ok0 (iblk m c 5 t) (iblk m c 4 t) (grid0.coords t) (X0_0 m c t) (X0_1 m c t) (X0_2 m c t) (iblk m c 7 t) (iblk m c 8 t) (iblk m c 9 t)) e) ?_
    exact G13_0 m c t e
  · match h with
    | 0 => exact ⟨_, .tail _ (.tail _ (.tail _ (.tail _ (.tail _ (.tail _ (.tail _ (.head _))))))), in2_0 e⟩
    | 1 => exact ⟨_, .tail _ (.tail _ (.tail _ (.tail _ (.tail _ (.tail _ (.head _)))))), in2_1 e⟩
    | 2 => exact ⟨_, .tail _ (.tail _ (.tail _ (.tail _ (.tail _ (.head _))))), in2_2 e⟩
    | 3 => exact ⟨_, .tail _ (.tail _ (.tail _ (.tail _ (.head _)))), in2_3 e⟩
    | 4 => exact ⟨_, .tail _ (.tail _ (.tail _ (.head _))), in2_4 e⟩
    | 5 => exact ⟨_, .tail _ (.tail _ (.head _)), in2_5 e⟩
    | 6 => exact ⟨_, .tail _ (.head _), in2_6 e⟩
    | 7 => exact ⟨_, .head _, in2_7 e⟩
  · exact W13 m c t h e

end Cert.MlsIdeal.Acc
-- ==== Proof.Mls.Spec.lean ====
/- The arrays the chunk kernel leaves, over the extended reals. -/
module

public import proofs.«01_k».proof.MlsIdeal
public import proofs.«01_k».proof.Proof.Mls.Pure

@[expose] public section

set_option maxRecDepth 16384

noncomputable section

open Idealize.ShloMosaic Idealize.ShloMosaic.TcCoe Idealize.SL.Sem
open Idealize.ShloMosaic.Pipeline (Dat)

namespace Cert.MlsP
open Cert.MlsIdeal

/-- A head of a sequence's chunk, from the arrays. -/
def SP (P : FVec Ideal S8256x6272 .f32) (G : FVec Ideal S1x16 .f32) (C : FVec Ideal S1x8x8x256x128 .f32) (N : FVec Ideal S1x8x8x128 .f32) (M : FVec Ideal S1x8x8 .f32) (b h : Fin 8) : Hd 4 :=
  spec (fun t j => P (ix2 ⟨8192 + b.val * 8 + t.val, by omega⟩ ⟨6144 + j.val, by omega⟩) + G (ix2 0 j)) (fun t j => P (ix2 ⟨8192 + b.val * 8 + t.val, by omega⟩ ⟨j.val, by omega⟩))
    (fun t j => P (ix2 ⟨8192 + b.val * 8 + t.val, by omega⟩ ⟨1024 + j.val, by omega⟩)) (fun t j => P (ix2 ⟨8192 + b.val * 8 + t.val, by omega⟩ ⟨2048 + j.val, by omega⟩))
    (fun h y e => C (ix5 0 b h y e)) (fun h e => N (ix4 0 b h e)) (fun h => M (ix3 0 b h)) h

/-- A gated value. -/
def gate (h w o : EReal) : EReal := h * w * Ideal.div 1 (1 + Ideal.exp (0 - o))

/-- The array of read-outs: a sequence's four tokens, then four rows of zeros. -/
def finY (P : FVec Ideal S8256x6272 .f32) (G : FVec Ideal S1x16 .f32) (W : FVec Ideal S1x2048 .f32) (C : FVec Ideal S1x8x8x256x128 .f32) (N : FVec Ideal S1x8x8x128 .f32) (M : FVec Ideal S1x8x8 .f32) : FVec Ideal S64x2048 .f32 := fun i =>
  have h0 : (i 0).val < 64 := (i 0).isLt
  have h1 : (i 1).val < 2048 := (i 1).isLt
  if h : (i 0).val % 8 < 4 then gate ((SP P G C N M ⟨(i 0).val / 8, by omega⟩ ⟨(i 1).val / 256, by omega⟩).hn ⟨(i 0).val % 8, h⟩ ⟨(i 1).val % 256, by omega⟩)
    (W (ix2 0 (i 1))) (P (ix2 ⟨8192 + (i 0).val, by omega⟩ ⟨4096 + (i 1).val, by omega⟩)) else 0

/-- The new matrix states. -/
def finC (P : FVec Ideal S8256x6272 .f32) (G : FVec Ideal S1x16 .f32) (C : FVec Ideal S1x8x8x256x128 .f32) (N : FVec Ideal S1x8x8x128 .f32) (M : FVec Ideal S1x8x8 .f32) : FVec Ideal S8x8x256x128 .f32 := fun i =>
  (SP P G C N M (i 0) (i 1)).C' 3 (i 2) (i 3)

/-- The new normalisers. -/
def finN (P : FVec Ideal S8256x6272 .f32) (G : FVec Ideal S1x16 .f32) (C : FVec Ideal S1x8x8x256x128 .f32) (N : FVec Ideal S1x8x8x128 .f32) (M : FVec Ideal S1x8x8 .f32) : FVec Ideal S8x8x128 .f32 := fun i =>
  (SP P G C N M (i 0) (i 1)).N' 3 (i 2)

/-- The new maxima, along each row. -/
def finM (P : FVec Ideal S8256x6272 .f32) (G : FVec Ideal S1x16 .f32) (C : FVec Ideal S1x8x8x256x128 .f32) (N : FVec Ideal S1x8x8x128 .f32) (M : FVec Ideal S1x8x8 .f32) : FVec Ideal S8x8x128 .f32 := fun i =>
  (SP P G C N M (i 0) (i 1)).mt 3

end Cert.MlsP
-- ==== Proof.Mls.Reads.lean ====
/- The arrays the chunk kernel leaves, over the extended reals. -/
module

public import proofs.«01_k».proof.Proof.Mls.Acc
public import proofs.«01_k».proof.Proof.Mls.Spec

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

variable (m : (ℓ : Loc nD τ sig) → Buf (Elt Ideal) ℓ)

theorem idx : ∀ t : Fin cfg0.N, win0_0.index t = ![1024 + t.val, 0] ∧ win0_1.index t = ![1024 + t.val, 1] ∧ win0_2.index t = ![1024 + t.val, 1] ∧ win0_3.index t = ![1024 + t.val, 2]
    ∧ win0_4.index t = ![1024 + t.val, 48] ∧ win0_5.index t = ![0, 0] ∧ win0_6.index t = ![0, 0] ∧ win0_7.index t = ![t.val, 0, 0, 0] ∧ win0_8.index t = ![t.val, 0, 0] ∧ win0_9.index t = ![t.val, 0, 0]
    ∧ win0_10.index t = ![t.val, 0] ∧ win0_11.index t = ![t.val, 0, 0, 0] ∧ win0_12.index t = ![t.val, 0, 0] ∧ win0_13.index t = ![t.val, 0, 0] ∧ t.val < 8 :=
  (by decide +kernel : ∀ t : Fin grid0.N, _)

theorem lt8 (t : Fin cfg0.N) : t.val < 8 := (idx t).2.2.2.2.2.2.2.2.2.2.2.2.2.2

abbrev aP (c : Dev nD) : FVec Ideal S8256x6272 .f32 := m ((c : Thread nD τ).loc main_arg0)
abbrev aG (c : Dev nD) : FVec Ideal S1x16 .f32 := m ((c : Thread nD τ).loc main_arg1)
abbrev aW (c : Dev nD) : FVec Ideal S1x2048 .f32 := m ((c : Thread nD τ).loc main_arg2)
abbrev aC (c : Dev nD) : FVec Ideal S1x8x8x256x128 .f32 := m ((c : Thread nD τ).loc main_arg3)
abbrev aN (c : Dev nD) : FVec Ideal S1x8x8x128 .f32 := m ((c : Thread nD τ).loc main_arg4)
abbrev aM (c : Dev nD) : FVec Ideal S1x8x8 .f32 := m ((c : Thread nD τ).loc main_arg5)

theorem x0_at (c : Dev nD) (t : Fin cfg0.N) (r : Fin 8) (j : Fin 1024) :
    (X0_0 m c t : FVec Ideal S8x1024 .f32) (ix2 r j) = aP m c (ix2 ⟨8192 + t.val * 8 + r.val, by have := lt8 t; omega⟩ ⟨0 + j.val, by omega⟩) := by
  unfold X0_0 Pipeline.Window.fill
  rw [dif_pos (moved0_0 t _)]
  blk_point [iblk, V, idx t]

theorem x1_at (c : Dev nD) (t : Fin cfg0.N) (r : Fin 8) (j : Fin 1024) :
    (X0_1 m c t : FVec Ideal S8x1024 .f32) (ix2 r j) = aP m c (ix2 ⟨8192 + t.val * 8 + r.val, by have := lt8 t; omega⟩ ⟨1024 + j.val, by omega⟩) := by
  unfold X0_1 Pipeline.Window.fill
  rw [dif_pos (moved0_1 t _)]
  blk_point [iblk, V, idx t]

theorem x2_at (c : Dev nD) (t : Fin cfg0.N) (r : Fin 8) (j : Fin 2048) :
    (X0_2 m c t : FVec Ideal S8x2048 .f32) (ix2 r j) = aP m c (ix2 ⟨8192 + t.val * 8 + r.val, by have := lt8 t; omega⟩ ⟨2048 + j.val, by omega⟩) := by
  unfold X0_2 Pipeline.Window.fill
  rw [dif_pos (moved0_2 t _)]
  blk_point [iblk, V, idx t]

theorem x3_at (c : Dev nD) (t : Fin cfg0.N) (r : Fin 8) (j : Fin 2048) :
    (X0_3 m c t : FVec Ideal S8x2048 .f32) (ix2 r j) = aP m c (ix2 ⟨8192 + t.val * 8 + r.val, by have := lt8 t; omega⟩ ⟨4096 + j.val, by omega⟩) := by
  unfold X0_3 Pipeline.Window.fill
  rw [dif_pos (moved0_3 t _)]
  blk_point [iblk, V, idx t]

theorem x4_at (c : Dev nD) (t : Fin cfg0.N) (r : Fin 8) (j : Fin 128) :
    (iblk m c 4 t : FVec Ideal S8x128 .f32) (ix2 r j) = aP m c (ix2 ⟨8192 + t.val * 8 + r.val, by have := lt8 t; omega⟩ ⟨6144 + j.val, by omega⟩) := by
  blk_point [iblk, V, idx t]

theorem v2_at (c : Dev nD) (j : Fin 16) : (V m c main_v2 : FVec Ideal S1x128 .f32) (ix2 0 ⟨j.val, by omega⟩) = aG m c (ix2 0 j) := by
  show StableHlo.after (List.flatten [hostOps0, hostOps0_1, hostOps0_2]) (fun b => m (c, b)) (Proc.tc.devRef main_v2) _ = _
  simp only [hostOps0, hostOps0_1, hostOps0_2, List.flatten_cons, List.flatten_nil, List.append_nil, List.cons_append, List.nil_append]
  entry_read
  show Idealize.ShloMosaic.pad (s := S1x16) S1x128 ![0, 0] ![0, 112] ![0, 0] (shapeCast S1x16 (shapeCast S16 (aG m c) shapeCasts_S1x16_S16) shapeCasts_S16_S1x16) (sitofp (F := Ideal) .f32 (constantI S_ 32 0#32)) pads_S1x16_S1x128_000_01120 h_S_ (ix2 0 ⟨j.val, _⟩) = _
  pointwise
  blk_ext []

theorem x5_at (c : Dev nD) (t : Fin cfg0.N) (j : Fin 16) :
    (iblk m c 5 t : FVec Ideal S1x128 .f32) (ix2 0 ⟨j.val, by omega⟩) = aG m c (ix2 0 j) := by
  refine Eq.trans ?_ (v2_at m c j)
  blk_simp [iblk, idx t]
  blk_ext [idx t]

theorem v4_at (c : Dev nD) (j : Fin 2048) : (V m c main_v4 : FVec Ideal S1x2048 .f32) (ix2 0 j) = aW m c (ix2 0 j) := by
  show StableHlo.after (List.flatten [hostOps0, hostOps0_1, hostOps0_2]) (fun b => m (c, b)) (Proc.tc.devRef main_v4) _ = _
  simp only [hostOps0, hostOps0_1, hostOps0_2, List.flatten_cons, List.flatten_nil, List.append_nil, List.cons_append, List.nil_append]
  entry_read
  pointwise
  blk_ext []

theorem x6_at (c : Dev nD) (t : Fin cfg0.N) (j : Fin 2048) :
    (iblk m c 6 t : FVec Ideal S1x2048 .f32) (ix2 0 j) = aW m c (ix2 0 j) := by
  refine Eq.trans ?_ (v4_at m c j)
  blk_simp [iblk, idx t]
  blk_ext [idx t]

theorem v5_at (c : Dev nD) (b h : Fin 8) (x : Fin 256) (e : Fin 128) : (V m c main_v5 : FVec Ideal S8x8x256x128 .f32) (ix4 b h x e) = aC m c (ix5 0 b h x e) := by
  show StableHlo.after (List.flatten [hostOps0, hostOps0_1, hostOps0_2]) (fun b => m (c, b)) (Proc.tc.devRef main_v5) _ = _
  simp only [hostOps0, hostOps0_1, hostOps0_2, List.flatten_cons, List.flatten_nil, List.append_nil, List.cons_append, List.nil_append]
  entry_read
  pointwise
  blk_ext []

theorem x7_at (c : Dev nD) (t : Fin cfg0.N) (h : Fin 8) (x : Fin 256) (e : Fin 128) :
    (iblk m c 7 t : FVec Ideal S1x8x256x128 .f32) (ix4 0 h x e) = aC m c (ix5 0 ⟨t.val, lt8 t⟩ h x e) := by
  refine Eq.trans ?_ (v5_at m c ⟨t.val, lt8 t⟩ h x e)
  blk_simp [iblk, idx t]
  blk_ext [idx t]

theorem v6_at (c : Dev nD) (b h : Fin 8) (e : Fin 128) : (V m c main_v6 : FVec Ideal S8x8x128 .f32) (ix3 b h e) = aN m c (ix4 0 b h e) := by
  show StableHlo.after (List.flatten [hostOps0, hostOps0_1, hostOps0_2]) (fun b => m (c, b)) (Proc.tc.devRef main_v6) _ = _
  simp only [hostOps0, hostOps0_1, hostOps0_2, List.flatten_cons, List.flatten_nil, List.append_nil, List.cons_append, List.nil_append]
  entry_read
  pointwise
  blk_ext []

theorem x8_at (c : Dev nD) (t : Fin cfg0.N) (h : Fin 8) (e : Fin 128) :
    (iblk m c 8 t : FVec Ideal S1x8x128 .f32) (ix3 0 h e) = aN m c (ix4 0 ⟨t.val, lt8 t⟩ h e) := by
  refine Eq.trans ?_ (v6_at m c ⟨t.val, lt8 t⟩ h e)
  blk_simp [iblk, idx t]
  blk_ext [idx t]

theorem v9_at (c : Dev nD) (b h : Fin 8) : (V m c main_v9 : FVec Ideal S8x8x128 .f32) (ix3 b h 0) = aM m c (ix3 0 b h) := by
  show StableHlo.after (List.flatten [hostOps0, hostOps0_1, hostOps0_2]) (fun b => m (c, b)) (Proc.tc.devRef main_v9) _ = _
  simp only [hostOps0, hostOps0_1, hostOps0_2, List.flatten_cons, List.flatten_nil, List.append_nil, List.cons_append, List.nil_append]
  entry_read
  pointwise
  blk_ext []

theorem x9_at (c : Dev nD) (t : Fin cfg0.N) (h : Fin 8) :
    (iblk m c 9 t : FVec Ideal S1x8x128 .f32) (ix3 0 h 0) = aM m c (ix3 0 ⟨t.val, lt8 t⟩ h) := by
  refine Eq.trans ?_ (v9_at m c ⟨t.val, lt8 t⟩ h)
  blk_simp [iblk, idx t]
  blk_ext [idx t]

end Cert.MlsIdeal.Acc
-- ==== Proof.Mls.Fin.lean ====
/- The arrays the chunk kernel leaves, over the extended reals. -/
module

public import proofs.«01_k».proof.Proof.Mls.Acc10
public import proofs.«01_k».proof.Proof.Mls.Acc11
public import proofs.«01_k».proof.Proof.Mls.Acc12
public import proofs.«01_k».proof.Proof.Mls.Acc13
public import proofs.«01_k».proof.Proof.Mls.Reads

@[expose] public section

set_option maxRecDepth 16384

noncomputable section

open Idealize.ShloMosaic Idealize.ShloMosaic.TcCoe Idealize.SL.Sem
open Idealize.ShloMosaic.Pipeline (Dat)

namespace Cert.MlsIdeal.Acc
open Cert.MlsIdeal Cert.MlsIdeal.Gen Cert.MlsP

variable (m : (ℓ : Loc nD τ sig) → Buf (Elt Ideal) ℓ)

theorem spec_congr {g g' : Fin 4 → Fin 16 → EReal} {q q' k k' : Fin 4 → Fin 1024 → EReal} {v v' : Fin 4 → Fin 2048 → EReal} {C C' : Fin 8 → Fin 256 → Fin 128 → EReal}
    {N N' : Fin 8 → Fin 128 → EReal} {M M' : Fin 8 → EReal} (h : Fin 8) (hg : ∀ t j, g t j = g' t j) (hq : ∀ t j, q t j = q' t j) (hk : ∀ t j, k t j = k' t j) (hv : ∀ t j, v t j = v' t j)
    (hC : ∀ a b c, C a b c = C' a b c) (hN : ∀ a b, N a b = N' a b) (hM : ∀ a, M a = M' a) : spec g q k v C N M h = spec g' q' k' v' C' N' M' h := by
  obtain rfl : g = g' := funext fun t => funext fun j => hg t j
  obtain rfl : q = q' := funext fun t => funext fun j => hq t j
  obtain rfl : k = k' := funext fun t => funext fun j => hk t j
  obtain rfl : v = v' := funext fun t => funext fun j => hv t j
  obtain rfl : C = C' := funext fun t => funext fun j => funext fun e => hC t j e
  obtain rfl : N = N' := funext fun t => funext fun j => hN t j
  obtain rfl : M = M' := funext fun t => hM t
  rfl

theorem KB_eq (c : Dev nD) (t : Fin cfg0.N) (h : Fin 8) : KB m c t h = SP (aP m c) (aG m c) (aC m c) (aN m c) (aM m c) ⟨t.val, lt8 t⟩ h := by
  unfold KB HB SP
  refine spec_congr h (fun r j => ?_) (fun r j => ?_) (fun r j => ?_) (fun r j => ?_) (fun a x e => ?_) (fun a e => ?_) (fun a => ?_)
  · exact congrArg₂ (· + ·) (x4_at m c t _ _) (x5_at m c t j)
  · exact (x0_at m c t _ j).trans (congrArg (aP m c) (by congr 1; exact Fin.ext (Nat.zero_add _)))
  · exact x1_at m c t _ j
  · exact x2_at m c t _ j
  · exact x7_at m c t a x e
  · exact x8_at m c t a e
  · exact x9_at m c t a

abbrev fY (c : Dev nD) := finY (aP m c) (aG m c) (aW m c) (aC m c) (aN m c) (aM m c)
abbrev fC (c : Dev nD) := finC (aP m c) (aG m c) (aC m c) (aN m c) (aM m c)
abbrev fN (c : Dev nD) := finN (aP m c) (aG m c) (aC m c) (aN m c) (aM m c)
abbrev fM (c : Dev nD) := finM (aP m c) (aG m c) (aC m c) (aN m c) (aM m c)

theorem point13 (c : Dev nD) (t : Fin cfg0.N) (h : Fin 8) (e : Fin 128) : (outsAt0 m c t).2.2.2 (ix3 0 h e) = fM m c (ix3 ⟨t.val, lt8 t⟩ h e) := by
  rw [case13, mt_pad, cl_last, KB_eq]
  rfl

theorem point12 (c : Dev nD) (t : Fin cfg0.N) (h : Fin 8) (e : Fin 128) : (outsAt0 m c t).2.2.1 (ix3 0 h e) = fN m c (ix3 ⟨t.val, lt8 t⟩ h e) := by
  rw [case12, N'_pad, KB_eq]
  rfl

theorem point11 (c : Dev nD) (t : Fin cfg0.N) (h : Fin 8) (x : Fin 256) (e : Fin 128) : (outsAt0 m c t).2.1 (ix4 0 h x e) = fC m c (ix4 ⟨t.val, lt8 t⟩ h x e) := by
  rw [case11, C'_pad, KB_eq]
  rfl

theorem point10 (c : Dev nD) (t : Fin cfg0.N) (r : Fin 8) (d : Fin 2048) : (outsAt0 m c t).1 (ix2 r d) = fY m c (ix2 ⟨t.val * 8 + r.val, by have := lt8 t; omega⟩ d) := by
  have ht := lt8 t
  have hd := d.isLt
  rw [case10 m c t ⟨d.val / 256, by omega⟩ r ⟨d.val % 256, by omega⟩ d (by show d.val = 256 * (d.val / 256) + d.val % 256; omega), KB_eq]
  have e6 := x6_at m c t d
  have e3 := x3_at m c t r d
  refine (gt_congr rfl e6 e3).trans ?_
  have hr : (t.val * 8 + r.val) % 8 = r.val := by omega
  have hq : (t.val * 8 + r.val) / 8 = t.val := by omega
  unfold fY finY
  by_cases h : r.val < 4
  · rw [hn_pad _ ⟨r.val, by omega⟩ h]
    refine Eq.trans ?_ (dif_pos (show (t.val * 8 + r.val) % 8 < 4 by omega)).symm
    show gt _ _ _ = gate _ _ _
    refine Eq.trans (gt_congr ?_ rfl ?_) rfl
    · have a1 : (⟨(t.val * 8 + r.val) / 8, by omega⟩ : Fin 8) = ⟨t.val, ht⟩ := Fin.ext hq
      have a2 : (⟨(t.val * 8 + r.val) % 8, by omega⟩ : Fin 4) = ⟨r.val, h⟩ := Fin.ext hr
      exact (congrArg₂ (fun (b : Fin 8) (s : Fin 4) => (SP (aP m c) (aG m c) (aC m c) (aN m c) (aM m c) b ⟨d.val / 256, by omega⟩).hn s ⟨d.val % 256, by omega⟩) a1 a2).symm
    · refine congrArg (aP m c) ?_
      congr 1
      exact Fin.ext (by show 8192 + t.val * 8 + r.val = 8192 + (t.val * 8 + r.val); omega)
  · rw [hn_pad_ge _ ⟨r.val, by omega⟩ h]
    refine Eq.trans ?_ (dif_neg (show ¬ (t.val * 8 + r.val) % 8 < 4 by omega)).symm
    unfold gt
    rw [zero_mul, zero_mul]

theorem final10 (c : Dev nD) : (dats m 0 c).arrAt 10 (cfgs 0).N = fY m c := by
  refine (dats m 0 c).arrAt_eq_of_covers 10 _ (by decide +kernel) fun t hf y => ?_
  blk_simp
  rw [after0_10]
  have e := point10 m c t (y 0) (y 1)
  have hy : y = ix2 (y 0) (y 1) := by
    funext a
    fin_cases a
    · rfl
    · rfl
  refine Eq.trans ?_ (e.trans ?_)
  · exact congrArg (outsAt0 m c t).1 hy
  · blk_ext [idx t]

theorem final11 (c : Dev nD) : (dats m 0 c).arrAt 11 (cfgs 0).N = fC m c := by
  refine (dats m 0 c).arrAt_eq_of_covers 11 _ (by decide +kernel) fun t hf y => ?_
  blk_simp
  rw [after0_11]
  have e := point11 m c t (y 1) (y 2) (y 3)
  have hy : y = ix4 0 (y 1) (y 2) (y 3) := by
    funext a
    fin_cases a
    · exact Fin.ext (by have h : (y 0).val < 1 := (y 0).isLt; show (y 0).val = 0; omega)
    · rfl
    · rfl
    · rfl
  refine Eq.trans ?_ (e.trans ?_)
  · exact congrArg (outsAt0 m c t).2.1 hy
  · blk_ext [idx t]

theorem final12 (c : Dev nD) : (dats m 0 c).arrAt 12 (cfgs 0).N = fN m c := by
  refine (dats m 0 c).arrAt_eq_of_covers 12 _ (by decide +kernel) fun t hf y => ?_
  blk_simp
  rw [after0_12]
  have e := point12 m c t (y 1) (y 2)
  have hy : y = ix3 0 (y 1) (y 2) := by
    funext a
    fin_cases a
    · exact Fin.ext (by have h : (y 0).val < 1 := (y 0).isLt; show (y 0).val = 0; omega)
    · rfl
    · rfl
  refine Eq.trans ?_ (e.trans ?_)
  · exact congrArg (outsAt0 m c t).2.2.1 hy
  · blk_ext [idx t]

theorem final13 (c : Dev nD) : (dats m 0 c).arrAt 13 (cfgs 0).N = fM m c := by
  refine (dats m 0 c).arrAt_eq_of_covers 13 _ (by decide +kernel) fun t hf y => ?_
  blk_simp
  rw [after0_13]
  have e := point13 m c t (y 1) (y 2)
  have hy : y = ix3 0 (y 1) (y 2) := by
    funext a
    fin_cases a
    · exact Fin.ext (by have h : (y 0).val < 1 := (y 0).isLt; show (y 0).val = 0; omega)
    · rfl
    · rfl
  refine Eq.trans ?_ (e.trans ?_)
  · exact congrArg (outsAt0 m c t).2.2.2 hy
  · blk_ext [idx t]

end Cert.MlsIdeal.Acc
-- ==== Proof.Mls.Ref1.lean ====
/- The reference program at an index: its gates, queries, keys, values and states. -/
module

public import proofs.«01_k».proof.Proof.Gen.RefMlsIdeal.Read
public import proofs.«01_k».proof.Proof.Mls.Spec
public import Idealize.ShloMosaic.Lib.Pipeline.ValueKit

@[expose] public section

set_option maxRecDepth 16384

noncomputable section

open Idealize.ShloMosaic Idealize.ShloMosaic.TcCoe Idealize.SL.Sem

namespace Cert.RefMlsIdeal.Tie

open Cert.RefMlsIdeal Cert.RefMlsIdeal.Gen Cert.RefMlsIdeal.Read
open Cert.MlsP

theorem q_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) (e : Fin 128) : val_main_v9 (F := Ideal) P (ix4 b t h e) = (SP P G C N M b h).Q t e := by
  have hb := b.isLt
  have hh := h.isLt
  have ht := t.isLt
  have he := e.isLt
  simp only [val_main_v9_apply, val_main_v3_apply, val_main_v2_apply, val_main_v1_apply, val_main_v0_apply]
  refine congrArg P (funext fun a => Fin.ext ?_)
  match a with
  | ⟨0, _⟩ => dsimp only [idx_main_v9, idx_main_v3, idx_main_v2, idx_main_v1, idx_main_v0, ix4, ix2]; omega
  | ⟨1, _⟩ => dsimp only [idx_main_v9, idx_main_v3, idx_main_v2, idx_main_v1, idx_main_v0, ix4, ix2]; omega

theorem v_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) (e : Fin 256) : val_main_v13 (F := Ideal) P (ix4 b t h e) = (SP P G C N M b h).V t e := by
  have hb := b.isLt
  have hh := h.isLt
  have ht := t.isLt
  have he := e.isLt
  simp only [val_main_v13_apply, val_main_v5_apply, val_main_v2_apply, val_main_v1_apply, val_main_v0_apply]
  refine congrArg P (funext fun a => Fin.ext ?_)
  match a with
  | ⟨0, _⟩ => dsimp only [idx_main_v13, idx_main_v5, idx_main_v2, idx_main_v1, idx_main_v0, ix4, ix2]; omega
  | ⟨1, _⟩ => dsimp only [idx_main_v13, idx_main_v5, idx_main_v2, idx_main_v1, idx_main_v0, ix4, ix2]; omega

theorem k_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) (e : Fin 128) : val_main_v12 (F := Ideal) P (ix4 b t h e) = (SP P G C N M b h).K t e := by
  have hb := b.isLt
  have hh := h.isLt
  have ht := t.isLt
  have he := e.isLt
  have e1 : val_main_v10 (F := Ideal) P (ix4 b t h e) = P (ix2 ⟨8192 + b.val * 8 + t.val, by omega⟩ ⟨1024 + (h.val * 128 + e.val), by omega⟩) := by
    simp only [val_main_v10_apply, val_main_v4_apply, val_main_v2_apply, val_main_v1_apply, val_main_v0_apply]
    refine congrArg P (funext fun a => Fin.ext ?_)
    match a with
    | ⟨0, _⟩ => dsimp only [idx_main_v10, idx_main_v4, idx_main_v2, idx_main_v1, idx_main_v0, ix4, ix2]; omega
    | ⟨1, _⟩ => dsimp only [idx_main_v10, idx_main_v4, idx_main_v2, idx_main_v1, idx_main_v0, ix4, ix2]; omega
  exact congrArg (fun z => z * Ideal.ofBits .f32 1035273459#32) e1

theorem i_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) : val_main_v23 (F := Ideal) P G (ix3 b t h) = (SP P G C N M b h).I t := by
  have hb := b.isLt
  have hh := h.isLt
  have ht := t.isLt
  have e1 : val_main_v7 (F := Ideal) P (ix3 b t h) = P (ix2 ⟨8192 + b.val * 8 + t.val, by omega⟩ ⟨6144 + (h.val), by omega⟩) := by
    simp only [val_main_v7_apply, val_main_v2_apply, val_main_v1_apply, val_main_v0_apply]
    refine congrArg P (funext fun a => Fin.ext ?_)
    match a with
    | ⟨0, _⟩ => dsimp only [idx_main_v7, idx_main_v2, idx_main_v1, idx_main_v0, ix3, ix2]; omega
    | ⟨1, _⟩ => dsimp only [idx_main_v7, idx_main_v2, idx_main_v1, idx_main_v0, ix3, ix2]; omega
  have e2 : val_main_v17 (F := Ideal) G (ix3 b t h) = G (ix2 0 ⟨h.val, by omega⟩) := by
    simp only [val_main_v17_apply, val_main_v16_apply, val_main_v15_apply, val_main_v14_apply]
    refine congrArg G (funext fun a => Fin.ext ?_)
    match a with
    | ⟨0, _⟩ => dsimp only [idx_main_v17, idx_main_v16, idx_main_v15, idx_main_v14, ix3, ix2]; rfl
    | ⟨1, _⟩ => dsimp only [idx_main_v17, idx_main_v16, idx_main_v15, idx_main_v14, ix3, ix2]; omega
  exact congrArg₂ (fun y z => gact (y + z)) e1 e2

theorem f_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) : val_main_v32 (F := Ideal) P G (ix3 b t h) = gact (P (ix2 ⟨8192 + b.val * 8 + t.val, by omega⟩ ⟨6144 + (8 + h.val), by omega⟩) + G (ix2 0 ⟨8 + h.val, by omega⟩)) := by
  have hb := b.isLt
  have hh := h.isLt
  have ht := t.isLt
  have e1 : val_main_v8 (F := Ideal) P (ix3 b t h) = P (ix2 ⟨8192 + b.val * 8 + t.val, by omega⟩ ⟨6144 + (8 + h.val), by omega⟩) := by
    simp only [val_main_v8_apply, val_main_v2_apply, val_main_v1_apply, val_main_v0_apply]
    refine congrArg P (funext fun a => Fin.ext ?_)
    match a with
    | ⟨0, _⟩ => dsimp only [idx_main_v8, idx_main_v2, idx_main_v1, idx_main_v0, ix3, ix2]; omega
    | ⟨1, _⟩ => dsimp only [idx_main_v8, idx_main_v2, idx_main_v1, idx_main_v0, ix3, ix2]; omega
  have e2 : val_main_v26 (F := Ideal) G (ix3 b t h) = G (ix2 0 ⟨8 + h.val, by omega⟩) := by
    simp only [val_main_v26_apply, val_main_v25_apply, val_main_v24_apply, val_main_v14_apply]
    refine congrArg G (funext fun a => Fin.ext ?_)
    match a with
    | ⟨0, _⟩ => dsimp only [idx_main_v26, idx_main_v25, idx_main_v24, idx_main_v14, ix3, ix2]; rfl
    | ⟨1, _⟩ => dsimp only [idx_main_v26, idx_main_v25, idx_main_v24, idx_main_v14, ix3, ix2]; omega
  exact congrArg₂ (fun y z => gact (y + z)) e1 e2

theorem c_at (P : FVec Ideal S8256x6272 .f32) (G : FVec Ideal S1x16 .f32) (C : FVec Ideal S1x8x8x256x128 .f32) (N : FVec Ideal S1x8x8x128 .f32) (M : FVec Ideal S1x8x8 .f32) (b h : Fin 8) (x : Fin 256) (e : Fin 128) : val_main_v34 (F := Ideal) C (ix4 b h x e) = (SP P G C N M b h).C x e := by
  have hb := b.isLt
  have hh := h.isLt
  have hx := x.isLt
  have he := e.isLt
  simp only [val_main_v34_apply]
  refine congrArg C (funext fun a => Fin.ext ?_)
  match a with
  | ⟨0, _⟩ => dsimp only [idx_main_v34, ix4, ix5]; rfl
  | ⟨1, _⟩ => dsimp only [idx_main_v34, ix4, ix5]; omega
  | ⟨2, _⟩ => dsimp only [idx_main_v34, ix4, ix5]; omega
  | ⟨3, _⟩ => dsimp only [idx_main_v34, ix4, ix5]; omega
  | ⟨4, _⟩ => dsimp only [idx_main_v34, ix4, ix5]; omega

theorem n_at (P : FVec Ideal S8256x6272 .f32) (G : FVec Ideal S1x16 .f32) (C : FVec Ideal S1x8x8x256x128 .f32) (N : FVec Ideal S1x8x8x128 .f32) (M : FVec Ideal S1x8x8 .f32) (b h : Fin 8) (e : Fin 128) : val_main_v35 (F := Ideal) N (ix3 b h e) = (SP P G C N M b h).N e := by
  have hb := b.isLt
  have hh := h.isLt
  have he := e.isLt
  simp only [val_main_v35_apply]
  refine congrArg N (funext fun a => Fin.ext ?_)
  match a with
  | ⟨0, _⟩ => dsimp only [idx_main_v35, ix4, ix3]; rfl
  | ⟨1, _⟩ => dsimp only [idx_main_v35, ix4, ix3]; omega
  | ⟨2, _⟩ => dsimp only [idx_main_v35, ix4, ix3]; omega
  | ⟨3, _⟩ => dsimp only [idx_main_v35, ix4, ix3]; omega

theorem m_at (P : FVec Ideal S8256x6272 .f32) (G : FVec Ideal S1x16 .f32) (C : FVec Ideal S1x8x8x256x128 .f32) (N : FVec Ideal S1x8x8x128 .f32) (M : FVec Ideal S1x8x8 .f32) (b h : Fin 8) : val_main_v36 (F := Ideal) M (ix2 b h) = (SP P G C N M b h).M := by
  have hb := b.isLt
  have hh := h.isLt
  simp only [val_main_v36_apply]
  refine congrArg M (funext fun a => Fin.ext ?_)
  match a with
  | ⟨0, _⟩ => dsimp only [idx_main_v36, ix3, ix2]; rfl
  | ⟨1, _⟩ => dsimp only [idx_main_v36, ix3, ix2]; omega
  | ⟨2, _⟩ => dsimp only [idx_main_v36, ix3, ix2]; omega

end Cert.RefMlsIdeal.Tie

end
-- ==== Proof.Mls.Ref2.lean ====
/- The cumulative log decays of the reference program. -/
module

public import proofs.«01_k».proof.Proof.Gen.RefMlsIdeal.Read
public import proofs.«01_k».proof.Proof.Mls.Spec
public import Idealize.ShloMosaic.Lib.Pipeline.ValueKit

@[expose] public section

set_option maxRecDepth 16384

noncomputable section

open Idealize.ShloMosaic Idealize.ShloMosaic.TcCoe Idealize.SL.Sem

namespace Cert.RefMlsIdeal.Tie

open Cert.RefMlsIdeal Cert.RefMlsIdeal.Gen Cert.RefMlsIdeal.Read
open Cert.MlsP

theorem word_zero : Ideal.ofBits .f32 0#32 = 0 := by
  simp [Ideal.ofBits, Ideal.ieee]

theorem soft_neg (r : ℝ) : -(max (-(r : EReal)) 0 + Ideal.log (1 + Ideal.exp (-(max (-(r : EReal)) (-(-(r : EReal))))))) = lsig (r : EReal) := by
  unfold lsig
  rw [neg_neg, max_comm (-(r : EReal)) (r : EReal), zero_sub]
  have e1 : min (r : EReal) 0 = ((min r 0 : ℝ) : EReal) := by
    rw [← EReal.coe_zero]; exact (EReal.coe_strictMono.monotone.map_min).symm
  have e2 : max (-(r : EReal)) 0 = ((-(min r 0) : ℝ) : EReal) := by
    rw [← EReal.coe_zero, ← EReal.coe_neg, ← EReal.coe_strictMono.monotone.map_max, ← neg_zero, ← max_neg_neg]
    simp
  rw [e1, e2, EReal.neg_add (Or.inl (EReal.coe_ne_bot _)) (Or.inl (EReal.coe_ne_top _)), ← EReal.coe_neg, neg_neg]

theorem lsg_at (P : FVec Ideal S8256x6272 .f32) (G : FVec Ideal S1x16 .f32) (i : S8x4x8.Idx) (g : ℝ) (hg : val_main_v32 (F := Ideal) P G i = (g : EReal)) :
    val_main_v33 (F := Ideal) P G i = lsig (g : EReal) := by
  pointwise [val_main_v33, val_main_call0_v1, val_main_call0_v0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst, hg]
  exact (congrArg Neg.neg (if_neg (fun h => h rfl))).trans (soft_neg g)

theorem fold4 (f : Fin 4 → EReal) : (List.finRange 4).foldl (fun r n => r + f n) 0 = ∑ n, f n := by
  simp [List.finRange, Fin.sum_univ_four, add_assoc]

theorem cum_at (P : FVec Ideal S8256x6272 .f32) (G : FVec Ideal S1x16 .f32) (b h : Fin 8) (t : Fin 4) :
    val_main_v37 (F := Ideal) P G (ix3 b t h) = ∑ s : Fin 4, if s ≤ t then val_main_v33 (F := Ideal) P G (ix3 b s h) else 0 := by
  unfold val_main_v37
  generalize val_main_v33 (F := Ideal) P G = y
  simp only [Host.reduceWindowAdd, Ideal.hostReduceWindowAdd_def, Ideal.hostReduceWindowAdd, Host.reduceWindow]
  have hs : ∀ n : Fin (⟨3, ![1, 4, 1]⟩ : Shape).numel, (⟨3, ![1, 4, 1]⟩ : Shape).rowMajor.symm n = (ix3 (0 : Fin 1) (⟨n.val, n.isLt⟩ : Fin 4) (0 : Fin 1) : (⟨3, ![1, 4, 1]⟩ : Shape).Idx) := fun n => by
    rw [Equiv.symm_apply_eq]
    apply Fin.ext
    rw [Shape.rowMajor_val_three]
    show n.val = (0 * 4 + n.val) * 1 + 0
    omega
  have ht := t.isLt
  have hb := b.isLt
  have hh := h.isLt
  refine (List.foldl_ext _ (fun r n => r + (if 3 ≤ t.val + n.val then y (ix3 b ⟨(t.val + n.val - 3) % 4, Nat.mod_lt _ (by omega)⟩ h) else 0)) _ (fun r n _ => ?_)).trans ?_
  · have hn : n.val < 4 := n.isLt
    refine congrArg (r + ·) ?_
    by_cases hc : 3 ≤ t.val + n.val
    · rw [if_pos hc, dif_pos ?_]
      · refine congrArg y (funext fun a => Fin.ext ?_)
        simp only [hs]
        match a with
        | ⟨0, _⟩ => show b.val * 1 + 0 - 0 = b.val; omega
        | ⟨1, _⟩ => show t.val * 1 + n.val - 3 = (t.val + n.val - 3) % 4; omega
        | ⟨2, _⟩ => show h.val * 1 + 0 - 0 = h.val; omega
      · intro a
        simp only [hs]
        match a with
        | ⟨0, _⟩ => show 0 ≤ b.val * 1 + 0 ∧ b.val * 1 + 0 - 0 < 8; omega
        | ⟨1, _⟩ => show 3 ≤ t.val * 1 + n.val ∧ t.val * 1 + n.val - 3 < 4; omega
        | ⟨2, _⟩ => show 0 ≤ h.val * 1 + 0 ∧ h.val * 1 + 0 - 0 < 8; omega
    · rw [if_neg hc, dif_neg ?_]
      · exact word_zero
      · intro hin
        have h1 := (hin 1).1
        simp only [hs] at h1
        have h2 : 3 ≤ t.val * 1 + n.val := h1
        omega
  · have e0 : val_main_call1_call0_v0 (F := Ideal) (Shape.Idx.first h_S_) = 0 := word_zero
    rw [e0]
    refine (fold4 (fun n => if 3 ≤ t.val + n.val then y (ix3 b ⟨(t.val + n.val - 3) % 4, Nat.mod_lt _ (by omega)⟩ h) else 0)).trans ?_
    clear e0 hs
    fin_cases t <;> simp [Fin.sum_univ_four] <;> rfl

end Cert.RefMlsIdeal.Tie

end
-- ==== Proof.Mls.Ref3.lean ====
/- The read-outs and the new states of the reference program. -/
module

public import proofs.«01_k».proof.Proof.Mls.Ref1
public import proofs.«01_k».proof.Proof.Mls.Ref2
public import proofs.«01_k».proof.Proof.Mls.Spec
public import Idealize.ShloMosaic.Lib.Pipeline.ValueKit

@[expose] public section

set_option maxRecDepth 16384

noncomputable section

open Idealize.ShloMosaic Idealize.ShloMosaic.TcCoe Idealize.SL.Sem

namespace Cert.RefMlsIdeal.Tie

open Cert.RefMlsIdeal Cert.RefMlsIdeal.Gen Cert.RefMlsIdeal.Read
open Cert.MlsP

theorem word_bot : Ideal.ofBits .f32 4286578688#32 = ⊥ := by
  simp [Ideal.ofBits, Ideal.ieee]
theorem b_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) : val_main_v37 (F := Ideal) P G (ix3 b t h) = (SP P G C N M b h).B t := by
  refine (cum_at P G b h t).trans ?_
  show _ = ∑ s : Fin 4, if s ≤ t then lsig (gact (P (ix2 ⟨8192 + b.val * 8 + s.val, by omega⟩ ⟨6144 + (8 + h.val), by omega⟩) + G (ix2 0 ⟨8 + h.val, by omega⟩))) else 0
  refine Finset.sum_congr rfl fun s _ => ?_
  refine congrArg (fun z => if s ≤ t then z else (0 : EReal)) ?_
  obtain ⟨g, hg⟩ := gact_real (P (ix2 ⟨8192 + b.val * 8 + s.val, by omega⟩ ⟨6144 + (8 + h.val), by omega⟩) + G (ix2 0 ⟨8 + h.val, by omega⟩))
  exact (lsg_at P G (ix3 b s h) g ((f_at P G C N M b h s).trans hg)).trans (congrArg lsig hg.symm)

theorem tril_at (t s : Fin 4) : val_main_v39 (F := Ideal) (ix2 t s) = if s ≤ t then 1#1 else 0#1 := by
  fin_cases t <;> fin_cases s <;> rfl

theorem dm_at (P : FVec Ideal S8256x6272 .f32) (G : FVec Ideal S1x16 .f32) (C : FVec Ideal S1x8x8x256x128 .f32) (N : FVec Ideal S1x8x8x128 .f32) (M : FVec Ideal S1x8x8 .f32) (b h : Fin 8) (t s : Fin 4) : val_main_v49 (F := Ideal) P G (ix4 b t s h) = (SP P G C N M b h).dm t s := by
  unfold Hd.dm
  by_cases hst : s ≤ t
  · pointwise [val_main_v49, val_main_call3_v0, val_main_call3_v1, val_main_call3_v2, val_main_v48, val_main_v47, val_main_v46, val_main_v45, val_main_v44, val_main_v43, val_main_v42, val_main_v41, val_main_v40, val_main_cst_4, b_at P G C N M, i_at P G C N M, tril_at, hst]
  · pointwise [val_main_v49, val_main_call3_v0, val_main_call3_v1, val_main_call3_v2, val_main_v48, val_main_v47, val_main_v46, val_main_v45, val_main_v44, val_main_v43, val_main_v42, val_main_v41, val_main_v40, val_main_cst_4, b_at P G C N M, i_at P G C N M, tril_at, hst]
    exact word_bot

theorem mt_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) : val_main_v54 (F := Ideal) P G M (ix3 b t h) = (SP P G C N M b h).mt t := by
  unfold Hd.mt
  pointwise [val_main_v54, val_main_v53, val_main_v52, val_main_v51, val_main_v50, val_main_cst_5, b_at P G C N M, m_at P G C N M, dm_at P G C N M]
  rw [word_bot]

theorem wi_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) : val_main_v60 (F := Ideal) P G M (ix3 b t h) = (SP P G C N M b h).wi t := by
  unfold Hd.wi
  pointwise [val_main_v60, val_main_v59, val_main_v52, val_main_v51, val_main_v50, b_at P G C N M, m_at P G C N M, mt_at P G C N M]

theorem sc_at (P : FVec Ideal S8256x6272 .f32) (G : FVec Ideal S1x16 .f32) (C : FVec Ideal S1x8x8x256x128 .f32) (N : FVec Ideal S1x8x8x128 .f32) (M : FVec Ideal S1x8x8 .f32) (b h : Fin 8) (t s : Fin 4) : val_main_v63 (F := Ideal) P G M (ix4 b t s h) = (SP P G C N M b h).sc t s := by
  unfold Hd.sc Hd.wd
  pointwise [val_main_v63, val_main_v62, val_main_v61, val_main_v58, val_main_v57, val_main_v56, val_main_v55, dm_at P G C N M, mt_at P G C N M, k_at P G C N M, q_at P G C N M]
  exact congrArg (· * _) (Finset.sum_congr rfl fun x _ => mul_comm _ _)

theorem h_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) (x : Fin 256) : val_main_v83 (F := Ideal) P G C N M (ix4 b t h x) = (SP P G C N M b h).h t x := by
  unfold Hd.h Hd.num Hd.den
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_cst_6, sc_at P G C N M, wi_at P G C N M, mt_at P G C N M, v_at P G C N M, q_at P G C N M, c_at P G C N M, n_at P G C N M]
  rw [zero_sub]
  exact congrArg (fun z => Ideal.div (z + _) _) (Finset.sum_congr rfl fun s _ => mul_comm _ _)

theorem ws_at (P : FVec Ideal S8256x6272 .f32) (G : FVec Ideal S1x16 .f32) (C : FVec Ideal S1x8x8x256x128 .f32) (N : FVec Ideal S1x8x8x128 .f32) (M : FVec Ideal S1x8x8 .f32) (b h : Fin 8) (s : Fin 4) : val_main_v93 (F := Ideal) P G M (ix3 b s h) = (SP P G C N M b h).ws 3 s := by
  unfold Hd.ws
  pointwise [val_main_v93, val_main_v92, val_main_v91, val_main_v90, val_main_v89, val_main_v88, val_main_v87, val_main_v86, val_main_v85, val_main_v84, b_at P G C N M, i_at P G C N M, mt_at P G C N M]

theorem we_at (P : FVec Ideal S8256x6272 .f32) (G : FVec Ideal S1x16 .f32) (C : FVec Ideal S1x8x8x256x128 .f32) (N : FVec Ideal S1x8x8x128 .f32) (M : FVec Ideal S1x8x8 .f32) (b h : Fin 8) : val_main_v98 (F := Ideal) P G M (ix2 b h) = (SP P G C N M b h).wi 3 := by
  unfold Hd.wi
  pointwise [val_main_v98, val_main_v97, val_main_v96, val_main_v95, val_main_v94, val_main_v85, val_main_v84, b_at P G C N M, m_at P G C N M, mt_at P G C N M]

theorem ref_C (P : FVec Ideal S8256x6272 .f32) (G : FVec Ideal S1x16 .f32) (C : FVec Ideal S1x8x8x256x128 .f32) (N : FVec Ideal S1x8x8x128 .f32) (M : FVec Ideal S1x8x8 .f32) : val_main_v106 (F := Ideal) P G C M = finC P G C N M := by
  funext i
  idx_vars i
  pointwise [val_main_v106, val_main_v105, val_main_v104, val_main_v103, val_main_v102, val_main_v101, val_main_v100, val_main_v99, we_at P G C N M, ws_at P G C N M, c_at P G C N M, v_at P G C N M, k_at P G C N M, finC, Hd.C']

theorem ref_N (P : FVec Ideal S8256x6272 .f32) (G : FVec Ideal S1x16 .f32) (C : FVec Ideal S1x8x8x256x128 .f32) (N : FVec Ideal S1x8x8x128 .f32) (M : FVec Ideal S1x8x8 .f32) : val_main_v111 (F := Ideal) P G N M = finN P G C N M := by
  funext i
  idx_vars i
  pointwise [val_main_v111, val_main_v110, val_main_v109, val_main_v108, val_main_v107, we_at P G C N M, ws_at P G C N M, n_at P G C N M, k_at P G C N M, finN, Hd.N']

theorem ref_M (P : FVec Ideal S8256x6272 .f32) (G : FVec Ideal S1x16 .f32) (C : FVec Ideal S1x8x8x256x128 .f32) (N : FVec Ideal S1x8x8x128 .f32) (M : FVec Ideal S1x8x8 .f32) : val_main_v137 (F := Ideal) P G M = finM P G C N M := by
  funext i
  idx_vars i
  pointwise [val_main_v137, val_main_v136, val_main_v85, val_main_v84, mt_at P G C N M, finM]

theorem nm_at (P : FVec Ideal S8256x6272 .f32) (G : FVec Ideal S1x16 .f32) (C : FVec Ideal S1x8x8x256x128 .f32) (N : FVec Ideal S1x8x8x128 .f32) (M : FVec Ideal S1x8x8 .f32) (b h : Fin 8) (t : Fin 4) (x : Fin 256) : val_main_v121 (F := Ideal) P G C N M (ix4 b t h x) = (SP P G C N M b h).hn t x := by
  unfold Hd.hn
  pointwise [val_main_v121, val_main_v120, val_main_v119, val_main_v118, val_main_v117, val_main_v116, val_main_v115, val_main_v114, val_main_v113, val_main_v112, val_main_cst_7, val_main_cst_8, val_main_cst_9, h_at P G C N M]

end Cert.RefMlsIdeal.Tie

end
-- ==== Proof.Mls.Ref4.lean ====
/- The array of read-outs of the reference program. -/
module

public import proofs.«01_k».proof.Proof.Mls.Ref3
public import proofs.«01_k».proof.Proof.Mls.Spec
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.RefMlsIdeal.Tie

open Cert.RefMlsIdeal Cert.RefMlsIdeal.Gen Cert.RefMlsIdeal.Read
open Cert.MlsP

theorem o_at (P : FVec Ideal S8256x6272 .f32) (b : Fin 8) (t : Fin 4) (j : Fin 2048) : val_main_v6 (F := Ideal) P (ix3 b t j) = P (ix2 ⟨8192 + (b.val * 8 + t.val), by omega⟩ ⟨4096 + j.val, by omega⟩) := by
  have hb := b.isLt
  have ht := t.isLt
  have hj := j.isLt
  simp only [val_main_v6_apply, val_main_v2_apply, val_main_v1_apply, val_main_v0_apply]
  refine congrArg P (funext fun a => Fin.ext ?_)
  match a with
  | ⟨0, _⟩ => dsimp only [idx_main_v6, idx_main_v2, idx_main_v1, idx_main_v0, ix3, ix2]; omega
  | ⟨1, _⟩ => dsimp only [idx_main_v6, idx_main_v2, idx_main_v1, idx_main_v0, ix3, ix2]; omega

theorem flat_at (P : FVec Ideal S8256x6272 .f32) (G : FVec Ideal S1x16 .f32) (C : FVec Ideal S1x8x8x256x128 .f32) (N : FVec Ideal S1x8x8x128 .f32) (M : FVec Ideal S1x8x8 .f32) (b : Fin 8) (t : Fin 4) (j : Fin 2048) : val_main_v122 (F := Ideal) P G C N M (ix3 b t j) = (SP P G C N M b ⟨j.val / 256, by omega⟩).hn t ⟨j.val % 256, by omega⟩ := by
  have hb := b.isLt
  have ht := t.isLt
  have hj := j.isLt
  refine Eq.trans ?_ (nm_at P G C N M b ⟨j.val / 256, by omega⟩ t ⟨j.val % 256, by omega⟩)
  rw [val_main_v122_apply]
  refine congrArg (val_main_v121 (F := Ideal) P G C N M) (funext fun a => Fin.ext ?_)
  match a with
  | ⟨0, _⟩ => dsimp only [idx_main_v122, ix3, ix4]; omega
  | ⟨1, _⟩ => dsimp only [idx_main_v122, ix3, ix4]; omega
  | ⟨2, _⟩ => dsimp only [idx_main_v122, ix3, ix4]; omega
  | ⟨3, _⟩ => dsimp only [idx_main_v122, ix3, ix4]; omega

theorem gain_at (W : FVec Ideal S1x2048 .f32) (b : Fin 8) (t : Fin 4) (j : Fin 2048) : val_main_v125 (F := Ideal) W (ix3 b t j) = W (ix2 0 j) := by
  have hj := j.isLt
  simp only [val_main_v125_apply, val_main_v124_apply, val_main_v123_apply]
  refine congrArg W (funext fun a => Fin.ext ?_)
  match a with
  | ⟨0, _⟩ => rfl
  | ⟨1, _⟩ => dsimp only [idx_main_v125, idx_main_v124, idx_main_v123, ix3, ix2]; omega

theorem row_at (P : FVec Ideal S8256x6272 .f32) (G : FVec Ideal S1x16 .f32) (W : FVec Ideal S1x2048 .f32) (C : FVec Ideal S1x8x8x256x128 .f32) (N : FVec Ideal S1x8x8x128 .f32) (M : FVec Ideal S1x8x8 .f32) (b : Fin 8) (t : Fin 4) (j : Fin 2048) :
    val_main_v133 (F := Ideal) P G W C N M (ix3 b t j) = gate ((SP P G C N M b ⟨j.val / 256, by omega⟩).hn t ⟨j.val % 256, by omega⟩) (W (ix2 0 j)) (P (ix2 ⟨8192 + (b.val * 8 + t.val), by omega⟩ ⟨4096 + j.val, by omega⟩)) := by
  unfold gate
  pointwise [val_main_v133, val_main_v132, val_main_v131, val_main_v130, val_main_v129, val_main_v128, val_main_v127, val_main_v126, val_main_cst_10, val_main_cst_11, o_at, gain_at, flat_at P G C N M]
  rw [zero_sub]

theorem ref_Y (P : FVec Ideal S8256x6272 .f32) (G : FVec Ideal S1x16 .f32) (W : FVec Ideal S1x2048 .f32) (C : FVec Ideal S1x8x8x256x128 .f32) (N : FVec Ideal S1x8x8x128 .f32) (M : FVec Ideal S1x8x8 .f32) :
    val_main_v135 (F := Ideal) P G W C N M = finY P G W C N M := by
  funext i
  have h0 : (i 0).val < 64 := (i 0).isLt
  have h1 : (i 1).val < 2048 := (i 1).isLt
  have e : val_main_v135 (F := Ideal) P G W C N M i = val_main_v134 (F := Ideal) P G W C N M (ix3 ⟨(i 0).val / 8, by omega⟩ ⟨(i 0).val % 8, by omega⟩ ⟨(i 1).val, h1⟩) := by
    rw [val_main_v135_apply]
    refine congrArg (val_main_v134 (F := Ideal) P G W C N M) (funext fun a => Fin.ext ?_)
    match a with
    | ⟨0, _⟩ => show ((i 0).val * 2048 + (i 1).val) / 16384 = (i 0).val / 8; omega
    | ⟨1, _⟩ => show ((i 0).val * 2048 + (i 1).val) / 2048 % 8 = (i 0).val % 8; omega
    | ⟨2, _⟩ => show ((i 0).val * 2048 + (i 1).val) % 2048 = (i 1).val; omega
  refine e.trans ?_
  unfold finY
  have hz : (FloatOps.sitofp (F := Ideal) .f32 (0#32 : BitVec 32) : EReal) = 0 := by
    show (((0#32 : BitVec 32).toInt : ℝ) : EReal) = 0
    simp
  by_cases h : (i 0).val % 8 < 4
  · rw [dif_pos h]
    unfold val_main_v134
    refine (Idealize.ShloMosaic.pad_apply_of_inside _ _ _ _ _ _ _ _ (ix3 ⟨(i 0).val / 8, by omega⟩ ⟨(i 0).val % 8, h⟩ ⟨(i 1).val, h1⟩) (fun a => ?_)).trans ?_
    · match a with
      | ⟨0, _⟩ => show (i 0).val / 8 = 0 + (i 0).val / 8 * (0 + 1); omega
      | ⟨1, _⟩ => show (i 0).val % 8 = 0 + (i 0).val % 8 * (0 + 1); omega
      | ⟨2, _⟩ => show (i 1).val = 0 + (i 1).val * (0 + 1); omega
    · refine (row_at P G W C N M _ _ _).trans ?_
      refine congrArg (fun z => gate _ _ (P z)) (funext fun a => Fin.ext ?_)
      match a with
      | ⟨0, _⟩ => show 8192 + ((i 0).val / 8 * 8 + (i 0).val % 8) = 8192 + (i 0).val; omega
      | ⟨1, _⟩ => rfl
  · rw [dif_neg h]
    unfold val_main_v134
    refine (Idealize.ShloMosaic.pad_apply_of_not_inside _ _ _ _ _ _ _ _ (1 : Fin 3) (fun hin => h ?_)).trans hz
    have h3 : ((i 0).val % 8 - 0) / (0 + 1) < 4 := hin.2.2
    omega

end Cert.RefMlsIdeal.Tie

end
-- ==== Proof.Shift.Acc.lean ====
/- What the norm with token shift of the first RWKV layer leaves as its normalised rows, element by element, over the extended reals. -/
module

public import proofs.«01_k».proof.Proof.Gen.ShiftIdeal.Frame
public import Idealize.ShloMosaic.Lib.Pipeline.ValueKit
public import Idealize.ShloMosaic.Lib.Pipeline.ReadBack
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.ShiftIdeal.Acc

open Cert.ShiftIdeal Cert.ShiftIdeal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

theorem pay3_at (a : FVec Ideal S688x2048 .f32) (b : FVec Ideal S1x2048 .f32) (r : Fin 688) (k : Fin 2048) :
    k0_pay3 (F := Ideal) b a (ix2 r k) = nrm (fun l => a (ix2 r l)) (fun l => b (ix2 0 l)) k := by
  pointwise [k0_pay3, k0_pay2, nrm]

variable (m : (ℓ : Loc nD τ sig) → Buf (Elt Ideal) ℓ)

theorem idx : ∀ t : Fin cfg0.N, win0_0.index t = ![t.val, 0] ∧ win0_2.index t = ![0, 0] ∧ win0_4.index t = ![t.val, 0] ∧ t.val < 12 :=
  (by decide +kernel : ∀ t : Fin grid0.N, _)

/-- The array of normalised rows the call leaves. -/
def fin (X : FVec Ideal S8256x2048 .f32) (G : FVec Ideal S4x2048 .f32) : FVec Ideal S8256x2048 .f32 := fun i =>
  nrm (fun l => X (ix2 (i 0) l)) (fun l => G (ix2 0 l)) (i 1)

abbrev aX (c : Dev nD) : FVec Ideal S8256x2048 .f32 := m ((c : Thread nD τ).loc main_arg0)
abbrev aG (c : Dev nD) : FVec Ideal S4x2048 .f32 := m ((c : Thread nD τ).loc main_arg1)

theorem blk0 (c : Dev nD) (t : Fin cfg0.N) (r : Fin 688) (k : Fin 2048) :
    (iblk m c 0 t : FVec Ideal S688x2048 .f32) (ix2 r k) = aX m c (ix2 ⟨t.val * 688 + r.val, by have := (idx t).2.2.2; omega⟩ k) := by
  blk_point [iblk, V, idx t]

theorem blk2 (c : Dev nD) (t : Fin cfg0.N) (k : Fin 2048) :
    (iblk m c 2 t : FVec Ideal S1x2048 .f32) (ix2 0 k) = aG m c (ix2 0 k) := by
  blk_simp [iblk, idx t]
  entry_read
  pointwise
  blk_ext [idx t]

theorem outA (c : Dev nD) (t : Fin cfg0.N) : (outsAt0 m c t).1 = k0_pay3 (F := Ideal) (iblk m c 2 t) (iblk m c 0 t) := by
  unfold outsAt0; frame_out

/-- What a point leaves in its block. -/
theorem point (c : Dev nD) (t : Fin cfg0.N) (r : Fin 688) (d : Fin 2048) :
    (show FVec Ideal S688x2048 .f32 from (outsAt0 m c t).1) (ix2 r d)
      = fin (aX m c) (aG m c) (ix2 ⟨t.val * 688 + r.val, by have := (idx t).2.2.2; omega⟩ d) := by
  rw [outA m c t]
  refine (pay3_at (iblk m c 0 t) (iblk m c 2 t) r d).trans ?_
  unfold fin
  simp only [blk0 m c t, blk2 m c t]
  rfl

/-- The array after the run. -/
theorem final (c : Dev nD) : (dats m 0 c).arrAt 4 (cfgs 0).N = fin (aX m c) (aG m c) := by
  refine (dats m 0 c).arrAt_eq_of_covers 4 _ (by decide +kernel) fun t hf y => ?_
  blk_simp
  rw [after0_4]
  have e := point m c t (y 0) (y 1)
  revert e
  generalize (outsAt0 m c t).1 = z
  intro e
  refine Eq.trans ?_ (e.trans ?_)
  · blk_point
  · blk_ext [idx t]

end Cert.ShiftIdeal.Acc

end
-- ==== Proof.Shift.Ref.lean ====
/- The plain norm of the first RWKV layer's rows, element by element, is the array of normalised rows the call leaves. -/
module

public import proofs.«01_k».proof.Proof.Shift.Acc
public import proofs.«01_k».proof.Proof.Gen.RefShiftIdeal.Run
public import proofs.«01_k».proof.Proof.Gen.RefShiftIdeal.Read

@[expose] public section

set_option maxRecDepth 16384

noncomputable section

open Idealize.ShloMosaic Idealize.ShloMosaic.TcCoe Idealize.SL.Sem
open Idealize.ShloMosaic.Pipeline (Dat)

namespace Cert.RefShiftIdeal.Tie

open Cert.RefShiftIdeal Cert.RefShiftIdeal.Gen Cert.RefShiftIdeal.Read

theorem ref_eq (X : FVec Ideal S8256x2048 .f32) (G : FVec Ideal S4x2048 .f32) : val_main_v14 (F := Ideal) X G = Cert.ShiftIdeal.Acc.fin X G := by
  funext i
  idx_vars i
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.ShiftIdeal.Acc.fin, Cert.ShiftIdeal.Acc.nrm]

end Cert.RefShiftIdeal.Tie

end
-- ==== Proof.Shift1.Acc.lean ====
/- What the norm with token shift of the second RWKV layer leaves as its normalised rows, element by element, over the extended reals. -/
module

public import proofs.«01_k».proof.Proof.Gen.Shift1Ideal.Frame
public import Idealize.ShloMosaic.Lib.Pipeline.ValueKit
public import Idealize.ShloMosaic.Lib.Pipeline.ReadBack
public import Idealize.ShloMosaic.Lib.Routing.Ops

@[expose] public section

set_option maxRecDepth 16384

noncomputable section

open Idealize.ShloMosaic Idealize.ShloMosaic.TcCoe Idealize.SL.Sem
open Idealize.ShloMosaic.Pipeline (Dat)

namespace Cert.Shift1Ideal.Acc

open Cert.Shift1Ideal Cert.Shift1Ideal.Gen

/-- A row scaled by the inverse root of its mean square, times the gain. -/
def nrm (x : Fin 2048 → EReal) (g : Fin 2048 → EReal) (k : Fin 2048) : EReal :=
  x k * Ideal.rsqrt (Ideal.div (∑ l : Fin 2048, x l * x l) (Ideal.ofBits .f32 0x45000000#32) + Ideal.ofBits .f32 0x358637BD#32) * g k

theorem pay3_at (a : FVec Ideal S688x2048 .f32) (b : FVec Ideal S1x2048 .f32) (r : Fin 688) (k : Fin 2048) :
    k0_pay3 (F := Ideal) b a (ix2 r k) = nrm (fun l => a (ix2 r l)) (fun l => b (ix2 0 l)) k := by
  pointwise [k0_pay3, k0_pay2, nrm]

variable (m : (ℓ : Loc nD τ sig) → Buf (Elt Ideal) ℓ)

theorem idx : ∀ t : Fin cfg0.N, win0_0.index t = ![t.val, 0] ∧ win0_2.index t = ![0, 0] ∧ win0_4.index t = ![t.val, 0] ∧ t.val < 12 :=
  (by decide +kernel : ∀ t : Fin grid0.N, _)

/-- The array of normalised rows the call leaves. -/
def fin (X : FVec Ideal S8256x2048 .f32) (G : FVec Ideal S4x2048 .f32) : FVec Ideal S8256x2048 .f32 := fun i =>
  nrm (fun l => X (ix2 (i 0) l)) (fun l => G (ix2 3 l)) (i 1)

abbrev aX (c : Dev nD) : FVec Ideal S8256x2048 .f32 := m ((c : Thread nD τ).loc main_arg0)
abbrev aG (c : Dev nD) : FVec Ideal S4x2048 .f32 := m ((c : Thread nD τ).loc main_arg1)

theorem blk0 (c : Dev nD) (t : Fin cfg0.N) (r : Fin 688) (k : Fin 2048) :
    (iblk m c 0 t : FVec Ideal S688x2048 .f32) (ix2 r k) = aX m c (ix2 ⟨t.val * 688 + r.val, by have := (idx t).2.2.2; omega⟩ k) := by
  blk_point [iblk, V, idx t]

theorem blk2 (c : Dev nD) (t : Fin cfg0.N) (k : Fin 2048) :
    (iblk m c 2 t : FVec Ideal S1x2048 .f32) (ix2 0 k) = aG m c (ix2 3 k) := by
  blk_simp [iblk, idx t]
  entry_read
  pointwise
  blk_ext [idx t]

theorem outA (c : Dev nD) (t : Fin cfg0.N) : (outsAt0 m c t).1 = k0_pay3 (F := Ideal) (iblk m c 2 t) (iblk m c 0 t) := by
  unfold outsAt0; frame_out

/-- What a point leaves in its block. -/
theorem point (c : Dev nD) (t : Fin cfg0.N) (r : Fin 688) (d : Fin 2048) :
    (show FVec Ideal S688x2048 .f32 from (outsAt0 m c t).1) (ix2 r d)
      = fin (aX m c) (aG m c) (ix2 ⟨t.val * 688 + r.val, by have := (idx t).2.2.2; omega⟩ d) := by
  rw [outA m c t]
  refine (pay3_at (iblk m c 0 t) (iblk m c 2 t) r d).trans ?_
  unfold fin
  simp only [blk0 m c t, blk2 m c t]
  rfl

/-- The array after the run. -/
theorem final (c : Dev nD) : (dats m 0 c).arrAt 4 (cfgs 0).N = fin (aX m c) (aG m c) := by
  refine (dats m 0 c).arrAt_eq_of_covers 4 _ (by decide +kernel) fun t hf y => ?_
  blk_simp
  rw [after0_4]
  have e := point m c t (y 0) (y 1)
  revert e
  generalize (outsAt0 m c t).1 = z
  intro e
  refine Eq.trans ?_ (e.trans ?_)
  · blk_point
  · blk_ext [idx t]

end Cert.Shift1Ideal.Acc

end
-- ==== Proof.Shift1.Ref.lean ====
/- The plain norm of the second RWKV layer's rows, element by element, is the array of normalised rows the call leaves. -/
module

public import proofs.«01_k».proof.Proof.Shift1.Acc
public import proofs.«01_k».proof.Proof.Gen.RefShift1Ideal.Run
public import proofs.«01_k».proof.Proof.Gen.RefShift1Ideal.Read

@[expose] public section

set_option maxRecDepth 16384

noncomputable section

open Idealize.ShloMosaic Idealize.ShloMosaic.TcCoe Idealize.SL.Sem
open Idealize.ShloMosaic.Pipeline (Dat)

namespace Cert.RefShift1Ideal.Tie

open Cert.RefShift1Ideal Cert.RefShift1Ideal.Gen Cert.RefShift1Ideal.Read

theorem ref_eq (X : FVec Ideal S8256x2048 .f32) (G : FVec Ideal S4x2048 .f32) : val_main_v14 (F := Ideal) X G = Cert.Shift1Ideal.Acc.fin X G := by
  funext i
  idx_vars i
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.Shift1Ideal.Acc.fin, Cert.Shift1Ideal.Acc.nrm]

end Cert.RefShift1Ideal.Tie

end
-- ==== Proof.lean ====
module

public import proofs.«01_k».proof.Defs
public import proofs.«01_k».proof.Proof.Gen.Ffn.Frame
public import proofs.«01_k».proof.Proof.Gen.FfnIdeal.Value
public import proofs.«01_k».proof.Proof.Gen.RefFfnIdeal.Run
public import proofs.«01_k».proof.Proof.Gen.RefFfnIdeal.Read
public import proofs.«01_k».proof.Proof.Ffn.Ref
public import proofs.«01_k».proof.Proof.Gen.Ffn1.Frame
public import proofs.«01_k».proof.Proof.Gen.Ffn1Ideal.Value
public import proofs.«01_k».proof.Proof.Gen.RefFfn1Ideal.Run
public import proofs.«01_k».proof.Proof.Gen.RefFfn1Ideal.Read
public import proofs.«01_k».proof.Proof.Ffn1.Ref
public import proofs.«01_k».proof.Proof.Gen.Ffn2.Frame
public import proofs.«01_k».proof.Proof.Gen.Ffn2Ideal.Value
public import proofs.«01_k».proof.Proof.Gen.RefFfn2Ideal.Run
public import proofs.«01_k».proof.Proof.Gen.RefFfn2Ideal.Read
public import proofs.«01_k».proof.Proof.Ffn2.Ref
public import proofs.«01_k».proof.Proof.Gen.Ffn3.Frame
public import proofs.«01_k».proof.Proof.Gen.Ffn3Ideal.Value
public import proofs.«01_k».proof.Proof.Gen.RefFfn3Ideal.Run
public import proofs.«01_k».proof.Proof.Gen.RefFfn3Ideal.Read
public import proofs.«01_k».proof.Proof.Ffn3.Ref
public import proofs.«01_k».proof.Proof.Gen.Qkv.Frame
public import proofs.«01_k».proof.Proof.Gen.QkvIdeal.Value
public import proofs.«01_k».proof.Proof.Gen.RefQkvIdeal.Run
public import proofs.«01_k».proof.Proof.Gen.RefQkvIdeal.Read
public import proofs.«01_k».proof.Proof.Qkv.Ref
public import proofs.«01_k».proof.Proof.Gen.Cin.Frame
public import proofs.«01_k».proof.Proof.Gen.CinIdeal.Value
public import proofs.«01_k».proof.Proof.Gen.RefCinIdeal.Run
public import proofs.«01_k».proof.Proof.Gen.RefCinIdeal.Read
public import proofs.«01_k».proof.Proof.Cin.Ref
public import proofs.«01_k».proof.Proof.Gen.Rkv.Frame
public import proofs.«01_k».proof.Proof.Gen.RkvIdeal.Value
public import proofs.«01_k».proof.Proof.Gen.RefRkvIdeal.Run
public import proofs.«01_k».proof.Proof.Gen.RefRkvIdeal.Read
public import proofs.«01_k».proof.Proof.Rkv.Ref
public import proofs.«01_k».proof.Proof.Gen.Rkv1.Frame
public import proofs.«01_k».proof.Proof.Gen.Rkv1Ideal.Value
public import proofs.«01_k».proof.Proof.Gen.RefRkv1Ideal.Run
public import proofs.«01_k».proof.Proof.Gen.RefRkv1Ideal.Read
public import proofs.«01_k».proof.Proof.Rkv1.Ref
public import proofs.«01_k».proof.Proof.Gen.NormP.Frame
public import proofs.«01_k».proof.Proof.Gen.NormPIdeal.Value
public import proofs.«01_k».proof.Proof.Gen.RefNormPIdeal.Run
public import proofs.«01_k».proof.Proof.Gen.RefNormPIdeal.Read
public import proofs.«01_k».proof.Proof.NormP.Ref
public import proofs.«01_k».proof.Proof.Gen.NormS.Frame
public import proofs.«01_k».proof.Proof.Gen.NormSIdeal.Value
public import proofs.«01_k».proof.Proof.Gen.RefNormSIdeal.Run
public import proofs.«01_k».proof.Proof.Gen.RefNormSIdeal.Read
public import proofs.«01_k».proof.Proof.NormS.Ref
public import proofs.«01_k».proof.Proof.Gen.Mls.Frame
public import proofs.«01_k».proof.Proof.Gen.MlsIdeal.Value
public import proofs.«01_k».proof.Proof.Gen.RefMlsIdeal.Run
public import proofs.«01_k».proof.Proof.Gen.RefMlsIdeal.Read
public import proofs.«01_k».proof.Proof.Mls.Fin
public import proofs.«01_k».proof.Proof.Mls.Ref4
public import proofs.«01_k».proof.Proof.Gen.Shift.Frame
public import proofs.«01_k».proof.Proof.Gen.ShiftIdeal.Value
public import proofs.«01_k».proof.Proof.Gen.RefShiftIdeal.Run
public import proofs.«01_k».proof.Proof.Gen.RefShiftIdeal.Read
public import proofs.«01_k».proof.Proof.Shift.Ref
public import proofs.«01_k».proof.Proof.Gen.Shift1.Frame
public import proofs.«01_k».proof.Proof.Gen.Shift1Ideal.Value
public import proofs.«01_k».proof.Proof.Gen.RefShift1Ideal.Run
public import proofs.«01_k».proof.Proof.Gen.RefShift1Ideal.Read
public import proofs.«01_k».proof.Proof.Shift1.Ref
public import Idealize.ShloMosaic.Lib.Claim
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The plain feed-forward block of layer 0 runs, leaves its arguments as they were, and has no semaphore to leave. -/
theorem frame_ref_ffn : Cert.quiescent_RefFfnIdeal := fun m ρ _ =>
  (θ_run Cert.RefFfnIdeal.defs _ _).mono (fun r h => ⟨fun c => (h c).2,
      Idealize.ShloMosaic.sem_eq_zero_of_no_sems (by decide) r.2⟩)
    (Cert.RefFfnIdeal.Value.run (F := Ideal) m ρ)

/-- The kernel's array is that of the plain feed-forward block of layer 0, element by element. -/
theorem algebraic_ffn : Cert.algebraic_FfnIdeal_RefFfnIdeal := by
  intro m g m' g' _ hagree
  refine ⟨fun c => Cert.FfnIdeal.Acc.fin (Cert.FfnIdeal.Acc.aX m c) (Cert.FfnIdeal.Acc.aG m c) (Cert.FfnIdeal.Acc.aW m c) (Cert.FfnIdeal.Acc.aO m c), ?_, ?_⟩
  · exact (θ_run Cert.FfnIdeal.defs _ _).mono (fun r h c => ⟨(h c).1.trans (Cert.FfnIdeal.Acc.final m c), (h c).2⟩)
      (Cert.FfnIdeal.Value.run_blocks (F := Ideal) m g)
  · refine (θ_run Cert.RefFfnIdeal.defs _ _).mono (fun r h c => ⟨(h c).1.trans ?_, (h c).2⟩) (Cert.RefFfnIdeal.Value.run (F := Ideal) m' g')
    obtain ⟨e0, e1, e2, e3⟩ := hagree c
    rw [e0, e1, e2, e3]
    exact (Cert.RefFfnIdeal.Read.val_main_v27_eq _ _ _ _).trans (Cert.RefFfnIdeal.Tie.ref_eq _ _ _ _)

/-- The plain feed-forward block of layer 1 runs, leaves its arguments as they were, and has no semaphore to leave. -/
theorem frame_ref_ffn1 : Cert.quiescent_RefFfn1Ideal := fun m ρ _ =>
  (θ_run Cert.RefFfn1Ideal.defs _ _).mono (fun r h => ⟨fun c => (h c).2,
      Idealize.ShloMosaic.sem_eq_zero_of_no_sems (by decide) r.2⟩)
    (Cert.RefFfn1Ideal.Value.run (F := Ideal) m ρ)

/-- The kernel's array is that of the plain feed-forward block of layer 1, element by element. -/
theorem algebraic_ffn1 : Cert.algebraic_Ffn1Ideal_RefFfn1Ideal := by
  intro m g m' g' _ hagree
  refine ⟨fun c => Cert.Ffn1Ideal.Acc.fin (Cert.Ffn1Ideal.Acc.aX m c) (Cert.Ffn1Ideal.Acc.aG m c) (Cert.Ffn1Ideal.Acc.aW m c) (Cert.Ffn1Ideal.Acc.aO m c), ?_, ?_⟩
  · exact (θ_run Cert.Ffn1Ideal.defs _ _).mono (fun r h c => ⟨(h c).1.trans (Cert.Ffn1Ideal.Acc.final m c), (h c).2⟩)
      (Cert.Ffn1Ideal.Value.run_blocks (F := Ideal) m g)
  · refine (θ_run Cert.RefFfn1Ideal.defs _ _).mono (fun r h c => ⟨(h c).1.trans ?_, (h c).2⟩) (Cert.RefFfn1Ideal.Value.run (F := Ideal) m' g')
    obtain ⟨e0, e1, e2, e3⟩ := hagree c
    rw [e0, e1, e2, e3]
    exact (Cert.RefFfn1Ideal.Read.val_main_v27_eq _ _ _ _).trans (Cert.RefFfn1Ideal.Tie.ref_eq _ _ _ _)

/-- The plain feed-forward block of layer 2 runs, leaves its arguments as they were, and has no semaphore to leave. -/
theorem frame_ref_ffn2 : Cert.quiescent_RefFfn2Ideal := fun m ρ _ =>
  (θ_run Cert.RefFfn2Ideal.defs _ _).mono (fun r h => ⟨fun c => (h c).2,
      Idealize.ShloMosaic.sem_eq_zero_of_no_sems (by decide) r.2⟩)
    (Cert.RefFfn2Ideal.Value.run (F := Ideal) m ρ)

/-- The kernel's array is that of the plain feed-forward block of layer 2, element by element. -/
theorem algebraic_ffn2 : Cert.algebraic_Ffn2Ideal_RefFfn2Ideal := by
  intro m g m' g' _ hagree
  refine ⟨fun c => Cert.Ffn2Ideal.Acc.fin (Cert.Ffn2Ideal.Acc.aX m c) (Cert.Ffn2Ideal.Acc.aG m c) (Cert.Ffn2Ideal.Acc.aW m c) (Cert.Ffn2Ideal.Acc.aO m c), ?_, ?_⟩
  · exact (θ_run Cert.Ffn2Ideal.defs _ _).mono (fun r h c => ⟨(h c).1.trans (Cert.Ffn2Ideal.Acc.final m c), (h c).2⟩)
      (Cert.Ffn2Ideal.Value.run_blocks (F := Ideal) m g)
  · refine (θ_run Cert.RefFfn2Ideal.defs _ _).mono (fun r h c => ⟨(h c).1.trans ?_, (h c).2⟩) (Cert.RefFfn2Ideal.Value.run (F := Ideal) m' g')
    obtain ⟨e0, e1, e2, e3⟩ := hagree c
    rw [e0, e1, e2, e3]
    exact (Cert.RefFfn2Ideal.Read.val_main_v27_eq _ _ _ _).trans (Cert.RefFfn2Ideal.Tie.ref_eq _ _ _ _)

/-- The plain feed-forward block of layer 3 runs, leaves its arguments as they were, and has no semaphore to leave. -/
theorem frame_ref_ffn3 : Cert.quiescent_RefFfn3Ideal := fun m ρ _ =>
  (θ_run Cert.RefFfn3Ideal.defs _ _).mono (fun r h => ⟨fun c => (h c).2,
      Idealize.ShloMosaic.sem_eq_zero_of_no_sems (by decide) r.2⟩)
    (Cert.RefFfn3Ideal.Value.run (F := Ideal) m ρ)

/-- The kernel's array is that of the plain feed-forward block of layer 3, element by element. -/
theorem algebraic_ffn3 : Cert.algebraic_Ffn3Ideal_RefFfn3Ideal := by
  intro m g m' g' _ hagree
  refine ⟨fun c => Cert.Ffn3Ideal.Acc.fin (Cert.Ffn3Ideal.Acc.aX m c) (Cert.Ffn3Ideal.Acc.aG m c) (Cert.Ffn3Ideal.Acc.aW m c) (Cert.Ffn3Ideal.Acc.aO m c), ?_, ?_⟩
  · exact (θ_run Cert.Ffn3Ideal.defs _ _).mono (fun r h c => ⟨(h c).1.trans (Cert.Ffn3Ideal.Acc.final m c), (h c).2⟩)
      (Cert.Ffn3Ideal.Value.run_blocks (F := Ideal) m g)
  · refine (θ_run Cert.RefFfn3Ideal.defs _ _).mono (fun r h c => ⟨(h c).1.trans ?_, (h c).2⟩) (Cert.RefFfn3Ideal.Value.run (F := Ideal) m' g')
    obtain ⟨e0, e1, e2, e3⟩ := hagree c
    rw [e0, e1, e2, e3]
    exact (Cert.RefFfn3Ideal.Read.val_main_v27_eq _ _ _ _).trans (Cert.RefFfn3Ideal.Tie.ref_eq _ _ _ _)

/-- The plain query/key/value projection runs, leaves its arguments as they were, and has no semaphore to leave. -/
theorem frame_ref_qkv : Cert.quiescent_RefQkvIdeal := fun m ρ _ =>
  (θ_run Cert.RefQkvIdeal.defs _ _).mono (fun r h => ⟨fun c => (h c).2,
      Idealize.ShloMosaic.sem_eq_zero_of_no_sems (by decide) r.2⟩)
    (Cert.RefQkvIdeal.Value.run (F := Ideal) m ρ)

/-- The kernel's array is that of the plain query/key/value projection, element by element. -/
theorem algebraic_qkv : Cert.algebraic_QkvIdeal_RefQkvIdeal := by
  intro m g m' g' _ hagree
  refine ⟨fun c => Cert.QkvIdeal.Acc.fin (Cert.QkvIdeal.Acc.aX m c) (Cert.QkvIdeal.Acc.aG m c) (Cert.QkvIdeal.Acc.aW m c), ?_, ?_⟩
  · exact (θ_run Cert.QkvIdeal.defs _ _).mono (fun r h c => ⟨(h c).1.trans (Cert.QkvIdeal.Acc.final m c), (h c).2⟩)
      (Cert.QkvIdeal.Value.run_blocks (F := Ideal) m g)
  · refine (θ_run Cert.RefQkvIdeal.defs _ _).mono (fun r h c => ⟨(h c).1.trans ?_, (h c).2⟩) (Cert.RefQkvIdeal.Value.run (F := Ideal) m' g')
    obtain ⟨e0, e1, e2⟩ := hagree c
    rw [e0, e1, e2]
    exact (Cert.RefQkvIdeal.Read.val_main_v16_eq _ _ _).trans (Cert.RefQkvIdeal.Tie.ref_eq _ _ _)

/-- The plain input projection of the mLSTM runs, leaves its arguments as they were, and has no semaphore to leave. -/
theorem frame_ref_cin : Cert.quiescent_RefCinIdeal := fun m ρ _ =>
  (θ_run Cert.RefCinIdeal.defs _ _).mono (fun r h => ⟨fun c => (h c).2,
      Idealize.ShloMosaic.sem_eq_zero_of_no_sems (by decide) r.2⟩)
    (Cert.RefCinIdeal.Value.run (F := Ideal) m ρ)

/-- The kernel's array is that of the plain input projection of the mLSTM, element by element. -/
theorem algebraic_cin : Cert.algebraic_CinIdeal_RefCinIdeal := by
  intro m g m' g' _ hagree
  refine ⟨fun c => Cert.CinIdeal.Acc.fin (Cert.CinIdeal.Acc.aX m c) (Cert.CinIdeal.Acc.aG m c) (Cert.CinIdeal.Acc.aW m c), ?_, ?_⟩
  · exact (θ_run Cert.CinIdeal.defs _ _).mono (fun r h c => ⟨(h c).1.trans (Cert.CinIdeal.Acc.final m c), (h c).2⟩)
      (Cert.CinIdeal.Value.run_blocks (F := Ideal) m g)
  · refine (θ_run Cert.RefCinIdeal.defs _ _).mono (fun r h c => ⟨(h c).1.trans ?_, (h c).2⟩) (Cert.RefCinIdeal.Value.run (F := Ideal) m' g')
    obtain ⟨e0, e1, e2⟩ := hagree c
    rw [e0, e1, e2]
    exact (Cert.RefCinIdeal.Read.val_main_v17_eq _ _ _).trans (Cert.RefCinIdeal.Tie.ref_eq _ _ _)

/-- The plain first receptance/key/value projection runs, leaves its arguments as they were, and has no semaphore to leave. -/
theorem frame_ref_rkv : Cert.quiescent_RefRkvIdeal := fun m ρ _ =>
  (θ_run Cert.RefRkvIdeal.defs _ _).mono (fun r h => ⟨fun c => (h c).2,
      Idealize.ShloMosaic.sem_eq_zero_of_no_sems (by decide) r.2⟩)
    (Cert.RefRkvIdeal.Value.run (F := Ideal) m ρ)

/-- The kernel's array is that of the plain first receptance/key/value projection, element by element. -/
theorem algebraic_rkv : Cert.algebraic_RkvIdeal_RefRkvIdeal := by
  intro m g m' g' _ hagree
  refine ⟨fun c => Cert.RkvIdeal.Acc.fin (Cert.RkvIdeal.Acc.aU m c) (Cert.RkvIdeal.Acc.aP m c) (Cert.RkvIdeal.Acc.aM m c) (Cert.RkvIdeal.Acc.aW m c), ?_, ?_⟩
  · exact (θ_run Cert.RkvIdeal.defs _ _).mono (fun r h c => ⟨(h c).1.trans (Cert.RkvIdeal.Acc.final m c), (h c).2⟩)
      (Cert.RkvIdeal.Value.run_blocks (F := Ideal) m g)
  · refine (θ_run Cert.RefRkvIdeal.defs _ _).mono (fun r h c => ⟨(h c).1.trans ?_, (h c).2⟩) (Cert.RefRkvIdeal.Value.run (F := Ideal) m' g')
    obtain ⟨e0, e1, e2, e3⟩ := hagree c
    rw [e0, e1, e2, e3]
    exact (Cert.RefRkvIdeal.Read.val_main_v27_eq _ _ _ _).trans (Cert.RefRkvIdeal.Tie.ref_eq _ _ _ _)

/-- The plain second receptance/key/value projection runs, leaves its arguments as they were, and has no semaphore to leave. -/
theorem frame_ref_rkv1 : Cert.quiescent_RefRkv1Ideal := fun m ρ _ =>
  (θ_run Cert.RefRkv1Ideal.defs _ _).mono (fun r h => ⟨fun c => (h c).2,
      Idealize.ShloMosaic.sem_eq_zero_of_no_sems (by decide) r.2⟩)
    (Cert.RefRkv1Ideal.Value.run (F := Ideal) m ρ)

/-- The kernel's array is that of the plain second receptance/key/value projection, element by element. -/
theorem algebraic_rkv1 : Cert.algebraic_Rkv1Ideal_RefRkv1Ideal := by
  intro m g m' g' _ hagree
  refine ⟨fun c => Cert.Rkv1Ideal.Acc.fin (Cert.Rkv1Ideal.Acc.aU m c) (Cert.Rkv1Ideal.Acc.aP m c) (Cert.Rkv1Ideal.Acc.aM m c) (Cert.Rkv1Ideal.Acc.aW m c), ?_, ?_⟩
  · exact (θ_run Cert.Rkv1Ideal.defs _ _).mono (fun r h c => ⟨(h c).1.trans (Cert.Rkv1Ideal.Acc.final m c), (h c).2⟩)
      (Cert.Rkv1Ideal.Value.run_blocks (F := Ideal) m g)
  · refine (θ_run Cert.RefRkv1Ideal.defs _ _).mono (fun r h c => ⟨(h c).1.trans ?_, (h c).2⟩) (Cert.RefRkv1Ideal.Value.run (F := Ideal) m' g')
    obtain ⟨e0, e1, e2, e3⟩ := hagree c
    rw [e0, e1, e2, e3]
    exact (Cert.RefRkv1Ideal.Read.val_main_v27_eq _ _ _ _).trans (Cert.RefRkv1Ideal.Tie.ref_eq _ _ _ _)

/-- The plain final norm of the prompt rows runs, leaves its arguments as they were, and has no semaphore to leave. -/
theorem frame_ref_normp : Cert.quiescent_RefNormPIdeal := fun m ρ _ =>
  (θ_run Cert.RefNormPIdeal.defs _ _).mono (fun r h => ⟨fun c => (h c).2,
      Idealize.ShloMosaic.sem_eq_zero_of_no_sems (by decide) r.2⟩)
    (Cert.RefNormPIdeal.Value.run (F := Ideal) m ρ)

/-- The kernel's array is that of the plain final norm of the prompt rows, element by element. -/
theorem algebraic_normp : Cert.algebraic_NormPIdeal_RefNormPIdeal := by
  intro m g m' g' _ hagree
  refine ⟨fun c => Cert.NormPIdeal.Acc.fin (Cert.NormPIdeal.Acc.aX m c) (Cert.NormPIdeal.Acc.aG m c), ?_, ?_⟩
  · exact (θ_run Cert.NormPIdeal.defs _ _).mono (fun r h c => ⟨(h c).1.trans (Cert.NormPIdeal.Acc.final m c), (h c).2⟩)
      (Cert.NormPIdeal.Value.run_blocks (F := Ideal) m g)
  · refine (θ_run Cert.RefNormPIdeal.defs _ _).mono (fun r h c => ⟨(h c).1.trans ?_, (h c).2⟩) (Cert.RefNormPIdeal.Value.run (F := Ideal) m' g')
    obtain ⟨e0, e1⟩ := hagree c
    rw [e0, e1]
    exact (Cert.RefNormPIdeal.Read.val_main_v13_eq _ _).trans (Cert.RefNormPIdeal.Tie.ref_eq _ _)

/-- The plain final norm of the sample rows runs, leaves its arguments as they were, and has no semaphore to leave. -/
theorem frame_ref_norms : Cert.quiescent_RefNormSIdeal := fun m ρ _ =>
  (θ_run Cert.RefNormSIdeal.defs _ _).mono (fun r h => ⟨fun c => (h c).2,
      Idealize.ShloMosaic.sem_eq_zero_of_no_sems (by decide) r.2⟩)
    (Cert.RefNormSIdeal.Value.run (F := Ideal) m ρ)

/-- The kernel's array is that of the plain final norm of the sample rows, element by element. -/
theorem algebraic_norms : Cert.algebraic_NormSIdeal_RefNormSIdeal := by
  intro m g m' g' _ hagree
  refine ⟨fun c => Cert.NormSIdeal.Acc.fin (Cert.NormSIdeal.Acc.aX m c) (Cert.NormSIdeal.Acc.aG m c), ?_, ?_⟩
  · exact (θ_run Cert.NormSIdeal.defs _ _).mono (fun r h c => ⟨(h c).1.trans (Cert.NormSIdeal.Acc.final m c), (h c).2⟩)
      (Cert.NormSIdeal.Value.run_blocks (F := Ideal) m g)
  · refine (θ_run Cert.RefNormSIdeal.defs _ _).mono (fun r h c => ⟨(h c).1.trans ?_, (h c).2⟩) (Cert.RefNormSIdeal.Value.run (F := Ideal) m' g')
    obtain ⟨e0, e1⟩ := hagree c
    rw [e0, e1]
    exact (Cert.RefNormSIdeal.Read.val_main_v13_eq _ _).trans (Cert.RefNormSIdeal.Tie.ref_eq _ _)

/-- The plain chunk step runs, leaves its arguments as they were, and has no semaphore to leave. -/
theorem frame_ref_mls : Cert.quiescent_RefMlsIdeal := fun m ρ _ =>
  (θ_run Cert.RefMlsIdeal.defs _ _).mono (fun r h => ⟨fun c => (h c).2.2.2.2,
      Idealize.ShloMosaic.sem_eq_zero_of_no_sems (by decide) r.2⟩)
    (Cert.RefMlsIdeal.Value.run (F := Ideal) m ρ)

/-- The kernel's read-outs and its three new states are those of the plain chunk step, element by element. -/
theorem algebraic_mls : Cert.algebraic_MlsIdeal_RefMlsIdeal := by
  intro m g m' g' _ hagree
  refine ⟨fun c => Cert.MlsIdeal.Acc.fY m c, fun c => Cert.MlsIdeal.Acc.fC m c, fun c => Cert.MlsIdeal.Acc.fN m c, fun c => Cert.MlsIdeal.Acc.fM m c, ?_, ?_⟩
  · exact (θ_run Cert.MlsIdeal.defs _ _).mono (fun r h c => ⟨(h c).1.trans (Cert.MlsIdeal.Acc.final10 m c), (h c).2.1.trans (Cert.MlsIdeal.Acc.final11 m c),
        (h c).2.2.1.trans (Cert.MlsIdeal.Acc.final12 m c), (h c).2.2.2.1.trans (Cert.MlsIdeal.Acc.final13 m c), (h c).2.2.2.2⟩)
      (Cert.MlsIdeal.Value.run_blocks (F := Ideal) m g)
  · refine (θ_run Cert.RefMlsIdeal.defs _ _).mono (fun r h c => ⟨(h c).1.trans ?_, (h c).2.1.trans ?_, (h c).2.2.1.trans ?_, (h c).2.2.2.1.trans ?_, (h c).2.2.2.2⟩) (Cert.RefMlsIdeal.Value.run (F := Ideal) m' g')
    · obtain ⟨e0, e1, e2, e3, e4, e5⟩ := hagree c
      refine (Cert.RefMlsIdeal.Read.val_main_v135_eq _).trans (Eq.trans ?_ (Cert.RefMlsIdeal.Tie.ref_Y (Cert.MlsIdeal.Acc.aP m c) (Cert.MlsIdeal.Acc.aG m c) (Cert.MlsIdeal.Acc.aW m c) (Cert.MlsIdeal.Acc.aC m c) (Cert.MlsIdeal.Acc.aN m c) (Cert.MlsIdeal.Acc.aM m c)))
      show Cert.RefMlsIdeal.Read.val_main_v135 (F := Ideal) (m' ((c.tc : Thread Cert.RefMlsIdeal.nD Cert.RefMlsIdeal.τ).loc Cert.RefMlsIdeal.main_arg0)) (m' ((c.tc : Thread Cert.RefMlsIdeal.nD Cert.RefMlsIdeal.τ).loc Cert.RefMlsIdeal.main_arg1)) (m' ((c.tc : Thread Cert.RefMlsIdeal.nD Cert.RefMlsIdeal.τ).loc Cert.RefMlsIdeal.main_arg2)) (m' ((c.tc : Thread Cert.RefMlsIdeal.nD Cert.RefMlsIdeal.τ).loc Cert.RefMlsIdeal.main_arg3)) (m' ((c.tc : Thread Cert.RefMlsIdeal.nD Cert.RefMlsIdeal.τ).loc Cert.RefMlsIdeal.main_arg4)) (m' ((c.tc : Thread Cert.RefMlsIdeal.nD Cert.RefMlsIdeal.τ).loc Cert.RefMlsIdeal.main_arg5)) = _
      rw [e0, e1, e2, e3, e4, e5]
    · obtain ⟨e0, e1, e2, e3, e4, e5⟩ := hagree c
      refine (Cert.RefMlsIdeal.Read.val_main_v106_eq _).trans (Eq.trans ?_ (Cert.RefMlsIdeal.Tie.ref_C (Cert.MlsIdeal.Acc.aP m c) (Cert.MlsIdeal.Acc.aG m c) (Cert.MlsIdeal.Acc.aC m c) (Cert.MlsIdeal.Acc.aN m c) (Cert.MlsIdeal.Acc.aM m c)))
      show Cert.RefMlsIdeal.Read.val_main_v106 (F := Ideal) (m' ((c.tc : Thread Cert.RefMlsIdeal.nD Cert.RefMlsIdeal.τ).loc Cert.RefMlsIdeal.main_arg0)) (m' ((c.tc : Thread Cert.RefMlsIdeal.nD Cert.RefMlsIdeal.τ).loc Cert.RefMlsIdeal.main_arg1)) (m' ((c.tc : Thread Cert.RefMlsIdeal.nD Cert.RefMlsIdeal.τ).loc Cert.RefMlsIdeal.main_arg3)) (m' ((c.tc : Thread Cert.RefMlsIdeal.nD Cert.RefMlsIdeal.τ).loc Cert.RefMlsIdeal.main_arg5)) = _
      rw [e0, e1, e3, e5]
    · obtain ⟨e0, e1, e2, e3, e4, e5⟩ := hagree c
      refine (Cert.RefMlsIdeal.Read.val_main_v111_eq _).trans (Eq.trans ?_ (Cert.RefMlsIdeal.Tie.ref_N (Cert.MlsIdeal.Acc.aP m c) (Cert.MlsIdeal.Acc.aG m c) (Cert.MlsIdeal.Acc.aC m c) (Cert.MlsIdeal.Acc.aN m c) (Cert.MlsIdeal.Acc.aM m c)))
      show Cert.RefMlsIdeal.Read.val_main_v111 (F := Ideal) (m' ((c.tc : Thread Cert.RefMlsIdeal.nD Cert.RefMlsIdeal.τ).loc Cert.RefMlsIdeal.main_arg0)) (m' ((c.tc : Thread Cert.RefMlsIdeal.nD Cert.RefMlsIdeal.τ).loc Cert.RefMlsIdeal.main_arg1)) (m' ((c.tc : Thread Cert.RefMlsIdeal.nD Cert.RefMlsIdeal.τ).loc Cert.RefMlsIdeal.main_arg4)) (m' ((c.tc : Thread Cert.RefMlsIdeal.nD Cert.RefMlsIdeal.τ).loc Cert.RefMlsIdeal.main_arg5)) = _
      rw [e0, e1, e4, e5]
    · obtain ⟨e0, e1, e2, e3, e4, e5⟩ := hagree c
      refine (Cert.RefMlsIdeal.Read.val_main_v137_eq _).trans (Eq.trans ?_ (Cert.RefMlsIdeal.Tie.ref_M (Cert.MlsIdeal.Acc.aP m c) (Cert.MlsIdeal.Acc.aG m c) (Cert.MlsIdeal.Acc.aC m c) (Cert.MlsIdeal.Acc.aN m c) (Cert.MlsIdeal.Acc.aM m c)))
      show Cert.RefMlsIdeal.Read.val_main_v137 (F := Ideal) (m' ((c.tc : Thread Cert.RefMlsIdeal.nD Cert.RefMlsIdeal.τ).loc Cert.RefMlsIdeal.main_arg0)) (m' ((c.tc : Thread Cert.RefMlsIdeal.nD Cert.RefMlsIdeal.τ).loc Cert.RefMlsIdeal.main_arg1)) (m' ((c.tc : Thread Cert.RefMlsIdeal.nD Cert.RefMlsIdeal.τ).loc Cert.RefMlsIdeal.main_arg5)) = _
      rw [e0, e1, e5]

/-- The plain norm of the first RWKV layer runs, leaves its arguments as they were, and has no semaphore to leave. -/
theorem frame_ref_shift : Cert.quiescent_RefShiftIdeal := fun m ρ _ =>
  (θ_run Cert.RefShiftIdeal.defs _ _).mono (fun r h => ⟨fun c => (h c).2,
      Idealize.ShloMosaic.sem_eq_zero_of_no_sems (by decide) r.2⟩)
    (Cert.RefShiftIdeal.Value.run (F := Ideal) m ρ)

/-- The kernel's array is that of the plain norm of the first RWKV layer, element by element. -/
theorem algebraic_shift : Cert.algebraic_ShiftIdeal_RefShiftIdeal := by
  intro m g m' g' _ hagree
  refine ⟨fun c => Cert.ShiftIdeal.Acc.fin (Cert.ShiftIdeal.Acc.aX m c) (Cert.ShiftIdeal.Acc.aG m c), ?_, ?_⟩
  · exact (θ_run Cert.ShiftIdeal.defs _ _).mono (fun r h c => ⟨(h c).1.trans (Cert.ShiftIdeal.Acc.final m c), (h c).2.2⟩)
      (Cert.ShiftIdeal.Value.run_blocks (F := Ideal) m g)
  · refine (θ_run Cert.RefShiftIdeal.defs _ _).mono (fun r h c => ⟨(h c).1.trans ?_, (h c).2⟩) (Cert.RefShiftIdeal.Value.run (F := Ideal) m' g')
    obtain ⟨e0, e1, e2⟩ := hagree c
    rw [e0, e1]
    exact (Cert.RefShiftIdeal.Read.val_main_v14_eq _ _).trans (Cert.RefShiftIdeal.Tie.ref_eq _ _)

/-- The plain norm of the second RWKV layer runs, leaves its arguments as they were, and has no semaphore to leave. -/
theorem frame_ref_shift1 : Cert.quiescent_RefShift1Ideal := fun m ρ _ =>
  (θ_run Cert.RefShift1Ideal.defs _ _).mono (fun r h => ⟨fun c => (h c).2,
      Idealize.ShloMosaic.sem_eq_zero_of_no_sems (by decide) r.2⟩)
    (Cert.RefShift1Ideal.Value.run (F := Ideal) m ρ)

/-- The kernel's array is that of the plain norm of the second RWKV layer, element by element. -/
theorem algebraic_shift1 : Cert.algebraic_Shift1Ideal_RefShift1Ideal := by
  intro m g m' g' _ hagree
  refine ⟨fun c => Cert.Shift1Ideal.Acc.fin (Cert.Shift1Ideal.Acc.aX m c) (Cert.Shift1Ideal.Acc.aG m c), ?_, ?_⟩
  · exact (θ_run Cert.Shift1Ideal.defs _ _).mono (fun r h c => ⟨(h c).1.trans (Cert.Shift1Ideal.Acc.final m c), (h c).2.2⟩)
      (Cert.Shift1Ideal.Value.run_blocks (F := Ideal) m g)
  · refine (θ_run Cert.RefShift1Ideal.defs _ _).mono (fun r h c => ⟨(h c).1.trans ?_, (h c).2⟩) (Cert.RefShift1Ideal.Value.run (F := Ideal) m' g')
    obtain ⟨e0, e1, e2⟩ := hagree c
    rw [e0, e1]
    exact (Cert.RefShift1Ideal.Read.val_main_v14_eq _ _).trans (Cert.RefShift1Ideal.Tie.ref_eq _ _)

theorem claim : Cert.Claim := ⟨Cert.Ffn.Gen.facts,
  Cert.FfnIdeal.Gen.facts,
  Cert.RefFfnIdeal.Gen.facts,
  Cert.Ffn1.Gen.facts,
  Cert.Ffn1Ideal.Gen.facts,
  Cert.RefFfn1Ideal.Gen.facts,
  Cert.Ffn2.Gen.facts,
  Cert.Ffn2Ideal.Gen.facts,
  Cert.RefFfn2Ideal.Gen.facts,
  Cert.Ffn3.Gen.facts,
  Cert.Ffn3Ideal.Gen.facts,
  Cert.RefFfn3Ideal.Gen.facts,
  Cert.Qkv.Gen.facts,
  Cert.QkvIdeal.Gen.facts,
  Cert.RefQkvIdeal.Gen.facts,
  Cert.Cin.Gen.facts,
  Cert.CinIdeal.Gen.facts,
  Cert.RefCinIdeal.Gen.facts,
  Cert.Rkv.Gen.facts,
  Cert.RkvIdeal.Gen.facts,
  Cert.RefRkvIdeal.Gen.facts,
  Cert.Rkv1.Gen.facts,
  Cert.Rkv1Ideal.Gen.facts,
  Cert.RefRkv1Ideal.Gen.facts,
  Cert.NormP.Gen.facts,
  Cert.NormPIdeal.Gen.facts,
  Cert.RefNormPIdeal.Gen.facts,
  Cert.NormS.Gen.facts,
  Cert.NormSIdeal.Gen.facts,
  Cert.RefNormSIdeal.Gen.facts,
  Cert.Mls.Gen.facts,
  Cert.MlsIdeal.Gen.facts,
  Cert.RefMlsIdeal.Gen.facts,
  Cert.Shift.Gen.facts,
  Cert.ShiftIdeal.Gen.facts,
  Cert.RefShiftIdeal.Gen.facts,
  Cert.Shift1.Gen.facts,
  Cert.Shift1Ideal.Gen.facts,
  Cert.RefShift1Ideal.Gen.facts,
  fun m ρ _ => Cert.Ffn.Gen.frame m ρ,
  fun m ρ _ => Cert.FfnIdeal.Gen.frame m ρ,
  frame_ref_ffn,
  fun m ρ _ => Cert.Ffn1.Gen.frame m ρ,
  fun m ρ _ => Cert.Ffn1Ideal.Gen.frame m ρ,
  frame_ref_ffn1,
  fun m ρ _ => Cert.Ffn2.Gen.frame m ρ,
  fun m ρ _ => Cert.Ffn2Ideal.Gen.frame m ρ,
  frame_ref_ffn2,
  fun m ρ _ => Cert.Ffn3.Gen.frame m ρ,
  fun m ρ _ => Cert.Ffn3Ideal.Gen.frame m ρ,
  frame_ref_ffn3,
  fun m ρ _ => Cert.Qkv.Gen.frame m ρ,
  fun m ρ _ => Cert.QkvIdeal.Gen.frame m ρ,
  frame_ref_qkv,
  fun m ρ _ => Cert.Cin.Gen.frame m ρ,
  fun m ρ _ => Cert.CinIdeal.Gen.frame m ρ,
  frame_ref_cin,
  fun m ρ _ => Cert.Rkv.Gen.frame m ρ,
  fun m ρ _ => Cert.RkvIdeal.Gen.frame m ρ,
  frame_ref_rkv,
  fun m ρ _ => Cert.Rkv1.Gen.frame m ρ,
  fun m ρ _ => Cert.Rkv1Ideal.Gen.frame m ρ,
  frame_ref_rkv1,
  fun m ρ _ => Cert.NormP.Gen.frame m ρ,
  fun m ρ _ => Cert.NormPIdeal.Gen.frame m ρ,
  frame_ref_normp,
  fun m ρ _ => Cert.NormS.Gen.frame m ρ,
  fun m ρ _ => Cert.NormSIdeal.Gen.frame m ρ,
  frame_ref_norms,
  fun m ρ _ => Cert.Mls.Gen.frame m ρ,
  fun m ρ _ => Cert.MlsIdeal.Gen.frame m ρ,
  frame_ref_mls,
  fun m ρ _ => Cert.Shift.Gen.frame m ρ,
  fun m ρ _ => Cert.ShiftIdeal.Gen.frame m ρ,
  frame_ref_shift,
  fun m ρ _ => Cert.Shift1.Gen.frame m ρ,
  fun m ρ _ => Cert.Shift1Ideal.Gen.frame m ρ,
  frame_ref_shift1,
  trivial,
  algebraic_ffn,
  trivial,
  algebraic_ffn1,
  trivial,
  algebraic_ffn2,
  trivial,
  algebraic_ffn3,
  trivial,
  algebraic_qkv,
  trivial,
  algebraic_cin,
  trivial,
  algebraic_rkv,
  trivial,
  algebraic_rkv1,
  trivial,
  algebraic_normp,
  trivial,
  algebraic_norms,
  IdealRules.named_const.statement Cert.MlsIdeal.κ "neg_inf" .f32 0xF149F2CA#32 ⊥ rfl,
  algebraic_mls,
  trivial,
  algebraic_shift,
  trivial,
  algebraic_shift1⟩

end Cert.Proof

end
